-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_XOut (m : (ℓ : Loc Cert.XOut.nD Cert.XOut.τ Cert.XOut.sig) → Buf (Elt Bits) ℓ) : Prop :=
  True

def Pre_XOutIdeal (m : (ℓ : Loc Cert.XOutIdeal.nD Cert.XOutIdeal.τ Cert.XOutIdeal.sig) → Buf (Elt Ideal) ℓ) : Prop :=
  True

def Pre_XOutRefIdeal (m : (ℓ : Loc Cert.XOutRefIdeal.nD Cert.XOutRefIdeal.τ Cert.XOutRefIdeal.sig) → Buf (Elt Ideal) ℓ) : Prop :=
  True

def Pre_XQuery (m : (ℓ : Loc Cert.XQuery.nD Cert.XQuery.τ Cert.XQuery.sig) → Buf (Elt Bits) ℓ) : Prop :=
  True

def Pre_XQueryIdeal (m : (ℓ : Loc Cert.XQueryIdeal.nD Cert.XQueryIdeal.τ Cert.XQueryIdeal.sig) → Buf (Elt Ideal) ℓ) : Prop :=
  True

def Pre_XQueryRefIdeal (m : (ℓ : Loc Cert.XQueryRefIdeal.nD Cert.XQueryRefIdeal.τ Cert.XQueryRefIdeal.sig) → Buf (Elt Ideal) ℓ) : Prop :=
  True

def Pre_PQuery (m : (ℓ : Loc Cert.PQuery.nD Cert.PQuery.τ Cert.PQuery.sig) → Buf (Elt Bits) ℓ) : Prop :=
  True

def Pre_PQueryIdeal (m : (ℓ : Loc Cert.PQueryIdeal.nD Cert.PQueryIdeal.τ Cert.PQueryIdeal.sig) → Buf (Elt Ideal) ℓ) : Prop :=
  True

def Pre_PQueryRefIdeal (m : (ℓ : Loc Cert.PQueryRefIdeal.nD Cert.PQueryRefIdeal.τ Cert.PQueryRefIdeal.sig) → Buf (Elt Ideal) ℓ) : Prop :=
  True

def Pre_MemKV (m : (ℓ : Loc Cert.MemKV.nD Cert.MemKV.τ Cert.MemKV.sig) → Buf (Elt Bits) ℓ) : Prop :=
  True

def Pre_MemKVIdeal (m : (ℓ : Loc Cert.MemKVIdeal.nD Cert.MemKVIdeal.τ Cert.MemKVIdeal.sig) → Buf (Elt Ideal) ℓ) : Prop :=
  True

def Pre_MemKVRefIdeal (m : (ℓ : Loc Cert.MemKVRefIdeal.nD Cert.MemKVRefIdeal.τ Cert.MemKVRefIdeal.sig) → Buf (Elt Ideal) ℓ) : Prop :=
  True

def Pre_AttnSample (m : (ℓ : Loc Cert.AttnSample.nD Cert.AttnSample.τ Cert.AttnSample.sig) → Buf (Elt Bits) ℓ) : Prop :=
  True

def Pre_AttnSampleIdeal (m : (ℓ : Loc Cert.AttnSampleIdeal.nD Cert.AttnSampleIdeal.τ Cert.AttnSampleIdeal.sig) → Buf (Elt Ideal) ℓ) : Prop :=
  True

def Pre_AttnSampleRefIdeal (m : (ℓ : Loc Cert.AttnSampleRefIdeal.nD Cert.AttnSampleRefIdeal.τ Cert.AttnSampleRefIdeal.sig) → Buf (Elt Ideal) ℓ) : Prop :=
  True

def Pre_FinalPrompt (m : (ℓ : Loc Cert.FinalPrompt.nD Cert.FinalPrompt.τ Cert.FinalPrompt.sig) → Buf (Elt Bits) ℓ) : Prop :=
  True

def Pre_FinalPromptIdeal (m : (ℓ : Loc Cert.FinalPromptIdeal.nD Cert.FinalPromptIdeal.τ Cert.FinalPromptIdeal.sig) → Buf (Elt Ideal) ℓ) : Prop :=
  True

def Pre_FinalPromptRefIdeal (m : (ℓ : Loc Cert.FinalPromptRefIdeal.nD Cert.FinalPromptRefIdeal.τ Cert.FinalPromptRefIdeal.sig) → Buf (Elt Ideal) ℓ) : Prop :=
  True

def Pre_FinalSample (m : (ℓ : Loc Cert.FinalSample.nD Cert.FinalSample.τ Cert.FinalSample.sig) → Buf (Elt Bits) ℓ) : Prop :=
  True

def Pre_FinalSampleIdeal (m : (ℓ : Loc Cert.FinalSampleIdeal.nD Cert.FinalSampleIdeal.τ Cert.FinalSampleIdeal.sig) → Buf (Elt Ideal) ℓ) : Prop :=
  True

def Pre_FinalSampleRefIdeal (m : (ℓ : Loc Cert.FinalSampleRefIdeal.nD Cert.FinalSampleRefIdeal.τ Cert.FinalSampleRefIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_SMix (m : (ℓ : Loc Cert.SMix.nD Cert.SMix.τ Cert.SMix.sig) → Buf (Elt Bits) ℓ) : Prop :=
  True

def Pre_SMixIdeal (m : (ℓ : Loc Cert.SMixIdeal.nD Cert.SMixIdeal.τ Cert.SMixIdeal.sig) → Buf (Elt Ideal) ℓ) : Prop :=
  True

def Pre_SMixRefIdeal (m : (ℓ : Loc Cert.SMixRefIdeal.nD Cert.SMixRefIdeal.τ Cert.SMixRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_XOut [hXOut : Cert.XOut.Facts] : Prop :=
  ∀ (m : (ℓ : Loc Cert.XOut.nD Cert.XOut.τ Cert.XOut.sig) → Buf (Elt Bits) ℓ) (g : Dev Cert.XOut.nD → PrngReg), Pre_XOut m →
    θ_run (Cert.XOut.defs (F := Bits)) (onTc (τ := Cert.XOut.τ) (Cert.XOut.main (F := Bits))) ⟨m, fun _ => 0, g⟩ (fun r => (∀ c : Dev Cert.XOut.nD,
      r.2.mem ((c.tc : Thread Cert.XOut.nD Cert.XOut.τ).loc Cert.XOut.main_arg0) = m ((c.tc : Thread Cert.XOut.nD Cert.XOut.τ).loc Cert.XOut.main_arg0)
      ∧ r.2.mem ((c.tc : Thread Cert.XOut.nD Cert.XOut.τ).loc Cert.XOut.main_arg1) = m ((c.tc : Thread Cert.XOut.nD Cert.XOut.τ).loc Cert.XOut.main_arg1)
      ∧ r.2.mem ((c.tc : Thread Cert.XOut.nD Cert.XOut.τ).loc Cert.XOut.main_arg2) = m ((c.tc : Thread Cert.XOut.nD Cert.XOut.τ).loc Cert.XOut.main_arg2))
      ∧ r.2.sem = fun _ => 0)

def quiescent_XOutIdeal [hXOutIdeal : Cert.XOutIdeal.Facts] : Prop :=
  ∀ (m : (ℓ : Loc Cert.XOutIdeal.nD Cert.XOutIdeal.τ Cert.XOutIdeal.sig) → Buf (Elt Ideal) ℓ) (g : Dev Cert.XOutIdeal.nD → PrngReg), Pre_XOutIdeal m →
    θ_run (Cert.XOutIdeal.defs (F := Ideal)) (onTc (τ := Cert.XOutIdeal.τ) (Cert.XOutIdeal.main (F := Ideal))) ⟨m, fun _ => 0, g⟩ (fun r => (∀ c : Dev Cert.XOutIdeal.nD,
      r.2.mem ((c.tc : Thread Cert.XOutIdeal.nD Cert.XOutIdeal.τ).loc Cert.XOutIdeal.main_arg0) = m ((c.tc : Thread Cert.XOutIdeal.nD Cert.XOutIdeal.τ).loc Cert.XOutIdeal.main_arg0)
      ∧ r.2.mem ((c.tc : Thread Cert.XOutIdeal.nD Cert.XOutIdeal.τ).loc Cert.XOutIdeal.main_arg1) = m ((c.tc : Thread Cert.XOutIdeal.nD Cert.XOutIdeal.τ).loc Cert.XOutIdeal.main_arg1)
      ∧ r.2.mem ((c.tc : Thread Cert.XOutIdeal.nD Cert.XOutIdeal.τ).loc Cert.XOutIdeal.main_arg2) = m ((c.tc : Thread Cert.XOutIdeal.nD Cert.XOutIdeal.τ).loc Cert.XOutIdeal.main_arg2))
      ∧ r.2.sem = fun _ => 0)

def quiescent_XOutRefIdeal [hXOutRefIdeal : Cert.XOutRefIdeal.Facts] : Prop :=
  ∀ (m : (ℓ : Loc Cert.XOutRefIdeal.nD Cert.XOutRefIdeal.τ Cert.XOutRefIdeal.sig) → Buf (Elt Ideal) ℓ) (g : Dev Cert.XOutRefIdeal.nD → PrngReg), Pre_XOutRefIdeal m →
    θ_run (Cert.XOutRefIdeal.defs (F := Ideal)) (onTc (τ := Cert.XOutRefIdeal.τ) (Cert.XOutRefIdeal.main (F := Ideal))) ⟨m, fun _ => 0, g⟩ (fun r => (∀ c : Dev Cert.XOutRefIdeal.nD,
      r.2.mem ((c.tc : Thread Cert.XOutRefIdeal.nD Cert.XOutRefIdeal.τ).loc Cert.XOutRefIdeal.main_arg0) = m ((c.tc : Thread Cert.XOutRefIdeal.nD Cert.XOutRefIdeal.τ).loc Cert.XOutRefIdeal.main_arg0)
      ∧ r.2.mem ((c.tc : Thread Cert.XOutRefIdeal.nD Cert.XOutRefIdeal.τ).loc Cert.XOutRefIdeal.main_arg1) = m ((c.tc : Thread Cert.XOutRefIdeal.nD Cert.XOutRefIdeal.τ).loc Cert.XOutRefIdeal.main_arg1)
      ∧ r.2.mem ((c.tc : Thread Cert.XOutRefIdeal.nD Cert.XOutRefIdeal.τ).loc Cert.XOutRefIdeal.main_arg2) = m ((c.tc : Thread Cert.XOutRefIdeal.nD Cert.XOutRefIdeal.τ).loc Cert.XOutRefIdeal.main_arg2))
      ∧ r.2.sem = fun _ => 0)

def quiescent_XQuery [hXQuery : Cert.XQuery.Facts] : Prop :=
  ∀ (m : (ℓ : Loc Cert.XQuery.nD Cert.XQuery.τ Cert.XQuery.sig) → Buf (Elt Bits) ℓ) (g : Dev Cert.XQuery.nD → PrngReg), Pre_XQuery m →
    θ_run (Cert.XQuery.defs (F := Bits)) (onTc (τ := Cert.XQuery.τ) (Cert.XQuery.main (F := Bits))) ⟨m, fun _ => 0, g⟩ (fun r => (∀ c : Dev Cert.XQuery.nD,
      r.2.mem ((c.tc : Thread Cert.XQuery.nD Cert.XQuery.τ).loc Cert.XQuery.main_arg0) = m ((c.tc : Thread Cert.XQuery.nD Cert.XQuery.τ).loc Cert.XQuery.main_arg0)
      ∧ r.2.mem ((c.tc : Thread Cert.XQuery.nD Cert.XQuery.τ).loc Cert.XQuery.main_arg1) = m ((c.tc : Thread Cert.XQuery.nD Cert.XQuery.τ).loc Cert.XQuery.main_arg1)
      ∧ r.2.mem ((c.tc : Thread Cert.XQuery.nD Cert.XQuery.τ).loc Cert.XQuery.main_arg2) = m ((c.tc : Thread Cert.XQuery.nD Cert.XQuery.τ).loc Cert.XQuery.main_arg2))
      ∧ r.2.sem = fun _ => 0)

def quiescent_XQueryIdeal [hXQueryIdeal : Cert.XQueryIdeal.Facts] : Prop :=
  ∀ (m : (ℓ : Loc Cert.XQueryIdeal.nD Cert.XQueryIdeal.τ Cert.XQueryIdeal.sig) → Buf (Elt Ideal) ℓ) (g : Dev Cert.XQueryIdeal.nD → PrngReg), Pre_XQueryIdeal m →
    θ_run (Cert.XQueryIdeal.defs (F := Ideal)) (onTc (τ := Cert.XQueryIdeal.τ) (Cert.XQueryIdeal.main (F := Ideal))) ⟨m, fun _ => 0, g⟩ (fun r => (∀ c : Dev Cert.XQueryIdeal.nD,
      r.2.mem ((c.tc : Thread Cert.XQueryIdeal.nD Cert.XQueryIdeal.τ).loc Cert.XQueryIdeal.main_arg0) = m ((c.tc : Thread Cert.XQueryIdeal.nD Cert.XQueryIdeal.τ).loc Cert.XQueryIdeal.main_arg0)
      ∧ r.2.mem ((c.tc : Thread Cert.XQueryIdeal.nD Cert.XQueryIdeal.τ).loc Cert.XQueryIdeal.main_arg1) = m ((c.tc : Thread Cert.XQueryIdeal.nD Cert.XQueryIdeal.τ).loc Cert.XQueryIdeal.main_arg1)
      ∧ r.2.mem ((c.tc : Thread Cert.XQueryIdeal.nD Cert.XQueryIdeal.τ).loc Cert.XQueryIdeal.main_arg2) = m ((c.tc : Thread Cert.XQueryIdeal.nD Cert.XQueryIdeal.τ).loc Cert.XQueryIdeal.main_arg2))
      ∧ r.2.sem = fun _ => 0)

def quiescent_XQueryRefIdeal [hXQueryRefIdeal : Cert.XQueryRefIdeal.Facts] : Prop :=
  ∀ (m : (ℓ : Loc Cert.XQueryRefIdeal.nD Cert.XQueryRefIdeal.τ Cert.XQueryRefIdeal.sig) → Buf (Elt Ideal) ℓ) (g : Dev Cert.XQueryRefIdeal.nD → PrngReg), Pre_XQueryRefIdeal m →
    θ_run (Cert.XQueryRefIdeal.defs (F := Ideal)) (onTc (τ := Cert.XQueryRefIdeal.τ) (Cert.XQueryRefIdeal.main (F := Ideal))) ⟨m, fun _ => 0, g⟩ (fun r => (∀ c : Dev Cert.XQueryRefIdeal.nD,
      r.2.mem ((c.tc : Thread Cert.XQueryRefIdeal.nD Cert.XQueryRefIdeal.τ).loc Cert.XQueryRefIdeal.main_arg0) = m ((c.tc : Thread Cert.XQueryRefIdeal.nD Cert.XQueryRefIdeal.τ).loc Cert.XQueryRefIdeal.main_arg0)
      ∧ r.2.mem ((c.tc : Thread Cert.XQueryRefIdeal.nD Cert.XQueryRefIdeal.τ).loc Cert.XQueryRefIdeal.main_arg1) = m ((c.tc : Thread Cert.XQueryRefIdeal.nD Cert.XQueryRefIdeal.τ).loc Cert.XQueryRefIdeal.main_arg1)
      ∧ r.2.mem ((c.tc : Thread Cert.XQueryRefIdeal.nD Cert.XQueryRefIdeal.τ).loc Cert.XQueryRefIdeal.main_arg2) = m ((c.tc : Thread Cert.XQueryRefIdeal.nD Cert.XQueryRefIdeal.τ).loc Cert.XQueryRefIdeal.main_arg2))
      ∧ r.2.sem = fun _ => 0)

def quiescent_PQuery [hPQuery : Cert.PQuery.Facts] : Prop :=
  ∀ (m : (ℓ : Loc Cert.PQuery.nD Cert.PQuery.τ Cert.PQuery.sig) → Buf (Elt Bits) ℓ) (g : Dev Cert.PQuery.nD → PrngReg), Pre_PQuery m →
    θ_run (Cert.PQuery.defs (F := Bits)) (onTc (τ := Cert.PQuery.τ) (Cert.PQuery.main (F := Bits))) ⟨m, fun _ => 0, g⟩ (fun r => (∀ c : Dev Cert.PQuery.nD,
      r.2.mem ((c.tc : Thread Cert.PQuery.nD Cert.PQuery.τ).loc Cert.PQuery.main_arg0) = m ((c.tc : Thread Cert.PQuery.nD Cert.PQuery.τ).loc Cert.PQuery.main_arg0)
      ∧ r.2.mem ((c.tc : Thread Cert.PQuery.nD Cert.PQuery.τ).loc Cert.PQuery.main_arg1) = m ((c.tc : Thread Cert.PQuery.nD Cert.PQuery.τ).loc Cert.PQuery.main_arg1)
      ∧ r.2.mem ((c.tc : Thread Cert.PQuery.nD Cert.PQuery.τ).loc Cert.PQuery.main_arg2) = m ((c.tc : Thread Cert.PQuery.nD Cert.PQuery.τ).loc Cert.PQuery.main_arg2))
      ∧ r.2.sem = fun _ => 0)

def quiescent_PQueryIdeal [hPQueryIdeal : Cert.PQueryIdeal.Facts] : Prop :=
  ∀ (m : (ℓ : Loc Cert.PQueryIdeal.nD Cert.PQueryIdeal.τ Cert.PQueryIdeal.sig) → Buf (Elt Ideal) ℓ) (g : Dev Cert.PQueryIdeal.nD → PrngReg), Pre_PQueryIdeal m →
    θ_run (Cert.PQueryIdeal.defs (F := Ideal)) (onTc (τ := Cert.PQueryIdeal.τ) (Cert.PQueryIdeal.main (F := Ideal))) ⟨m, fun _ => 0, g⟩ (fun r => (∀ c : Dev Cert.PQueryIdeal.nD,
      r.2.mem ((c.tc : Thread Cert.PQueryIdeal.nD Cert.PQueryIdeal.τ).loc Cert.PQueryIdeal.main_arg0) = m ((c.tc : Thread Cert.PQueryIdeal.nD Cert.PQueryIdeal.τ).loc Cert.PQueryIdeal.main_arg0)
      ∧ r.2.mem ((c.tc : Thread Cert.PQueryIdeal.nD Cert.PQueryIdeal.τ).loc Cert.PQueryIdeal.main_arg1) = m ((c.tc : Thread Cert.PQueryIdeal.nD Cert.PQueryIdeal.τ).loc Cert.PQueryIdeal.main_arg1)
      ∧ r.2.mem ((c.tc : Thread Cert.PQueryIdeal.nD Cert.PQueryIdeal.τ).loc Cert.PQueryIdeal.main_arg2) = m ((c.tc : Thread Cert.PQueryIdeal.nD Cert.PQueryIdeal.τ).loc Cert.PQueryIdeal.main_arg2))
      ∧ r.2.sem = fun _ => 0)

def quiescent_PQueryRefIdeal [hPQueryRefIdeal : Cert.PQueryRefIdeal.Facts] : Prop :=
  ∀ (m : (ℓ : Loc Cert.PQueryRefIdeal.nD Cert.PQueryRefIdeal.τ Cert.PQueryRefIdeal.sig) → Buf (Elt Ideal) ℓ) (g : Dev Cert.PQueryRefIdeal.nD → PrngReg), Pre_PQueryRefIdeal m →
    θ_run (Cert.PQueryRefIdeal.defs (F := Ideal)) (onTc (τ := Cert.PQueryRefIdeal.τ) (Cert.PQueryRefIdeal.main (F := Ideal))) ⟨m, fun _ => 0, g⟩ (fun r => (∀ c : Dev Cert.PQueryRefIdeal.nD,
      r.2.mem ((c.tc : Thread Cert.PQueryRefIdeal.nD Cert.PQueryRefIdeal.τ).loc Cert.PQueryRefIdeal.main_arg0) = m ((c.tc : Thread Cert.PQueryRefIdeal.nD Cert.PQueryRefIdeal.τ).loc Cert.PQueryRefIdeal.main_arg0)
      ∧ r.2.mem ((c.tc : Thread Cert.PQueryRefIdeal.nD Cert.PQueryRefIdeal.τ).loc Cert.PQueryRefIdeal.main_arg1) = m ((c.tc : Thread Cert.PQueryRefIdeal.nD Cert.PQueryRefIdeal.τ).loc Cert.PQueryRefIdeal.main_arg1)
      ∧ r.2.mem ((c.tc : Thread Cert.PQueryRefIdeal.nD Cert.PQueryRefIdeal.τ).loc Cert.PQueryRefIdeal.main_arg2) = m ((c.tc : Thread Cert.PQueryRefIdeal.nD Cert.PQueryRefIdeal.τ).loc Cert.PQueryRefIdeal.main_arg2))
      ∧ r.2.sem = fun _ => 0)

def quiescent_MemKV [hMemKV : Cert.MemKV.Facts] : Prop :=
  ∀ (m : (ℓ : Loc Cert.MemKV.nD Cert.MemKV.τ Cert.MemKV.sig) → Buf (Elt Bits) ℓ) (g : Dev Cert.MemKV.nD → PrngReg), Pre_MemKV m →
    θ_run (Cert.MemKV.defs (F := Bits)) (onTc (τ := Cert.MemKV.τ) (Cert.MemKV.main (F := Bits))) ⟨m, fun _ => 0, g⟩ (fun r => (∀ c : Dev Cert.MemKV.nD,
      r.2.mem ((c.tc : Thread Cert.MemKV.nD Cert.MemKV.τ).loc Cert.MemKV.main_arg0) = m ((c.tc : Thread Cert.MemKV.nD Cert.MemKV.τ).loc Cert.MemKV.main_arg0)
      ∧ r.2.mem ((c.tc : Thread Cert.MemKV.nD Cert.MemKV.τ).loc Cert.MemKV.main_arg1) = m ((c.tc : Thread Cert.MemKV.nD Cert.MemKV.τ).loc Cert.MemKV.main_arg1)
      ∧ r.2.mem ((c.tc : Thread Cert.MemKV.nD Cert.MemKV.τ).loc Cert.MemKV.main_arg2) = m ((c.tc : Thread Cert.MemKV.nD Cert.MemKV.τ).loc Cert.MemKV.main_arg2))
      ∧ r.2.sem = fun _ => 0)

def quiescent_MemKVIdeal [hMemKVIdeal : Cert.MemKVIdeal.Facts] : Prop :=
  ∀ (m : (ℓ : Loc Cert.MemKVIdeal.nD Cert.MemKVIdeal.τ Cert.MemKVIdeal.sig) → Buf (Elt Ideal) ℓ) (g : Dev Cert.MemKVIdeal.nD → PrngReg), Pre_MemKVIdeal m →
    θ_run (Cert.MemKVIdeal.defs (F := Ideal)) (onTc (τ := Cert.MemKVIdeal.τ) (Cert.MemKVIdeal.main (F := Ideal))) ⟨m, fun _ => 0, g⟩ (fun r => (∀ c : Dev Cert.MemKVIdeal.nD,
      r.2.mem ((c.tc : Thread Cert.MemKVIdeal.nD Cert.MemKVIdeal.τ).loc Cert.MemKVIdeal.main_arg0) = m ((c.tc : Thread Cert.MemKVIdeal.nD Cert.MemKVIdeal.τ).loc Cert.MemKVIdeal.main_arg0)
      ∧ r.2.mem ((c.tc : Thread Cert.MemKVIdeal.nD Cert.MemKVIdeal.τ).loc Cert.MemKVIdeal.main_arg1) = m ((c.tc : Thread Cert.MemKVIdeal.nD Cert.MemKVIdeal.τ).loc Cert.MemKVIdeal.main_arg1)
      ∧ r.2.mem ((c.tc : Thread Cert.MemKVIdeal.nD Cert.MemKVIdeal.τ).loc Cert.MemKVIdeal.main_arg2) = m ((c.tc : Thread Cert.MemKVIdeal.nD Cert.MemKVIdeal.τ).loc Cert.MemKVIdeal.main_arg2))
      ∧ r.2.sem = fun _ => 0)

def quiescent_MemKVRefIdeal [hMemKVRefIdeal : Cert.MemKVRefIdeal.Facts] : Prop :=
  ∀ (m : (ℓ : Loc Cert.MemKVRefIdeal.nD Cert.MemKVRefIdeal.τ Cert.MemKVRefIdeal.sig) → Buf (Elt Ideal) ℓ) (g : Dev Cert.MemKVRefIdeal.nD → PrngReg), Pre_MemKVRefIdeal m →
    θ_run (Cert.MemKVRefIdeal.defs (F := Ideal)) (onTc (τ := Cert.MemKVRefIdeal.τ) (Cert.MemKVRefIdeal.main (F := Ideal))) ⟨m, fun _ => 0, g⟩ (fun r => (∀ c : Dev Cert.MemKVRefIdeal.nD,
      r.2.mem ((c.tc : Thread Cert.MemKVRefIdeal.nD Cert.MemKVRefIdeal.τ).loc Cert.MemKVRefIdeal.main_arg0) = m ((c.tc : Thread Cert.MemKVRefIdeal.nD Cert.MemKVRefIdeal.τ).loc Cert.MemKVRefIdeal.main_arg0)
      ∧ r.2.mem ((c.tc : Thread Cert.MemKVRefIdeal.nD Cert.MemKVRefIdeal.τ).loc Cert.MemKVRefIdeal.main_arg1) = m ((c.tc : Thread Cert.MemKVRefIdeal.nD Cert.MemKVRefIdeal.τ).loc Cert.MemKVRefIdeal.main_arg1)
      ∧ r.2.mem ((c.tc : Thread Cert.MemKVRefIdeal.nD Cert.MemKVRefIdeal.τ).loc Cert.MemKVRefIdeal.main_arg2) = m ((c.tc : Thread Cert.MemKVRefIdeal.nD Cert.MemKVRefIdeal.τ).loc Cert.MemKVRefIdeal.main_arg2))
      ∧ r.2.sem = fun _ => 0)

def quiescent_AttnSample [hAttnSample : Cert.AttnSample.Facts] : Prop :=
  ∀ (m : (ℓ : Loc Cert.AttnSample.nD Cert.AttnSample.τ Cert.AttnSample.sig) → Buf (Elt Bits) ℓ) (g : Dev Cert.AttnSample.nD → PrngReg), Pre_AttnSample m →
    θ_run (Cert.AttnSample.defs (F := Bits)) (onTc (τ := Cert.AttnSample.τ) (Cert.AttnSample.main (F := Bits))) ⟨m, fun _ => 0, g⟩ (fun r => (∀ c : Dev Cert.AttnSample.nD,
      r.2.mem ((c.tc : Thread Cert.AttnSample.nD Cert.AttnSample.τ).loc Cert.AttnSample.main_arg0) = m ((c.tc : Thread Cert.AttnSample.nD Cert.AttnSample.τ).loc Cert.AttnSample.main_arg0)
      ∧ r.2.mem ((c.tc : Thread Cert.AttnSample.nD Cert.AttnSample.τ).loc Cert.AttnSample.main_arg1) = m ((c.tc : Thread Cert.AttnSample.nD Cert.AttnSample.τ).loc Cert.AttnSample.main_arg1)
      ∧ r.2.mem ((c.tc : Thread Cert.AttnSample.nD Cert.AttnSample.τ).loc Cert.AttnSample.main_arg2) = m ((c.tc : Thread Cert.AttnSample.nD Cert.AttnSample.τ).loc Cert.AttnSample.main_arg2))
      ∧ r.2.sem = fun _ => 0)

def quiescent_AttnSampleIdeal [hAttnSampleIdeal : Cert.AttnSampleIdeal.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg), Pre_AttnSampleIdeal m →
    θ_run (Cert.AttnSampleIdeal.defs (F := Ideal)) (onTc (τ := Cert.AttnSampleIdeal.τ) (Cert.AttnSampleIdeal.main (F := Ideal))) ⟨m, fun _ => 0, g⟩ (fun r => (∀ c : Dev Cert.AttnSampleIdeal.nD,
      r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
      ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
      ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2))
      ∧ r.2.sem = fun _ => 0)

def quiescent_AttnSampleRefIdeal [hAttnSampleRefIdeal : Cert.AttnSampleRefIdeal.Facts] : Prop :=
  ∀ (m : (ℓ : Loc Cert.AttnSampleRefIdeal.nD Cert.AttnSampleRefIdeal.τ Cert.AttnSampleRefIdeal.sig) → Buf (Elt Ideal) ℓ) (g : Dev Cert.AttnSampleRefIdeal.nD → PrngReg), Pre_AttnSampleRefIdeal m →
    θ_run (Cert.AttnSampleRefIdeal.defs (F := Ideal)) (onTc (τ := Cert.AttnSampleRefIdeal.τ) (Cert.AttnSampleRefIdeal.main (F := Ideal))) ⟨m, fun _ => 0, g⟩ (fun r => (∀ c : Dev Cert.AttnSampleRefIdeal.nD,
      r.2.mem ((c.tc : Thread Cert.AttnSampleRefIdeal.nD Cert.AttnSampleRefIdeal.τ).loc Cert.AttnSampleRefIdeal.main_arg0) = m ((c.tc : Thread Cert.AttnSampleRefIdeal.nD Cert.AttnSampleRefIdeal.τ).loc Cert.AttnSampleRefIdeal.main_arg0)
      ∧ r.2.mem ((c.tc : Thread Cert.AttnSampleRefIdeal.nD Cert.AttnSampleRefIdeal.τ).loc Cert.AttnSampleRefIdeal.main_arg1) = m ((c.tc : Thread Cert.AttnSampleRefIdeal.nD Cert.AttnSampleRefIdeal.τ).loc Cert.AttnSampleRefIdeal.main_arg1)
      ∧ r.2.mem ((c.tc : Thread Cert.AttnSampleRefIdeal.nD Cert.AttnSampleRefIdeal.τ).loc Cert.AttnSampleRefIdeal.main_arg2) = m ((c.tc : Thread Cert.AttnSampleRefIdeal.nD Cert.AttnSampleRefIdeal.τ).loc Cert.AttnSampleRefIdeal.main_arg2))
      ∧ r.2.sem = fun _ => 0)

def quiescent_FinalPrompt [hFinalPrompt : Cert.FinalPrompt.Facts] : Prop :=
  ∀ (m : (ℓ : Loc Cert.FinalPrompt.nD Cert.FinalPrompt.τ Cert.FinalPrompt.sig) → Buf (Elt Bits) ℓ) (g : Dev Cert.FinalPrompt.nD → PrngReg), Pre_FinalPrompt m →
    θ_run (Cert.FinalPrompt.defs (F := Bits)) (onTc (τ := Cert.FinalPrompt.τ) (Cert.FinalPrompt.main (F := Bits))) ⟨m, fun _ => 0, g⟩ (fun r => (∀ c : Dev Cert.FinalPrompt.nD,
      r.2.mem ((c.tc : Thread Cert.FinalPrompt.nD Cert.FinalPrompt.τ).loc Cert.FinalPrompt.main_arg0) = m ((c.tc : Thread Cert.FinalPrompt.nD Cert.FinalPrompt.τ).loc Cert.FinalPrompt.main_arg0)
      ∧ r.2.mem ((c.tc : Thread Cert.FinalPrompt.nD Cert.FinalPrompt.τ).loc Cert.FinalPrompt.main_arg1) = m ((c.tc : Thread Cert.FinalPrompt.nD Cert.FinalPrompt.τ).loc Cert.FinalPrompt.main_arg1)
      ∧ r.2.mem ((c.tc : Thread Cert.FinalPrompt.nD Cert.FinalPrompt.τ).loc Cert.FinalPrompt.main_arg2) = m ((c.tc : Thread Cert.FinalPrompt.nD Cert.FinalPrompt.τ).loc Cert.FinalPrompt.main_arg2))
      ∧ r.2.sem = fun _ => 0)

def quiescent_FinalPromptIdeal [hFinalPromptIdeal : Cert.FinalPromptIdeal.Facts] : Prop :=
  ∀ (m : (ℓ : Loc Cert.FinalPromptIdeal.nD Cert.FinalPromptIdeal.τ Cert.FinalPromptIdeal.sig) → Buf (Elt Ideal) ℓ) (g : Dev Cert.FinalPromptIdeal.nD → PrngReg), Pre_FinalPromptIdeal m →
    θ_run (Cert.FinalPromptIdeal.defs (F := Ideal)) (onTc (τ := Cert.FinalPromptIdeal.τ) (Cert.FinalPromptIdeal.main (F := Ideal))) ⟨m, fun _ => 0, g⟩ (fun r => (∀ c : Dev Cert.FinalPromptIdeal.nD,
      r.2.mem ((c.tc : Thread Cert.FinalPromptIdeal.nD Cert.FinalPromptIdeal.τ).loc Cert.FinalPromptIdeal.main_arg0) = m ((c.tc : Thread Cert.FinalPromptIdeal.nD Cert.FinalPromptIdeal.τ).loc Cert.FinalPromptIdeal.main_arg0)
      ∧ r.2.mem ((c.tc : Thread Cert.FinalPromptIdeal.nD Cert.FinalPromptIdeal.τ).loc Cert.FinalPromptIdeal.main_arg1) = m ((c.tc : Thread Cert.FinalPromptIdeal.nD Cert.FinalPromptIdeal.τ).loc Cert.FinalPromptIdeal.main_arg1)
      ∧ r.2.mem ((c.tc : Thread Cert.FinalPromptIdeal.nD Cert.FinalPromptIdeal.τ).loc Cert.FinalPromptIdeal.main_arg2) = m ((c.tc : Thread Cert.FinalPromptIdeal.nD Cert.FinalPromptIdeal.τ).loc Cert.FinalPromptIdeal.main_arg2))
      ∧ r.2.sem = fun _ => 0)

def quiescent_FinalPromptRefIdeal [hFinalPromptRefIdeal : Cert.FinalPromptRefIdeal.Facts] : Prop :=
  ∀ (m : (ℓ : Loc Cert.FinalPromptRefIdeal.nD Cert.FinalPromptRefIdeal.τ Cert.FinalPromptRefIdeal.sig) → Buf (Elt Ideal) ℓ) (g : Dev Cert.FinalPromptRefIdeal.nD → PrngReg), Pre_FinalPromptRefIdeal m →
    θ_run (Cert.FinalPromptRefIdeal.defs (F := Ideal)) (onTc (τ := Cert.FinalPromptRefIdeal.τ) (Cert.FinalPromptRefIdeal.main (F := Ideal))) ⟨m, fun _ => 0, g⟩ (fun r => (∀ c : Dev Cert.FinalPromptRefIdeal.nD,
      r.2.mem ((c.tc : Thread Cert.FinalPromptRefIdeal.nD Cert.FinalPromptRefIdeal.τ).loc Cert.FinalPromptRefIdeal.main_arg0) = m ((c.tc : Thread Cert.FinalPromptRefIdeal.nD Cert.FinalPromptRefIdeal.τ).loc Cert.FinalPromptRefIdeal.main_arg0)
      ∧ r.2.mem ((c.tc : Thread Cert.FinalPromptRefIdeal.nD Cert.FinalPromptRefIdeal.τ).loc Cert.FinalPromptRefIdeal.main_arg1) = m ((c.tc : Thread Cert.FinalPromptRefIdeal.nD Cert.FinalPromptRefIdeal.τ).loc Cert.FinalPromptRefIdeal.main_arg1)
      ∧ r.2.mem ((c.tc : Thread Cert.FinalPromptRefIdeal.nD Cert.FinalPromptRefIdeal.τ).loc Cert.FinalPromptRefIdeal.main_arg2) = m ((c.tc : Thread Cert.FinalPromptRefIdeal.nD Cert.FinalPromptRefIdeal.τ).loc Cert.FinalPromptRefIdeal.main_arg2))
      ∧ r.2.sem = fun _ => 0)

def quiescent_FinalSample [hFinalSample : Cert.FinalSample.Facts] : Prop :=
  ∀ (m : (ℓ : Loc Cert.FinalSample.nD Cert.FinalSample.τ Cert.FinalSample.sig) → Buf (Elt Bits) ℓ) (g : Dev Cert.FinalSample.nD → PrngReg), Pre_FinalSample m →
    θ_run (Cert.FinalSample.defs (F := Bits)) (onTc (τ := Cert.FinalSample.τ) (Cert.FinalSample.main (F := Bits))) ⟨m, fun _ => 0, g⟩ (fun r => (∀ c : Dev Cert.FinalSample.nD,
      r.2.mem ((c.tc : Thread Cert.FinalSample.nD Cert.FinalSample.τ).loc Cert.FinalSample.main_arg0) = m ((c.tc : Thread Cert.FinalSample.nD Cert.FinalSample.τ).loc Cert.FinalSample.main_arg0)
      ∧ r.2.mem ((c.tc : Thread Cert.FinalSample.nD Cert.FinalSample.τ).loc Cert.FinalSample.main_arg1) = m ((c.tc : Thread Cert.FinalSample.nD Cert.FinalSample.τ).loc Cert.FinalSample.main_arg1)
      ∧ r.2.mem ((c.tc : Thread Cert.FinalSample.nD Cert.FinalSample.τ).loc Cert.FinalSample.main_arg2) = m ((c.tc : Thread Cert.FinalSample.nD Cert.FinalSample.τ).loc Cert.FinalSample.main_arg2))
      ∧ r.2.sem = fun _ => 0)

def quiescent_FinalSampleIdeal [hFinalSampleIdeal : Cert.FinalSampleIdeal.Facts] : Prop :=
  ∀ (m : (ℓ : Loc Cert.FinalSampleIdeal.nD Cert.FinalSampleIdeal.τ Cert.FinalSampleIdeal.sig) → Buf (Elt Ideal) ℓ) (g : Dev Cert.FinalSampleIdeal.nD → PrngReg), Pre_FinalSampleIdeal m →
    θ_run (Cert.FinalSampleIdeal.defs (F := Ideal)) (onTc (τ := Cert.FinalSampleIdeal.τ) (Cert.FinalSampleIdeal.main (F := Ideal))) ⟨m, fun _ => 0, g⟩ (fun r => (∀ c : Dev Cert.FinalSampleIdeal.nD,
      r.2.mem ((c.tc : Thread Cert.FinalSampleIdeal.nD Cert.FinalSampleIdeal.τ).loc Cert.FinalSampleIdeal.main_arg0) = m ((c.tc : Thread Cert.FinalSampleIdeal.nD Cert.FinalSampleIdeal.τ).loc Cert.FinalSampleIdeal.main_arg0)
      ∧ r.2.mem ((c.tc : Thread Cert.FinalSampleIdeal.nD Cert.FinalSampleIdeal.τ).loc Cert.FinalSampleIdeal.main_arg1) = m ((c.tc : Thread Cert.FinalSampleIdeal.nD Cert.FinalSampleIdeal.τ).loc Cert.FinalSampleIdeal.main_arg1)
      ∧ r.2.mem ((c.tc : Thread Cert.FinalSampleIdeal.nD Cert.FinalSampleIdeal.τ).loc Cert.FinalSampleIdeal.main_arg2) = m ((c.tc : Thread Cert.FinalSampleIdeal.nD Cert.FinalSampleIdeal.τ).loc Cert.FinalSampleIdeal.main_arg2))
      ∧ r.2.sem = fun _ => 0)

def quiescent_FinalSampleRefIdeal [hFinalSampleRefIdeal : Cert.FinalSampleRefIdeal.Facts] : Prop :=
  ∀ (m : (ℓ : Loc Cert.FinalSampleRefIdeal.nD Cert.FinalSampleRefIdeal.τ Cert.FinalSampleRefIdeal.sig) → Buf (Elt Ideal) ℓ) (g : Dev Cert.FinalSampleRefIdeal.nD → PrngReg), Pre_FinalSampleRefIdeal m →
    θ_run (Cert.FinalSampleRefIdeal.defs (F := Ideal)) (onTc (τ := Cert.FinalSampleRefIdeal.τ) (Cert.FinalSampleRefIdeal.main (F := Ideal))) ⟨m, fun _ => 0, g⟩ (fun r => (∀ c : Dev Cert.FinalSampleRefIdeal.nD,
      r.2.mem ((c.tc : Thread Cert.FinalSampleRefIdeal.nD Cert.FinalSampleRefIdeal.τ).loc Cert.FinalSampleRefIdeal.main_arg0) = m ((c.tc : Thread Cert.FinalSampleRefIdeal.nD Cert.FinalSampleRefIdeal.τ).loc Cert.FinalSampleRefIdeal.main_arg0)
      ∧ r.2.mem ((c.tc : Thread Cert.FinalSampleRefIdeal.nD Cert.FinalSampleRefIdeal.τ).loc Cert.FinalSampleRefIdeal.main_arg1) = m ((c.tc : Thread Cert.FinalSampleRefIdeal.nD Cert.FinalSampleRefIdeal.τ).loc Cert.FinalSampleRefIdeal.main_arg1)
      ∧ r.2.mem ((c.tc : Thread Cert.FinalSampleRefIdeal.nD Cert.FinalSampleRefIdeal.τ).loc Cert.FinalSampleRefIdeal.main_arg2) = m ((c.tc : Thread Cert.FinalSampleRefIdeal.nD Cert.FinalSampleRefIdeal.τ).loc Cert.FinalSampleRefIdeal.main_arg2))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3))
      ∧ r.2.sem = fun _ => 0)

def quiescent_SMix [hSMix : Cert.SMix.Facts] : Prop :=
  ∀ (m : (ℓ : Loc Cert.SMix.nD Cert.SMix.τ Cert.SMix.sig) → Buf (Elt Bits) ℓ) (g : Dev Cert.SMix.nD → PrngReg), Pre_SMix m →
    θ_run (Cert.SMix.defs (F := Bits)) (onTc (τ := Cert.SMix.τ) (Cert.SMix.main (F := Bits))) ⟨m, fun _ => 0, g⟩ (fun r => (∀ c : Dev Cert.SMix.nD,
      r.2.mem ((c.tc : Thread Cert.SMix.nD Cert.SMix.τ).loc Cert.SMix.main_arg0) = m ((c.tc : Thread Cert.SMix.nD Cert.SMix.τ).loc Cert.SMix.main_arg0)
      ∧ r.2.mem ((c.tc : Thread Cert.SMix.nD Cert.SMix.τ).loc Cert.SMix.main_arg1) = m ((c.tc : Thread Cert.SMix.nD Cert.SMix.τ).loc Cert.SMix.main_arg1)
      ∧ r.2.mem ((c.tc : Thread Cert.SMix.nD Cert.SMix.τ).loc Cert.SMix.main_arg2) = m ((c.tc : Thread Cert.SMix.nD Cert.SMix.τ).loc Cert.SMix.main_arg2)
      ∧ r.2.mem ((c.tc : Thread Cert.SMix.nD Cert.SMix.τ).loc Cert.SMix.main_arg3) = m ((c.tc : Thread Cert.SMix.nD Cert.SMix.τ).loc Cert.SMix.main_arg3)
      ∧ r.2.mem ((c.tc : Thread Cert.SMix.nD Cert.SMix.τ).loc Cert.SMix.main_arg4) = m ((c.tc : Thread Cert.SMix.nD Cert.SMix.τ).loc Cert.SMix.main_arg4)
      ∧ r.2.mem ((c.tc : Thread Cert.SMix.nD Cert.SMix.τ).loc Cert.SMix.main_arg5) = m ((c.tc : Thread Cert.SMix.nD Cert.SMix.τ).loc Cert.SMix.main_arg5)
      ∧ r.2.mem ((c.tc : Thread Cert.SMix.nD Cert.SMix.τ).loc Cert.SMix.main_arg6) = m ((c.tc : Thread Cert.SMix.nD Cert.SMix.τ).loc Cert.SMix.main_arg6)
      ∧ r.2.mem ((c.tc : Thread Cert.SMix.nD Cert.SMix.τ).loc Cert.SMix.main_arg7) = m ((c.tc : Thread Cert.SMix.nD Cert.SMix.τ).loc Cert.SMix.main_arg7)
      ∧ r.2.mem ((c.tc : Thread Cert.SMix.nD Cert.SMix.τ).loc Cert.SMix.main_arg8) = m ((c.tc : Thread Cert.SMix.nD Cert.SMix.τ).loc Cert.SMix.main_arg8))
      ∧ r.2.sem = fun _ => 0)

def quiescent_SMixIdeal [hSMixIdeal : Cert.SMixIdeal.Facts] : Prop :=
  ∀ (m : (ℓ : Loc Cert.SMixIdeal.nD Cert.SMixIdeal.τ Cert.SMixIdeal.sig) → Buf (Elt Ideal) ℓ) (g : Dev Cert.SMixIdeal.nD → PrngReg), Pre_SMixIdeal m →
    θ_run (Cert.SMixIdeal.defs (F := Ideal)) (onTc (τ := Cert.SMixIdeal.τ) (Cert.SMixIdeal.main (F := Ideal))) ⟨m, fun _ => 0, g⟩ (fun r => (∀ c : Dev Cert.SMixIdeal.nD,
      r.2.mem ((c.tc : Thread Cert.SMixIdeal.nD Cert.SMixIdeal.τ).loc Cert.SMixIdeal.main_arg0) = m ((c.tc : Thread Cert.SMixIdeal.nD Cert.SMixIdeal.τ).loc Cert.SMixIdeal.main_arg0)
      ∧ r.2.mem ((c.tc : Thread Cert.SMixIdeal.nD Cert.SMixIdeal.τ).loc Cert.SMixIdeal.main_arg1) = m ((c.tc : Thread Cert.SMixIdeal.nD Cert.SMixIdeal.τ).loc Cert.SMixIdeal.main_arg1)
      ∧ r.2.mem ((c.tc : Thread Cert.SMixIdeal.nD Cert.SMixIdeal.τ).loc Cert.SMixIdeal.main_arg2) = m ((c.tc : Thread Cert.SMixIdeal.nD Cert.SMixIdeal.τ).loc Cert.SMixIdeal.main_arg2)
      ∧ r.2.mem ((c.tc : Thread Cert.SMixIdeal.nD Cert.SMixIdeal.τ).loc Cert.SMixIdeal.main_arg3) = m ((c.tc : Thread Cert.SMixIdeal.nD Cert.SMixIdeal.τ).loc Cert.SMixIdeal.main_arg3)
      ∧ r.2.mem ((c.tc : Thread Cert.SMixIdeal.nD Cert.SMixIdeal.τ).loc Cert.SMixIdeal.main_arg4) = m ((c.tc : Thread Cert.SMixIdeal.nD Cert.SMixIdeal.τ).loc Cert.SMixIdeal.main_arg4)
      ∧ r.2.mem ((c.tc : Thread Cert.SMixIdeal.nD Cert.SMixIdeal.τ).loc Cert.SMixIdeal.main_arg5) = m ((c.tc : Thread Cert.SMixIdeal.nD Cert.SMixIdeal.τ).loc Cert.SMixIdeal.main_arg5)
      ∧ r.2.mem ((c.tc : Thread Cert.SMixIdeal.nD Cert.SMixIdeal.τ).loc Cert.SMixIdeal.main_arg6) = m ((c.tc : Thread Cert.SMixIdeal.nD Cert.SMixIdeal.τ).loc Cert.SMixIdeal.main_arg6)
      ∧ r.2.mem ((c.tc : Thread Cert.SMixIdeal.nD Cert.SMixIdeal.τ).loc Cert.SMixIdeal.main_arg7) = m ((c.tc : Thread Cert.SMixIdeal.nD Cert.SMixIdeal.τ).loc Cert.SMixIdeal.main_arg7)
      ∧ r.2.mem ((c.tc : Thread Cert.SMixIdeal.nD Cert.SMixIdeal.τ).loc Cert.SMixIdeal.main_arg8) = m ((c.tc : Thread Cert.SMixIdeal.nD Cert.SMixIdeal.τ).loc Cert.SMixIdeal.main_arg8))
      ∧ r.2.sem = fun _ => 0)

def quiescent_SMixRefIdeal [hSMixRefIdeal : Cert.SMixRefIdeal.Facts] : Prop :=
  ∀ (m : (ℓ : Loc Cert.SMixRefIdeal.nD Cert.SMixRefIdeal.τ Cert.SMixRefIdeal.sig) → Buf (Elt Ideal) ℓ) (g : Dev Cert.SMixRefIdeal.nD → PrngReg), Pre_SMixRefIdeal m →
    θ_run (Cert.SMixRefIdeal.defs (F := Ideal)) (onTc (τ := Cert.SMixRefIdeal.τ) (Cert.SMixRefIdeal.main (F := Ideal))) ⟨m, fun _ => 0, g⟩ (fun r => (∀ c : Dev Cert.SMixRefIdeal.nD,
      r.2.mem ((c.tc : Thread Cert.SMixRefIdeal.nD Cert.SMixRefIdeal.τ).loc Cert.SMixRefIdeal.main_arg0) = m ((c.tc : Thread Cert.SMixRefIdeal.nD Cert.SMixRefIdeal.τ).loc Cert.SMixRefIdeal.main_arg0)
      ∧ r.2.mem ((c.tc : Thread Cert.SMixRefIdeal.nD Cert.SMixRefIdeal.τ).loc Cert.SMixRefIdeal.main_arg1) = m ((c.tc : Thread Cert.SMixRefIdeal.nD Cert.SMixRefIdeal.τ).loc Cert.SMixRefIdeal.main_arg1)
      ∧ r.2.mem ((c.tc : Thread Cert.SMixRefIdeal.nD Cert.SMixRefIdeal.τ).loc Cert.SMixRefIdeal.main_arg2) = m ((c.tc : Thread Cert.SMixRefIdeal.nD Cert.SMixRefIdeal.τ).loc Cert.SMixRefIdeal.main_arg2)
      ∧ r.2.mem ((c.tc : Thread Cert.SMixRefIdeal.nD Cert.SMixRefIdeal.τ).loc Cert.SMixRefIdeal.main_arg3) = m ((c.tc : Thread Cert.SMixRefIdeal.nD Cert.SMixRefIdeal.τ).loc Cert.SMixRefIdeal.main_arg3)
      ∧ r.2.mem ((c.tc : Thread Cert.SMixRefIdeal.nD Cert.SMixRefIdeal.τ).loc Cert.SMixRefIdeal.main_arg4) = m ((c.tc : Thread Cert.SMixRefIdeal.nD Cert.SMixRefIdeal.τ).loc Cert.SMixRefIdeal.main_arg4)
      ∧ r.2.mem ((c.tc : Thread Cert.SMixRefIdeal.nD Cert.SMixRefIdeal.τ).loc Cert.SMixRefIdeal.main_arg5) = m ((c.tc : Thread Cert.SMixRefIdeal.nD Cert.SMixRefIdeal.τ).loc Cert.SMixRefIdeal.main_arg5)
      ∧ r.2.mem ((c.tc : Thread Cert.SMixRefIdeal.nD Cert.SMixRefIdeal.τ).loc Cert.SMixRefIdeal.main_arg6) = m ((c.tc : Thread Cert.SMixRefIdeal.nD Cert.SMixRefIdeal.τ).loc Cert.SMixRefIdeal.main_arg6)
      ∧ r.2.mem ((c.tc : Thread Cert.SMixRefIdeal.nD Cert.SMixRefIdeal.τ).loc Cert.SMixRefIdeal.main_arg7) = m ((c.tc : Thread Cert.SMixRefIdeal.nD Cert.SMixRefIdeal.τ).loc Cert.SMixRefIdeal.main_arg7)
      ∧ r.2.mem ((c.tc : Thread Cert.SMixRefIdeal.nD Cert.SMixRefIdeal.τ).loc Cert.SMixRefIdeal.main_arg8) = m ((c.tc : Thread Cert.SMixRefIdeal.nD Cert.SMixRefIdeal.τ).loc Cert.SMixRefIdeal.main_arg8))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v13_0)) (v1 : (c : Dev Cert.InProjIdeal.nD) → Buf (Elt Ideal) ((c.tc : Thread Cert.InProjIdeal.nD Cert.InProjIdeal.τ).loc Cert.InProjIdeal.main_v13_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v13_0) = v0 c
          ∧ r.2.mem ((c.tc : Thread Cert.InProjIdeal.nD Cert.InProjIdeal.τ).loc Cert.InProjIdeal.main_v13_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v36) = v0 c
          ∧ r.2.mem ((c.tc : Thread Cert.InProjRefIdeal.nD Cert.InProjRefIdeal.τ).loc Cert.InProjRefIdeal.main_v38) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_XOut_XOutIdeal : Prop :=
  True

def algebraic_XOutIdeal_XOutRefIdeal [hXOutIdeal : Cert.XOutIdeal.Facts] [hXOutRefIdeal : Cert.XOutRefIdeal.Facts] : Prop :=
  ∀ (m : (ℓ : Loc Cert.XOutIdeal.nD Cert.XOutIdeal.τ Cert.XOutIdeal.sig) → Buf (Elt Ideal) ℓ) (g : Dev Cert.XOutIdeal.nD → PrngReg)
    (m' : (ℓ : Loc Cert.XOutRefIdeal.nD Cert.XOutRefIdeal.τ Cert.XOutRefIdeal.sig) → Buf (Elt Ideal) ℓ) (g' : Dev Cert.XOutRefIdeal.nD → PrngReg), Pre_XOutIdeal m →
    (∀ c : Dev Cert.XOutIdeal.nD,
      m' ((c.tc : Thread Cert.XOutRefIdeal.nD Cert.XOutRefIdeal.τ).loc Cert.XOutRefIdeal.main_arg0) = m ((c.tc : Thread Cert.XOutIdeal.nD Cert.XOutIdeal.τ).loc Cert.XOutIdeal.main_arg0)
      ∧ m' ((c.tc : Thread Cert.XOutRefIdeal.nD Cert.XOutRefIdeal.τ).loc Cert.XOutRefIdeal.main_arg1) = m ((c.tc : Thread Cert.XOutIdeal.nD Cert.XOutIdeal.τ).loc Cert.XOutIdeal.main_arg1)
      ∧ m' ((c.tc : Thread Cert.XOutRefIdeal.nD Cert.XOutRefIdeal.τ).loc Cert.XOutRefIdeal.main_arg2) = m ((c.tc : Thread Cert.XOutIdeal.nD Cert.XOutIdeal.τ).loc Cert.XOutIdeal.main_arg2)) →
    ∃ (v0 : (c : Dev Cert.XOutIdeal.nD) → Buf (Elt Ideal) ((c.tc : Thread Cert.XOutIdeal.nD Cert.XOutIdeal.τ).loc Cert.XOutIdeal.main_v2)),
      θ_run (Cert.XOutIdeal.defs (F := Ideal)) (onTc (τ := Cert.XOutIdeal.τ) (Cert.XOutIdeal.main (F := Ideal))) ⟨m, fun _ => 0, g⟩ (fun r => ∀ c : Dev Cert.XOutIdeal.nD,
          r.2.mem ((c.tc : Thread Cert.XOutIdeal.nD Cert.XOutIdeal.τ).loc Cert.XOutIdeal.main_v2) = v0 c
          ∧ r.2.mem ((c.tc : Thread Cert.XOutIdeal.nD Cert.XOutIdeal.τ).loc Cert.XOutIdeal.main_arg0) = m ((c.tc : Thread Cert.XOutIdeal.nD Cert.XOutIdeal.τ).loc Cert.XOutIdeal.main_arg0)
          ∧ r.2.mem ((c.tc : Thread Cert.XOutIdeal.nD Cert.XOutIdeal.τ).loc Cert.XOutIdeal.main_arg1) = m ((c.tc : Thread Cert.XOutIdeal.nD Cert.XOutIdeal.τ).loc Cert.XOutIdeal.main_arg1)
          ∧ r.2.mem ((c.tc : Thread Cert.XOutIdeal.nD Cert.XOutIdeal.τ).loc Cert.XOutIdeal.main_arg2) = m ((c.tc : Thread Cert.XOutIdeal.nD Cert.XOutIdeal.τ).loc Cert.XOutIdeal.main_arg2))
      ∧ θ_run (Cert.XOutRefIdeal.defs (F := Ideal)) (onTc (τ := Cert.XOutRefIdeal.τ) (Cert.XOutRefIdeal.main (F := Ideal))) ⟨m', fun _ => 0, g'⟩ (fun r => ∀ c : Dev Cert.XOutRefIdeal.nD,
          r.2.mem ((c.tc : Thread Cert.XOutRefIdeal.nD Cert.XOutRefIdeal.τ).loc Cert.XOutRefIdeal.main_v3) = v0 c
          ∧ r.2.mem ((c.tc : Thread Cert.XOutRefIdeal.nD Cert.XOutRefIdeal.τ).loc Cert.XOutRefIdeal.main_arg0) = m' ((c.tc : Thread Cert.XOutRefIdeal.nD Cert.XOutRefIdeal.τ).loc Cert.XOutRefIdeal.main_arg0)
          ∧ r.2.mem ((c.tc : Thread Cert.XOutRefIdeal.nD Cert.XOutRefIdeal.τ).loc Cert.XOutRefIdeal.main_arg1) = m' ((c.tc : Thread Cert.XOutRefIdeal.nD Cert.XOutRefIdeal.τ).loc Cert.XOutRefIdeal.main_arg1)
          ∧ r.2.mem ((c.tc : Thread Cert.XOutRefIdeal.nD Cert.XOutRefIdeal.τ).loc Cert.XOutRefIdeal.main_arg2) = m' ((c.tc : Thread Cert.XOutRefIdeal.nD Cert.XOutRefIdeal.τ).loc Cert.XOutRefIdeal.main_arg2))

def preserves_XQuery_XQueryIdeal : Prop :=
  True

def algebraic_XQueryIdeal_XQueryRefIdeal [hXQueryIdeal : Cert.XQueryIdeal.Facts] [hXQueryRefIdeal : Cert.XQueryRefIdeal.Facts] : Prop :=
  ∀ (m : (ℓ : Loc Cert.XQueryIdeal.nD Cert.XQueryIdeal.τ Cert.XQueryIdeal.sig) → Buf (Elt Ideal) ℓ) (g : Dev Cert.XQueryIdeal.nD → PrngReg)
    (m' : (ℓ : Loc Cert.XQueryRefIdeal.nD Cert.XQueryRefIdeal.τ Cert.XQueryRefIdeal.sig) → Buf (Elt Ideal) ℓ) (g' : Dev Cert.XQueryRefIdeal.nD → PrngReg), Pre_XQueryIdeal m →
    (∀ c : Dev Cert.XQueryIdeal.nD,
      m' ((c.tc : Thread Cert.XQueryRefIdeal.nD Cert.XQueryRefIdeal.τ).loc Cert.XQueryRefIdeal.main_arg0) = m ((c.tc : Thread Cert.XQueryIdeal.nD Cert.XQueryIdeal.τ).loc Cert.XQueryIdeal.main_arg0)
      ∧ m' ((c.tc : Thread Cert.XQueryRefIdeal.nD Cert.XQueryRefIdeal.τ).loc Cert.XQueryRefIdeal.main_arg1) = m ((c.tc : Thread Cert.XQueryIdeal.nD Cert.XQueryIdeal.τ).loc Cert.XQueryIdeal.main_arg1)
      ∧ m' ((c.tc : Thread Cert.XQueryRefIdeal.nD Cert.XQueryRefIdeal.τ).loc Cert.XQueryRefIdeal.main_arg2) = m ((c.tc : Thread Cert.XQueryIdeal.nD Cert.XQueryIdeal.τ).loc Cert.XQueryIdeal.main_arg2)) →
    ∃ (v0 : (c : Dev Cert.XQueryIdeal.nD) → Buf (Elt Ideal) ((c.tc : Thread Cert.XQueryIdeal.nD Cert.XQueryIdeal.τ).loc Cert.XQueryIdeal.main_v4)),
      θ_run (Cert.XQueryIdeal.defs (F := Ideal)) (onTc (τ := Cert.XQueryIdeal.τ) (Cert.XQueryIdeal.main (F := Ideal))) ⟨m, fun _ => 0, g⟩ (fun r => ∀ c : Dev Cert.XQueryIdeal.nD,
          r.2.mem ((c.tc : Thread Cert.XQueryIdeal.nD Cert.XQueryIdeal.τ).loc Cert.XQueryIdeal.main_v4) = v0 c
          ∧ r.2.mem ((c.tc : Thread Cert.XQueryIdeal.nD Cert.XQueryIdeal.τ).loc Cert.XQueryIdeal.main_arg0) = m ((c.tc : Thread Cert.XQueryIdeal.nD Cert.XQueryIdeal.τ).loc Cert.XQueryIdeal.main_arg0)
          ∧ r.2.mem ((c.tc : Thread Cert.XQueryIdeal.nD Cert.XQueryIdeal.τ).loc Cert.XQueryIdeal.main_arg1) = m ((c.tc : Thread Cert.XQueryIdeal.nD Cert.XQueryIdeal.τ).loc Cert.XQueryIdeal.main_arg1)
          ∧ r.2.mem ((c.tc : Thread Cert.XQueryIdeal.nD Cert.XQueryIdeal.τ).loc Cert.XQueryIdeal.main_arg2) = m ((c.tc : Thread Cert.XQueryIdeal.nD Cert.XQueryIdeal.τ).loc Cert.XQueryIdeal.main_arg2))
      ∧ θ_run (Cert.XQueryRefIdeal.defs (F := Ideal)) (onTc (τ := Cert.XQueryRefIdeal.τ) (Cert.XQueryRefIdeal.main (F := Ideal))) ⟨m', fun _ => 0, g'⟩ (fun r => ∀ c : Dev Cert.XQueryRefIdeal.nD,
          r.2.mem ((c.tc : Thread Cert.XQueryRefIdeal.nD Cert.XQueryRefIdeal.τ).loc Cert.XQueryRefIdeal.main_v16) = v0 c
          ∧ r.2.mem ((c.tc : Thread Cert.XQueryRefIdeal.nD Cert.XQueryRefIdeal.τ).loc Cert.XQueryRefIdeal.main_arg0) = m' ((c.tc : Thread Cert.XQueryRefIdeal.nD Cert.XQueryRefIdeal.τ).loc Cert.XQueryRefIdeal.main_arg0)
          ∧ r.2.mem ((c.tc : Thread Cert.XQueryRefIdeal.nD Cert.XQueryRefIdeal.τ).loc Cert.XQueryRefIdeal.main_arg1) = m' ((c.tc : Thread Cert.XQueryRefIdeal.nD Cert.XQueryRefIdeal.τ).loc Cert.XQueryRefIdeal.main_arg1)
          ∧ r.2.mem ((c.tc : Thread Cert.XQueryRefIdeal.nD Cert.XQueryRefIdeal.τ).loc Cert.XQueryRefIdeal.main_arg2) = m' ((c.tc : Thread Cert.XQueryRefIdeal.nD Cert.XQueryRefIdeal.τ).loc Cert.XQueryRefIdeal.main_arg2))

def preserves_PQuery_PQueryIdeal : Prop :=
  True

def algebraic_PQueryIdeal_PQueryRefIdeal [hPQueryIdeal : Cert.PQueryIdeal.Facts] [hPQueryRefIdeal : Cert.PQueryRefIdeal.Facts] : Prop :=
  ∀ (m : (ℓ : Loc Cert.PQueryIdeal.nD Cert.PQueryIdeal.τ Cert.PQueryIdeal.sig) → Buf (Elt Ideal) ℓ) (g : Dev Cert.PQueryIdeal.nD → PrngReg)
    (m' : (ℓ : Loc Cert.PQueryRefIdeal.nD Cert.PQueryRefIdeal.τ Cert.PQueryRefIdeal.sig) → Buf (Elt Ideal) ℓ) (g' : Dev Cert.PQueryRefIdeal.nD → PrngReg), Pre_PQueryIdeal m →
    (∀ c : Dev Cert.PQueryIdeal.nD,
      m' ((c.tc : Thread Cert.PQueryRefIdeal.nD Cert.PQueryRefIdeal.τ).loc Cert.PQueryRefIdeal.main_arg0) = m ((c.tc : Thread Cert.PQueryIdeal.nD Cert.PQueryIdeal.τ).loc Cert.PQueryIdeal.main_arg0)
      ∧ m' ((c.tc : Thread Cert.PQueryRefIdeal.nD Cert.PQueryRefIdeal.τ).loc Cert.PQueryRefIdeal.main_arg1) = m ((c.tc : Thread Cert.PQueryIdeal.nD Cert.PQueryIdeal.τ).loc Cert.PQueryIdeal.main_arg1)
      ∧ m' ((c.tc : Thread Cert.PQueryRefIdeal.nD Cert.PQueryRefIdeal.τ).loc Cert.PQueryRefIdeal.main_arg2) = m ((c.tc : Thread Cert.PQueryIdeal.nD Cert.PQueryIdeal.τ).loc Cert.PQueryIdeal.main_arg2)) →
    ∃ (v0 : (c : Dev Cert.PQueryIdeal.nD) → Buf (Elt Ideal) ((c.tc : Thread Cert.PQueryIdeal.nD Cert.PQueryIdeal.τ).loc Cert.PQueryIdeal.main_v4_0)) (v1 : (c : Dev Cert.PQueryIdeal.nD) → Buf (Elt Ideal) ((c.tc : Thread Cert.PQueryIdeal.nD Cert.PQueryIdeal.τ).loc Cert.PQueryIdeal.main_v4_1)),
      θ_run (Cert.PQueryIdeal.defs (F := Ideal)) (onTc (τ := Cert.PQueryIdeal.τ) (Cert.PQueryIdeal.main (F := Ideal))) ⟨m, fun _ => 0, g⟩ (fun r => ∀ c : Dev Cert.PQueryIdeal.nD,
          r.2.mem ((c.tc : Thread Cert.PQueryIdeal.nD Cert.PQueryIdeal.τ).loc Cert.PQueryIdeal.main_v4_0) = v0 c
          ∧ r.2.mem ((c.tc : Thread Cert.PQueryIdeal.nD Cert.PQueryIdeal.τ).loc Cert.PQueryIdeal.main_v4_1) = v1 c
          ∧ r.2.mem ((c.tc : Thread Cert.PQueryIdeal.nD Cert.PQueryIdeal.τ).loc Cert.PQueryIdeal.main_arg0) = m ((c.tc : Thread Cert.PQueryIdeal.nD Cert.PQueryIdeal.τ).loc Cert.PQueryIdeal.main_arg0)
          ∧ r.2.mem ((c.tc : Thread Cert.PQueryIdeal.nD Cert.PQueryIdeal.τ).loc Cert.PQueryIdeal.main_arg1) = m ((c.tc : Thread Cert.PQueryIdeal.nD Cert.PQueryIdeal.τ).loc Cert.PQueryIdeal.main_arg1)
          ∧ r.2.mem ((c.tc : Thread Cert.PQueryIdeal.nD Cert.PQueryIdeal.τ).loc Cert.PQueryIdeal.main_arg2) = m ((c.tc : Thread Cert.PQueryIdeal.nD Cert.PQueryIdeal.τ).loc Cert.PQueryIdeal.main_arg2))
      ∧ θ_run (Cert.PQueryRefIdeal.defs (F := Ideal)) (onTc (τ := Cert.PQueryRefIdeal.τ) (Cert.PQueryRefIdeal.main (F := Ideal))) ⟨m', fun _ => 0, g'⟩ (fun r => ∀ c : Dev Cert.PQueryRefIdeal.nD,
          r.2.mem ((c.tc : Thread Cert.PQueryRefIdeal.nD Cert.PQueryRefIdeal.τ).loc Cert.PQueryRefIdeal.main_v16) = v0 c
          ∧ r.2.mem ((c.tc : Thread Cert.PQueryRefIdeal.nD Cert.PQueryRefIdeal.τ).loc Cert.PQueryRefIdeal.main_v17) = v1 c
          ∧ r.2.mem ((c.tc : Thread Cert.PQueryRefIdeal.nD Cert.PQueryRefIdeal.τ).loc Cert.PQueryRefIdeal.main_arg0) = m' ((c.tc : Thread Cert.PQueryRefIdeal.nD Cert.PQueryRefIdeal.τ).loc Cert.PQueryRefIdeal.main_arg0)
          ∧ r.2.mem ((c.tc : Thread Cert.PQueryRefIdeal.nD Cert.PQueryRefIdeal.τ).loc Cert.PQueryRefIdeal.main_arg1) = m' ((c.tc : Thread Cert.PQueryRefIdeal.nD Cert.PQueryRefIdeal.τ).loc Cert.PQueryRefIdeal.main_arg1)
          ∧ r.2.mem ((c.tc : Thread Cert.PQueryRefIdeal.nD Cert.PQueryRefIdeal.τ).loc Cert.PQueryRefIdeal.main_arg2) = m' ((c.tc : Thread Cert.PQueryRefIdeal.nD Cert.PQueryRefIdeal.τ).loc Cert.PQueryRefIdeal.main_arg2))

def preserves_MemKV_MemKVIdeal : Prop :=
  True

def algebraic_MemKVIdeal_MemKVRefIdeal [hMemKVIdeal : Cert.MemKVIdeal.Facts] [hMemKVRefIdeal : Cert.MemKVRefIdeal.Facts] : Prop :=
  ∀ (m : (ℓ : Loc Cert.MemKVIdeal.nD Cert.MemKVIdeal.τ Cert.MemKVIdeal.sig) → Buf (Elt Ideal) ℓ) (g : Dev Cert.MemKVIdeal.nD → PrngReg)
    (m' : (ℓ : Loc Cert.MemKVRefIdeal.nD Cert.MemKVRefIdeal.τ Cert.MemKVRefIdeal.sig) → Buf (Elt Ideal) ℓ) (g' : Dev Cert.MemKVRefIdeal.nD → PrngReg), Pre_MemKVIdeal m →
    (∀ c : Dev Cert.MemKVIdeal.nD,
      m' ((c.tc : Thread Cert.MemKVRefIdeal.nD Cert.MemKVRefIdeal.τ).loc Cert.MemKVRefIdeal.main_arg0) = m ((c.tc : Thread Cert.MemKVIdeal.nD Cert.MemKVIdeal.τ).loc Cert.MemKVIdeal.main_arg0)
      ∧ m' ((c.tc : Thread Cert.MemKVRefIdeal.nD Cert.MemKVRefIdeal.τ).loc Cert.MemKVRefIdeal.main_arg1) = m ((c.tc : Thread Cert.MemKVIdeal.nD Cert.MemKVIdeal.τ).loc Cert.MemKVIdeal.main_arg1)
      ∧ m' ((c.tc : Thread Cert.MemKVRefIdeal.nD Cert.MemKVRefIdeal.τ).loc Cert.MemKVRefIdeal.main_arg2) = m ((c.tc : Thread Cert.MemKVIdeal.nD Cert.MemKVIdeal.τ).loc Cert.MemKVIdeal.main_arg2)) →
    ∃ (v0 : (c : Dev Cert.MemKVIdeal.nD) → Buf (Elt Ideal) ((c.tc : Thread Cert.MemKVIdeal.nD Cert.MemKVIdeal.τ).loc Cert.MemKVIdeal.main_v5_0)) (v1 : (c : Dev Cert.MemKVIdeal.nD) → Buf (Elt Ideal) ((c.tc : Thread Cert.MemKVIdeal.nD Cert.MemKVIdeal.τ).loc Cert.MemKVIdeal.main_v5_1)),
      θ_run (Cert.MemKVIdeal.defs (F := Ideal)) (onTc (τ := Cert.MemKVIdeal.τ) (Cert.MemKVIdeal.main (F := Ideal))) ⟨m, fun _ => 0, g⟩ (fun r => ∀ c : Dev Cert.MemKVIdeal.nD,
          r.2.mem ((c.tc : Thread Cert.MemKVIdeal.nD Cert.MemKVIdeal.τ).loc Cert.MemKVIdeal.main_v5_0) = v0 c
          ∧ r.2.mem ((c.tc : Thread Cert.MemKVIdeal.nD Cert.MemKVIdeal.τ).loc Cert.MemKVIdeal.main_v5_1) = v1 c
          ∧ r.2.mem ((c.tc : Thread Cert.MemKVIdeal.nD Cert.MemKVIdeal.τ).loc Cert.MemKVIdeal.main_arg0) = m ((c.tc : Thread Cert.MemKVIdeal.nD Cert.MemKVIdeal.τ).loc Cert.MemKVIdeal.main_arg0)
          ∧ r.2.mem ((c.tc : Thread Cert.MemKVIdeal.nD Cert.MemKVIdeal.τ).loc Cert.MemKVIdeal.main_arg1) = m ((c.tc : Thread Cert.MemKVIdeal.nD Cert.MemKVIdeal.τ).loc Cert.MemKVIdeal.main_arg1)
          ∧ r.2.mem ((c.tc : Thread Cert.MemKVIdeal.nD Cert.MemKVIdeal.τ).loc Cert.MemKVIdeal.main_arg2) = m ((c.tc : Thread Cert.MemKVIdeal.nD Cert.MemKVIdeal.τ).loc Cert.MemKVIdeal.main_arg2))
      ∧ θ_run (Cert.MemKVRefIdeal.defs (F := Ideal)) (onTc (τ := Cert.MemKVRefIdeal.τ) (Cert.MemKVRefIdeal.main (F := Ideal))) ⟨m', fun _ => 0, g'⟩ (fun r => ∀ c : Dev Cert.MemKVRefIdeal.nD,
          r.2.mem ((c.tc : Thread Cert.MemKVRefIdeal.nD Cert.MemKVRefIdeal.τ).loc Cert.MemKVRefIdeal.main_v17) = v0 c
          ∧ r.2.mem ((c.tc : Thread Cert.MemKVRefIdeal.nD Cert.MemKVRefIdeal.τ).loc Cert.MemKVRefIdeal.main_v18) = v1 c
          ∧ r.2.mem ((c.tc : Thread Cert.MemKVRefIdeal.nD Cert.MemKVRefIdeal.τ).loc Cert.MemKVRefIdeal.main_arg0) = m' ((c.tc : Thread Cert.MemKVRefIdeal.nD Cert.MemKVRefIdeal.τ).loc Cert.MemKVRefIdeal.main_arg0)
          ∧ r.2.mem ((c.tc : Thread Cert.MemKVRefIdeal.nD Cert.MemKVRefIdeal.τ).loc Cert.MemKVRefIdeal.main_arg1) = m' ((c.tc : Thread Cert.MemKVRefIdeal.nD Cert.MemKVRefIdeal.τ).loc Cert.MemKVRefIdeal.main_arg1)
          ∧ r.2.mem ((c.tc : Thread Cert.MemKVRefIdeal.nD Cert.MemKVRefIdeal.τ).loc Cert.MemKVRefIdeal.main_arg2) = m' ((c.tc : Thread Cert.MemKVRefIdeal.nD Cert.MemKVRefIdeal.τ).loc Cert.MemKVRefIdeal.main_arg2))

def preserves_AttnSample_AttnSampleIdeal : Prop :=
  True

def algebraic_AttnSampleIdeal_AttnSampleRefIdeal [hAttnSampleIdeal : Cert.AttnSampleIdeal.Facts] [hAttnSampleRefIdeal : Cert.AttnSampleRefIdeal.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg)
    (m' : (ℓ : Loc Cert.AttnSampleRefIdeal.nD Cert.AttnSampleRefIdeal.τ Cert.AttnSampleRefIdeal.sig) → Buf (Elt Ideal) ℓ) (g' : Dev Cert.AttnSampleRefIdeal.nD → PrngReg), Pre_AttnSampleIdeal m →
    (∀ c : Dev Cert.AttnSampleIdeal.nD,
      m' ((c.tc : Thread Cert.AttnSampleRefIdeal.nD Cert.AttnSampleRefIdeal.τ).loc Cert.AttnSampleRefIdeal.main_arg0) = m ((c.tc : Thread Cert.AttnSampleIdeal.nD Cert.AttnSampleIdeal.τ).loc Cert.AttnSampleIdeal.main_arg0)
      ∧ m' ((c.tc : Thread Cert.AttnSampleRefIdeal.nD Cert.AttnSampleRefIdeal.τ).loc Cert.AttnSampleRefIdeal.main_arg1) = m ((c.tc : Thread Cert.AttnSampleIdeal.nD Cert.AttnSampleIdeal.τ).loc Cert.AttnSampleIdeal.main_arg1)
      ∧ m' ((c.tc : Thread Cert.AttnSampleRefIdeal.nD Cert.AttnSampleRefIdeal.τ).loc Cert.AttnSampleRefIdeal.main_arg2) = m ((c.tc : Thread Cert.AttnSampleIdeal.nD Cert.AttnSampleIdeal.τ).loc Cert.AttnSampleIdeal.main_arg2)) →
    ∃ (v0 : (c : Dev Cert.AttnSampleIdeal.nD) → Buf (Elt Ideal) ((c.tc : Thread Cert.AttnSampleIdeal.nD Cert.AttnSampleIdeal.τ).loc Cert.AttnSampleIdeal.main_v2)),
      θ_run (Cert.AttnSampleIdeal.defs (F := Ideal)) (onTc (τ := Cert.AttnSampleIdeal.τ) (Cert.AttnSampleIdeal.main (F := Ideal))) ⟨m, fun _ => 0, g⟩ (fun r => ∀ c : Dev Cert.AttnSampleIdeal.nD,
          r.2.mem ((c.tc : Thread Cert.AttnSampleIdeal.nD Cert.AttnSampleIdeal.τ).loc Cert.AttnSampleIdeal.main_v2) = v0 c
          ∧ r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
          ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
          ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2))
      ∧ θ_run (Cert.AttnSampleRefIdeal.defs (F := Ideal)) (onTc (τ := Cert.AttnSampleRefIdeal.τ) (Cert.AttnSampleRefIdeal.main (F := Ideal))) ⟨m', fun _ => 0, g'⟩ (fun r => ∀ c : Dev Cert.AttnSampleRefIdeal.nD,
          r.2.mem ((c.tc : Thread Cert.AttnSampleRefIdeal.nD Cert.AttnSampleRefIdeal.τ).loc Cert.AttnSampleRefIdeal.main_v22) = v0 c
          ∧ r.2.mem ((c.tc : Thread Cert.AttnSampleRefIdeal.nD Cert.AttnSampleRefIdeal.τ).loc Cert.AttnSampleRefIdeal.main_arg0) = m' ((c.tc : Thread Cert.AttnSampleRefIdeal.nD Cert.AttnSampleRefIdeal.τ).loc Cert.AttnSampleRefIdeal.main_arg0)
          ∧ r.2.mem ((c.tc : Thread Cert.AttnSampleRefIdeal.nD Cert.AttnSampleRefIdeal.τ).loc Cert.AttnSampleRefIdeal.main_arg1) = m' ((c.tc : Thread Cert.AttnSampleRefIdeal.nD Cert.AttnSampleRefIdeal.τ).loc Cert.AttnSampleRefIdeal.main_arg1)
          ∧ r.2.mem ((c.tc : Thread Cert.AttnSampleRefIdeal.nD Cert.AttnSampleRefIdeal.τ).loc Cert.AttnSampleRefIdeal.main_arg2) = m' ((c.tc : Thread Cert.AttnSampleRefIdeal.nD Cert.AttnSampleRefIdeal.τ).loc Cert.AttnSampleRefIdeal.main_arg2))

def preserves_FinalPrompt_FinalPromptIdeal : Prop :=
  True

def algebraic_FinalPromptIdeal_FinalPromptRefIdeal [hFinalPromptIdeal : Cert.FinalPromptIdeal.Facts] [hFinalPromptRefIdeal : Cert.FinalPromptRefIdeal.Facts] : Prop :=
  ∀ (m : (ℓ : Loc Cert.FinalPromptIdeal.nD Cert.FinalPromptIdeal.τ Cert.FinalPromptIdeal.sig) → Buf (Elt Ideal) ℓ) (g : Dev Cert.FinalPromptIdeal.nD → PrngReg)
    (m' : (ℓ : Loc Cert.FinalPromptRefIdeal.nD Cert.FinalPromptRefIdeal.τ Cert.FinalPromptRefIdeal.sig) → Buf (Elt Ideal) ℓ) (g' : Dev Cert.FinalPromptRefIdeal.nD → PrngReg), Pre_FinalPromptIdeal m →
    (∀ c : Dev Cert.FinalPromptIdeal.nD,
      m' ((c.tc : Thread Cert.FinalPromptRefIdeal.nD Cert.FinalPromptRefIdeal.τ).loc Cert.FinalPromptRefIdeal.main_arg0) = m ((c.tc : Thread Cert.FinalPromptIdeal.nD Cert.FinalPromptIdeal.τ).loc Cert.FinalPromptIdeal.main_arg0)
      ∧ m' ((c.tc : Thread Cert.FinalPromptRefIdeal.nD Cert.FinalPromptRefIdeal.τ).loc Cert.FinalPromptRefIdeal.main_arg1) = m ((c.tc : Thread Cert.FinalPromptIdeal.nD Cert.FinalPromptIdeal.τ).loc Cert.FinalPromptIdeal.main_arg1)
      ∧ m' ((c.tc : Thread Cert.FinalPromptRefIdeal.nD Cert.FinalPromptRefIdeal.τ).loc Cert.FinalPromptRefIdeal.main_arg2) = m ((c.tc : Thread Cert.FinalPromptIdeal.nD Cert.FinalPromptIdeal.τ).loc Cert.FinalPromptIdeal.main_arg2)) →
    ∃ (v0 : (c : Dev Cert.FinalPromptIdeal.nD) → Buf (Elt Ideal) ((c.tc : Thread Cert.FinalPromptIdeal.nD Cert.FinalPromptIdeal.τ).loc Cert.FinalPromptIdeal.main_v1)),
      θ_run (Cert.FinalPromptIdeal.defs (F := Ideal)) (onTc (τ := Cert.FinalPromptIdeal.τ) (Cert.FinalPromptIdeal.main (F := Ideal))) ⟨m, fun _ => 0, g⟩ (fun r => ∀ c : Dev Cert.FinalPromptIdeal.nD,
          r.2.mem ((c.tc : Thread Cert.FinalPromptIdeal.nD Cert.FinalPromptIdeal.τ).loc Cert.FinalPromptIdeal.main_v1) = v0 c
          ∧ r.2.mem ((c.tc : Thread Cert.FinalPromptIdeal.nD Cert.FinalPromptIdeal.τ).loc Cert.FinalPromptIdeal.main_arg0) = m ((c.tc : Thread Cert.FinalPromptIdeal.nD Cert.FinalPromptIdeal.τ).loc Cert.FinalPromptIdeal.main_arg0)
          ∧ r.2.mem ((c.tc : Thread Cert.FinalPromptIdeal.nD Cert.FinalPromptIdeal.τ).loc Cert.FinalPromptIdeal.main_arg1) = m ((c.tc : Thread Cert.FinalPromptIdeal.nD Cert.FinalPromptIdeal.τ).loc Cert.FinalPromptIdeal.main_arg1)
          ∧ r.2.mem ((c.tc : Thread Cert.FinalPromptIdeal.nD Cert.FinalPromptIdeal.τ).loc Cert.FinalPromptIdeal.main_arg2) = m ((c.tc : Thread Cert.FinalPromptIdeal.nD Cert.FinalPromptIdeal.τ).loc Cert.FinalPromptIdeal.main_arg2))
      ∧ θ_run (Cert.FinalPromptRefIdeal.defs (F := Ideal)) (onTc (τ := Cert.FinalPromptRefIdeal.τ) (Cert.FinalPromptRefIdeal.main (F := Ideal))) ⟨m', fun _ => 0, g'⟩ (fun r => ∀ c : Dev Cert.FinalPromptRefIdeal.nD,
          r.2.mem ((c.tc : Thread Cert.FinalPromptRefIdeal.nD Cert.FinalPromptRefIdeal.τ).loc Cert.FinalPromptRefIdeal.main_v19) = v0 c
          ∧ r.2.mem ((c.tc : Thread Cert.FinalPromptRefIdeal.nD Cert.FinalPromptRefIdeal.τ).loc Cert.FinalPromptRefIdeal.main_arg0) = m' ((c.tc : Thread Cert.FinalPromptRefIdeal.nD Cert.FinalPromptRefIdeal.τ).loc Cert.FinalPromptRefIdeal.main_arg0)
          ∧ r.2.mem ((c.tc : Thread Cert.FinalPromptRefIdeal.nD Cert.FinalPromptRefIdeal.τ).loc Cert.FinalPromptRefIdeal.main_arg1) = m' ((c.tc : Thread Cert.FinalPromptRefIdeal.nD Cert.FinalPromptRefIdeal.τ).loc Cert.FinalPromptRefIdeal.main_arg1)
          ∧ r.2.mem ((c.tc : Thread Cert.FinalPromptRefIdeal.nD Cert.FinalPromptRefIdeal.τ).loc Cert.FinalPromptRefIdeal.main_arg2) = m' ((c.tc : Thread Cert.FinalPromptRefIdeal.nD Cert.FinalPromptRefIdeal.τ).loc Cert.FinalPromptRefIdeal.main_arg2))

def preserves_FinalSample_FinalSampleIdeal : Prop :=
  True

def algebraic_FinalSampleIdeal_FinalSampleRefIdeal [hFinalSampleIdeal : Cert.FinalSampleIdeal.Facts] [hFinalSampleRefIdeal : Cert.FinalSampleRefIdeal.Facts] : Prop :=
  ∀ (m : (ℓ : Loc Cert.FinalSampleIdeal.nD Cert.FinalSampleIdeal.τ Cert.FinalSampleIdeal.sig) → Buf (Elt Ideal) ℓ) (g : Dev Cert.FinalSampleIdeal.nD → PrngReg)
    (m' : (ℓ : Loc Cert.FinalSampleRefIdeal.nD Cert.FinalSampleRefIdeal.τ Cert.FinalSampleRefIdeal.sig) → Buf (Elt Ideal) ℓ) (g' : Dev Cert.FinalSampleRefIdeal.nD → PrngReg), Pre_FinalSampleIdeal m →
    (∀ c : Dev Cert.FinalSampleIdeal.nD,
      m' ((c.tc : Thread Cert.FinalSampleRefIdeal.nD Cert.FinalSampleRefIdeal.τ).loc Cert.FinalSampleRefIdeal.main_arg0) = m ((c.tc : Thread Cert.FinalSampleIdeal.nD Cert.FinalSampleIdeal.τ).loc Cert.FinalSampleIdeal.main_arg0)
      ∧ m' ((c.tc : Thread Cert.FinalSampleRefIdeal.nD Cert.FinalSampleRefIdeal.τ).loc Cert.FinalSampleRefIdeal.main_arg1) = m ((c.tc : Thread Cert.FinalSampleIdeal.nD Cert.FinalSampleIdeal.τ).loc Cert.FinalSampleIdeal.main_arg1)
      ∧ m' ((c.tc : Thread Cert.FinalSampleRefIdeal.nD Cert.FinalSampleRefIdeal.τ).loc Cert.FinalSampleRefIdeal.main_arg2) = m ((c.tc : Thread Cert.FinalSampleIdeal.nD Cert.FinalSampleIdeal.τ).loc Cert.FinalSampleIdeal.main_arg2)) →
    ∃ (v0 : (c : Dev Cert.FinalSampleIdeal.nD) → Buf (Elt Ideal) ((c.tc : Thread Cert.FinalSampleIdeal.nD Cert.FinalSampleIdeal.τ).loc Cert.FinalSampleIdeal.main_v1)),
      θ_run (Cert.FinalSampleIdeal.defs (F := Ideal)) (onTc (τ := Cert.FinalSampleIdeal.τ) (Cert.FinalSampleIdeal.main (F := Ideal))) ⟨m, fun _ => 0, g⟩ (fun r => ∀ c : Dev Cert.FinalSampleIdeal.nD,
          r.2.mem ((c.tc : Thread Cert.FinalSampleIdeal.nD Cert.FinalSampleIdeal.τ).loc Cert.FinalSampleIdeal.main_v1) = v0 c
          ∧ r.2.mem ((c.tc : Thread Cert.FinalSampleIdeal.nD Cert.FinalSampleIdeal.τ).loc Cert.FinalSampleIdeal.main_arg0) = m ((c.tc : Thread Cert.FinalSampleIdeal.nD Cert.FinalSampleIdeal.τ).loc Cert.FinalSampleIdeal.main_arg0)
          ∧ r.2.mem ((c.tc : Thread Cert.FinalSampleIdeal.nD Cert.FinalSampleIdeal.τ).loc Cert.FinalSampleIdeal.main_arg1) = m ((c.tc : Thread Cert.FinalSampleIdeal.nD Cert.FinalSampleIdeal.τ).loc Cert.FinalSampleIdeal.main_arg1)
          ∧ r.2.mem ((c.tc : Thread Cert.FinalSampleIdeal.nD Cert.FinalSampleIdeal.τ).loc Cert.FinalSampleIdeal.main_arg2) = m ((c.tc : Thread Cert.FinalSampleIdeal.nD Cert.FinalSampleIdeal.τ).loc Cert.FinalSampleIdeal.main_arg2))
      ∧ θ_run (Cert.FinalSampleRefIdeal.defs (F := Ideal)) (onTc (τ := Cert.FinalSampleRefIdeal.τ) (Cert.FinalSampleRefIdeal.main (F := Ideal))) ⟨m', fun _ => 0, g'⟩ (fun r => ∀ c : Dev Cert.FinalSampleRefIdeal.nD,
          r.2.mem ((c.tc : Thread Cert.FinalSampleRefIdeal.nD Cert.FinalSampleRefIdeal.τ).loc Cert.FinalSampleRefIdeal.main_v19) = v0 c
          ∧ r.2.mem ((c.tc : Thread Cert.FinalSampleRefIdeal.nD Cert.FinalSampleRefIdeal.τ).loc Cert.FinalSampleRefIdeal.main_arg0) = m' ((c.tc : Thread Cert.FinalSampleRefIdeal.nD Cert.FinalSampleRefIdeal.τ).loc Cert.FinalSampleRefIdeal.main_arg0)
          ∧ r.2.mem ((c.tc : Thread Cert.FinalSampleRefIdeal.nD Cert.FinalSampleRefIdeal.τ).loc Cert.FinalSampleRefIdeal.main_arg1) = m' ((c.tc : Thread Cert.FinalSampleRefIdeal.nD Cert.FinalSampleRefIdeal.τ).loc Cert.FinalSampleRefIdeal.main_arg1)
          ∧ r.2.mem ((c.tc : Thread Cert.FinalSampleRefIdeal.nD Cert.FinalSampleRefIdeal.τ).loc Cert.FinalSampleRefIdeal.main_arg2) = m' ((c.tc : Thread Cert.FinalSampleRefIdeal.nD Cert.FinalSampleRefIdeal.τ).loc Cert.FinalSampleRefIdeal.main_arg2))

def preserves_Sgu_SguIdeal : Prop :=
  IdealRules.named_const.Statement Cert.SguIdeal.κ "gelu_cub" .f32 0xBDD2D3E8#32 ((-(((Real.log 2)⁻¹ * (6693141 / 4194304)) * (12003091 / 268435456)) : ℝ) : EReal)
  ∧ IdealRules.named_const.Statement Cert.SguIdeal.κ "gelu_lin" .f32 0xC0135761#32 ((-((Real.log 2)⁻¹ * (6693141 / 4194304)) : ℝ) : EReal)

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)) →
    ∃ (v0 : (c : Dev Cert.SguIdeal.nD) → Buf (Elt Ideal) ((c.tc : Thread Cert.SguIdeal.nD Cert.SguIdeal.τ).loc Cert.SguIdeal.main_v10_0)) (v1 : (c : Dev Cert.SguIdeal.nD) → Buf (Elt Ideal) ((c.tc : Thread Cert.SguIdeal.nD Cert.SguIdeal.τ).loc Cert.SguIdeal.main_v10_1)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v10_0) = v0 c
          ∧ r.2.mem ((c.tc : Thread Cert.SguIdeal.nD Cert.SguIdeal.τ).loc Cert.SguIdeal.main_v10_1) = v1 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v49) = v0 c
          ∧ r.2.mem ((c.tc : Thread Cert.SguRefIdeal.nD Cert.SguRefIdeal.τ).loc Cert.SguRefIdeal.main_v50) = v1 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3))

def preserves_SMix_SMixIdeal : Prop :=
  IdealRules.named_const.Statement Cert.SMixIdeal.κ "gelu_cub" .f32 0xBDD2D3E8#32 ((-(((Real.log 2)⁻¹ * (6693141 / 4194304)) * (12003091 / 268435456)) : ℝ) : EReal)
  ∧ IdealRules.named_const.Statement Cert.SMixIdeal.κ "gelu_lin" .f32 0xC0135761#32 ((-((Real.log 2)⁻¹ * (6693141 / 4194304)) : ℝ) : EReal)

def algebraic_SMixIdeal_SMixRefIdeal [hSMixIdeal : Cert.SMixIdeal.Facts] [hSMixRefIdeal : Cert.SMixRefIdeal.Facts] : Prop :=
  ∀ (m : (ℓ : Loc Cert.SMixIdeal.nD Cert.SMixIdeal.τ Cert.SMixIdeal.sig) → Buf (Elt Ideal) ℓ) (g : Dev Cert.SMixIdeal.nD → PrngReg)
    (m' : (ℓ : Loc Cert.SMixRefIdeal.nD Cert.SMixRefIdeal.τ Cert.SMixRefIdeal.sig) → Buf (Elt Ideal) ℓ) (g' : Dev Cert.SMixRefIdeal.nD → PrngReg), Pre_SMixIdeal m →
    (∀ c : Dev Cert.SMixIdeal.nD,
      m' ((c.tc : Thread Cert.SMixRefIdeal.nD Cert.SMixRefIdeal.τ).loc Cert.SMixRefIdeal.main_arg0) = m ((c.tc : Thread Cert.SMixIdeal.nD Cert.SMixIdeal.τ).loc Cert.SMixIdeal.main_arg0)
      ∧ m' ((c.tc : Thread Cert.SMixRefIdeal.nD Cert.SMixRefIdeal.τ).loc Cert.SMixRefIdeal.main_arg1) = m ((c.tc : Thread Cert.SMixIdeal.nD Cert.SMixIdeal.τ).loc Cert.SMixIdeal.main_arg1)
      ∧ m' ((c.tc : Thread Cert.SMixRefIdeal.nD Cert.SMixRefIdeal.τ).loc Cert.SMixRefIdeal.main_arg2) = m ((c.tc : Thread Cert.SMixIdeal.nD Cert.SMixIdeal.τ).loc Cert.SMixIdeal.main_arg2)
      ∧ m' ((c.tc : Thread Cert.SMixRefIdeal.nD Cert.SMixRefIdeal.τ).loc Cert.SMixRefIdeal.main_arg3) = m ((c.tc : Thread Cert.SMixIdeal.nD Cert.SMixIdeal.τ).loc Cert.SMixIdeal.main_arg3)
      ∧ m' ((c.tc : Thread Cert.SMixRefIdeal.nD Cert.SMixRefIdeal.τ).loc Cert.SMixRefIdeal.main_arg4) = m ((c.tc : Thread Cert.SMixIdeal.nD Cert.SMixIdeal.τ).loc Cert.SMixIdeal.main_arg4)
      ∧ m' ((c.tc : Thread Cert.SMixRefIdeal.nD Cert.SMixRefIdeal.τ).loc Cert.SMixRefIdeal.main_arg5) = m ((c.tc : Thread Cert.SMixIdeal.nD Cert.SMixIdeal.τ).loc Cert.SMixIdeal.main_arg5)
      ∧ m' ((c.tc : Thread Cert.SMixRefIdeal.nD Cert.SMixRefIdeal.τ).loc Cert.SMixRefIdeal.main_arg6) = m ((c.tc : Thread Cert.SMixIdeal.nD Cert.SMixIdeal.τ).loc Cert.SMixIdeal.main_arg6)
      ∧ m' ((c.tc : Thread Cert.SMixRefIdeal.nD Cert.SMixRefIdeal.τ).loc Cert.SMixRefIdeal.main_arg7) = m ((c.tc : Thread Cert.SMixIdeal.nD Cert.SMixIdeal.τ).loc Cert.SMixIdeal.main_arg7)
      ∧ m' ((c.tc : Thread Cert.SMixRefIdeal.nD Cert.SMixRefIdeal.τ).loc Cert.SMixRefIdeal.main_arg8) = m ((c.tc : Thread Cert.SMixIdeal.nD Cert.SMixIdeal.τ).loc Cert.SMixIdeal.main_arg8)) →
    ∃ (v0 : (c : Dev Cert.SMixIdeal.nD) → Buf (Elt Ideal) ((c.tc : Thread Cert.SMixIdeal.nD Cert.SMixIdeal.τ).loc Cert.SMixIdeal.main_v21_0)) (v1 : (c : Dev Cert.SMixIdeal.nD) → Buf (Elt Ideal) ((c.tc : Thread Cert.SMixIdeal.nD Cert.SMixIdeal.τ).loc Cert.SMixIdeal.main_v21_1)) (v2 : (c : Dev Cert.SMixIdeal.nD) → Buf (Elt Ideal) ((c.tc : Thread Cert.SMixIdeal.nD Cert.SMixIdeal.τ).loc Cert.SMixIdeal.main_v21_2)),
      θ_run (Cert.SMixIdeal.defs (F := Ideal)) (onTc (τ := Cert.SMixIdeal.τ) (Cert.SMixIdeal.main (F := Ideal))) ⟨m, fun _ => 0, g⟩ (fun r => ∀ c : Dev Cert.SMixIdeal.nD,
          r.2.mem ((c.tc : Thread Cert.SMixIdeal.nD Cert.SMixIdeal.τ).loc Cert.SMixIdeal.main_v21_0) = v0 c
          ∧ r.2.mem ((c.tc : Thread Cert.SMixIdeal.nD Cert.SMixIdeal.τ).loc Cert.SMixIdeal.main_v21_1) = v1 c
          ∧ r.2.mem ((c.tc : Thread Cert.SMixIdeal.nD Cert.SMixIdeal.τ).loc Cert.SMixIdeal.main_v21_2) = v2 c
          ∧ r.2.mem ((c.tc : Thread Cert.SMixIdeal.nD Cert.SMixIdeal.τ).loc Cert.SMixIdeal.main_arg0) = m ((c.tc : Thread Cert.SMixIdeal.nD Cert.SMixIdeal.τ).loc Cert.SMixIdeal.main_arg0)
          ∧ r.2.mem ((c.tc : Thread Cert.SMixIdeal.nD Cert.SMixIdeal.τ).loc Cert.SMixIdeal.main_arg1) = m ((c.tc : Thread Cert.SMixIdeal.nD Cert.SMixIdeal.τ).loc Cert.SMixIdeal.main_arg1)
          ∧ r.2.mem ((c.tc : Thread Cert.SMixIdeal.nD Cert.SMixIdeal.τ).loc Cert.SMixIdeal.main_arg2) = m ((c.tc : Thread Cert.SMixIdeal.nD Cert.SMixIdeal.τ).loc Cert.SMixIdeal.main_arg2)
          ∧ r.2.mem ((c.tc : Thread Cert.SMixIdeal.nD Cert.SMixIdeal.τ).loc Cert.SMixIdeal.main_arg3) = m ((c.tc : Thread Cert.SMixIdeal.nD Cert.SMixIdeal.τ).loc Cert.SMixIdeal.main_arg3)
          ∧ r.2.mem ((c.tc : Thread Cert.SMixIdeal.nD Cert.SMixIdeal.τ).loc Cert.SMixIdeal.main_arg4) = m ((c.tc : Thread Cert.SMixIdeal.nD Cert.SMixIdeal.τ).loc Cert.SMixIdeal.main_arg4)
          ∧ r.2.mem ((c.tc : Thread Cert.SMixIdeal.nD Cert.SMixIdeal.τ).loc Cert.SMixIdeal.main_arg5) = m ((c.tc : Thread Cert.SMixIdeal.nD Cert.SMixIdeal.τ).loc Cert.SMixIdeal.main_arg5)
          ∧ r.2.mem ((c.tc : Thread Cert.SMixIdeal.nD Cert.SMixIdeal.τ).loc Cert.SMixIdeal.main_arg6) = m ((c.tc : Thread Cert.SMixIdeal.nD Cert.SMixIdeal.τ).loc Cert.SMixIdeal.main_arg6)
          ∧ r.2.mem ((c.tc : Thread Cert.SMixIdeal.nD Cert.SMixIdeal.τ).loc Cert.SMixIdeal.main_arg7) = m ((c.tc : Thread Cert.SMixIdeal.nD Cert.SMixIdeal.τ).loc Cert.SMixIdeal.main_arg7)
          ∧ r.2.mem ((c.tc : Thread Cert.SMixIdeal.nD Cert.SMixIdeal.τ).loc Cert.SMixIdeal.main_arg8) = m ((c.tc : Thread Cert.SMixIdeal.nD Cert.SMixIdeal.τ).loc Cert.SMixIdeal.main_arg8))
      ∧ θ_run (Cert.SMixRefIdeal.defs (F := Ideal)) (onTc (τ := Cert.SMixRefIdeal.τ) (Cert.SMixRefIdeal.main (F := Ideal))) ⟨m', fun _ => 0, g'⟩ (fun r => ∀ c : Dev Cert.SMixRefIdeal.nD,
          r.2.mem ((c.tc : Thread Cert.SMixRefIdeal.nD Cert.SMixRefIdeal.τ).loc Cert.SMixRefIdeal.main_v95) = v0 c
          ∧ r.2.mem ((c.tc : Thread Cert.SMixRefIdeal.nD Cert.SMixRefIdeal.τ).loc Cert.SMixRefIdeal.main_v96) = v1 c
          ∧ r.2.mem ((c.tc : Thread Cert.SMixRefIdeal.nD Cert.SMixRefIdeal.τ).loc Cert.SMixRefIdeal.main_v74) = v2 c
          ∧ r.2.mem ((c.tc : Thread Cert.SMixRefIdeal.nD Cert.SMixRefIdeal.τ).loc Cert.SMixRefIdeal.main_arg0) = m' ((c.tc : Thread Cert.SMixRefIdeal.nD Cert.SMixRefIdeal.τ).loc Cert.SMixRefIdeal.main_arg0)
          ∧ r.2.mem ((c.tc : Thread Cert.SMixRefIdeal.nD Cert.SMixRefIdeal.τ).loc Cert.SMixRefIdeal.main_arg1) = m' ((c.tc : Thread Cert.SMixRefIdeal.nD Cert.SMixRefIdeal.τ).loc Cert.SMixRefIdeal.main_arg1)
          ∧ r.2.mem ((c.tc : Thread Cert.SMixRefIdeal.nD Cert.SMixRefIdeal.τ).loc Cert.SMixRefIdeal.main_arg2) = m' ((c.tc : Thread Cert.SMixRefIdeal.nD Cert.SMixRefIdeal.τ).loc Cert.SMixRefIdeal.main_arg2)
          ∧ r.2.mem ((c.tc : Thread Cert.SMixRefIdeal.nD Cert.SMixRefIdeal.τ).loc Cert.SMixRefIdeal.main_arg3) = m' ((c.tc : Thread Cert.SMixRefIdeal.nD Cert.SMixRefIdeal.τ).loc Cert.SMixRefIdeal.main_arg3)
          ∧ r.2.mem ((c.tc : Thread Cert.SMixRefIdeal.nD Cert.SMixRefIdeal.τ).loc Cert.SMixRefIdeal.main_arg4) = m' ((c.tc : Thread Cert.SMixRefIdeal.nD Cert.SMixRefIdeal.τ).loc Cert.SMixRefIdeal.main_arg4)
          ∧ r.2.mem ((c.tc : Thread Cert.SMixRefIdeal.nD Cert.SMixRefIdeal.τ).loc Cert.SMixRefIdeal.main_arg5) = m' ((c.tc : Thread Cert.SMixRefIdeal.nD Cert.SMixRefIdeal.τ).loc Cert.SMixRefIdeal.main_arg5)
          ∧ r.2.mem ((c.tc : Thread Cert.SMixRefIdeal.nD Cert.SMixRefIdeal.τ).loc Cert.SMixRefIdeal.main_arg6) = m' ((c.tc : Thread Cert.SMixRefIdeal.nD Cert.SMixRefIdeal.τ).loc Cert.SMixRefIdeal.main_arg6)
          ∧ r.2.mem ((c.tc : Thread Cert.SMixRefIdeal.nD Cert.SMixRefIdeal.τ).loc Cert.SMixRefIdeal.main_arg7) = m' ((c.tc : Thread Cert.SMixRefIdeal.nD Cert.SMixRefIdeal.τ).loc Cert.SMixRefIdeal.main_arg7)
          ∧ r.2.mem ((c.tc : Thread Cert.SMixRefIdeal.nD Cert.SMixRefIdeal.τ).loc Cert.SMixRefIdeal.main_arg8) = m' ((c.tc : Thread Cert.SMixRefIdeal.nD Cert.SMixRefIdeal.τ).loc Cert.SMixRefIdeal.main_arg8))

def preserves_Gla_GlaIdeal : Prop :=
  True

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)) →
    ∃ (v0 : (c : Dev Cert.GlaIdeal.nD) → Buf (Elt Ideal) ((c.tc : Thread Cert.GlaIdeal.nD Cert.GlaIdeal.τ).loc Cert.GlaIdeal.main_v8_1)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v8_1) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v22_4) = v0 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hXOut : Cert.XOut.Facts) (hXOutIdeal : Cert.XOutIdeal.Facts) (hXOutRefIdeal : Cert.XOutRefIdeal.Facts) (hXQuery : Cert.XQuery.Facts) (hXQueryIdeal : Cert.XQueryIdeal.Facts) (hXQueryRefIdeal : Cert.XQueryRefIdeal.Facts) (hPQuery : Cert.PQuery.Facts) (hPQueryIdeal : Cert.PQueryIdeal.Facts) (hPQueryRefIdeal : Cert.PQueryRefIdeal.Facts) (hMemKV : Cert.MemKV.Facts) (hMemKVIdeal : Cert.MemKVIdeal.Facts) (hMemKVRefIdeal : Cert.MemKVRefIdeal.Facts) (hAttnSample : Cert.AttnSample.Facts) (hAttnSampleIdeal : Cert.AttnSampleIdeal.Facts) (hAttnSampleRefIdeal : Cert.AttnSampleRefIdeal.Facts) (hFinalPrompt : Cert.FinalPrompt.Facts) (hFinalPromptIdeal : Cert.FinalPromptIdeal.Facts) (hFinalPromptRefIdeal : Cert.FinalPromptRefIdeal.Facts) (hFinalSample : Cert.FinalSample.Facts) (hFinalSampleIdeal : Cert.FinalSampleIdeal.Facts) (hFinalSampleRefIdeal : Cert.FinalSampleRefIdeal.Facts) (hSgu : Cert.Sgu.Facts) (hSguIdeal : Cert.SguIdeal.Facts) (hSguRefIdeal : Cert.SguRefIdeal.Facts) (hSMix : Cert.SMix.Facts) (hSMixIdeal : Cert.SMixIdeal.Facts) (hSMixRefIdeal : Cert.SMixRefIdeal.Facts) (hGla : Cert.Gla.Facts) (hGlaIdeal : Cert.GlaIdeal.Facts) (hGlaRefIdeal : Cert.GlaRefIdeal.Facts),
    quiescent_Kernel (hKernel := hKernel)
    ∧ quiescent_KernelIdeal (hKernelIdeal := hKernelIdeal)
    ∧ quiescent_ReferenceIdeal (hReferenceIdeal := hReferenceIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_XOut (hXOut := hXOut)
    ∧ quiescent_XOutIdeal (hXOutIdeal := hXOutIdeal)
    ∧ quiescent_XOutRefIdeal (hXOutRefIdeal := hXOutRefIdeal)
    ∧ quiescent_XQuery (hXQuery := hXQuery)
    ∧ quiescent_XQueryIdeal (hXQueryIdeal := hXQueryIdeal)
    ∧ quiescent_XQueryRefIdeal (hXQueryRefIdeal := hXQueryRefIdeal)
    ∧ quiescent_PQuery (hPQuery := hPQuery)
    ∧ quiescent_PQueryIdeal (hPQueryIdeal := hPQueryIdeal)
    ∧ quiescent_PQueryRefIdeal (hPQueryRefIdeal := hPQueryRefIdeal)
    ∧ quiescent_MemKV (hMemKV := hMemKV)
    ∧ quiescent_MemKVIdeal (hMemKVIdeal := hMemKVIdeal)
    ∧ quiescent_MemKVRefIdeal (hMemKVRefIdeal := hMemKVRefIdeal)
    ∧ quiescent_AttnSample (hAttnSample := hAttnSample)
    ∧ quiescent_AttnSampleIdeal (hAttnSampleIdeal := hAttnSampleIdeal)
    ∧ quiescent_AttnSampleRefIdeal (hAttnSampleRefIdeal := hAttnSampleRefIdeal)
    ∧ quiescent_FinalPrompt (hFinalPrompt := hFinalPrompt)
    ∧ quiescent_FinalPromptIdeal (hFinalPromptIdeal := hFinalPromptIdeal)
    ∧ quiescent_FinalPromptRefIdeal (hFinalPromptRefIdeal := hFinalPromptRefIdeal)
    ∧ quiescent_FinalSample (hFinalSample := hFinalSample)
    ∧ quiescent_FinalSampleIdeal (hFinalSampleIdeal := hFinalSampleIdeal)
    ∧ quiescent_FinalSampleRefIdeal (hFinalSampleRefIdeal := hFinalSampleRefIdeal)
    ∧ quiescent_Sgu (hSgu := hSgu)
    ∧ quiescent_SguIdeal (hSguIdeal := hSguIdeal)
    ∧ quiescent_SguRefIdeal (hSguRefIdeal := hSguRefIdeal)
    ∧ quiescent_SMix (hSMix := hSMix)
    ∧ quiescent_SMixIdeal (hSMixIdeal := hSMixIdeal)
    ∧ quiescent_SMixRefIdeal (hSMixRefIdeal := hSMixRefIdeal)
    ∧ quiescent_Gla (hGla := hGla)
    ∧ quiescent_GlaIdeal (hGlaIdeal := hGlaIdeal)
    ∧ quiescent_GlaRefIdeal (hGlaRefIdeal := hGlaRefIdeal)
    ∧ preserves_Kernel_KernelIdeal
    ∧ algebraic_KernelIdeal_ReferenceIdeal (hKernelIdeal := hKernelIdeal) (hReferenceIdeal := hReferenceIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_XOut_XOutIdeal
    ∧ algebraic_XOutIdeal_XOutRefIdeal (hXOutIdeal := hXOutIdeal) (hXOutRefIdeal := hXOutRefIdeal)
    ∧ preserves_XQuery_XQueryIdeal
    ∧ algebraic_XQueryIdeal_XQueryRefIdeal (hXQueryIdeal := hXQueryIdeal) (hXQueryRefIdeal := hXQueryRefIdeal)
    ∧ preserves_PQuery_PQueryIdeal
    ∧ algebraic_PQueryIdeal_PQueryRefIdeal (hPQueryIdeal := hPQueryIdeal) (hPQueryRefIdeal := hPQueryRefIdeal)
    ∧ preserves_MemKV_MemKVIdeal
    ∧ algebraic_MemKVIdeal_MemKVRefIdeal (hMemKVIdeal := hMemKVIdeal) (hMemKVRefIdeal := hMemKVRefIdeal)
    ∧ preserves_AttnSample_AttnSampleIdeal
    ∧ algebraic_AttnSampleIdeal_AttnSampleRefIdeal (hAttnSampleIdeal := hAttnSampleIdeal) (hAttnSampleRefIdeal := hAttnSampleRefIdeal)
    ∧ preserves_FinalPrompt_FinalPromptIdeal
    ∧ algebraic_FinalPromptIdeal_FinalPromptRefIdeal (hFinalPromptIdeal := hFinalPromptIdeal) (hFinalPromptRefIdeal := hFinalPromptRefIdeal)
    ∧ preserves_FinalSample_FinalSampleIdeal
    ∧ algebraic_FinalSampleIdeal_FinalSampleRefIdeal (hFinalSampleIdeal := hFinalSampleIdeal) (hFinalSampleRefIdeal := hFinalSampleRefIdeal)
    ∧ preserves_Sgu_SguIdeal
    ∧ algebraic_SguIdeal_SguRefIdeal (hSguIdeal := hSguIdeal) (hSguRefIdeal := hSguRefIdeal)
    ∧ preserves_SMix_SMixIdeal
    ∧ algebraic_SMixIdeal_SMixRefIdeal (hSMixIdeal := hSMixIdeal) (hSMixRefIdeal := hSMixRefIdeal)
    ∧ preserves_Gla_GlaIdeal
    ∧ algebraic_GlaIdeal_GlaRefIdeal (hGlaIdeal := hGlaIdeal) (hGlaRefIdeal := hGlaRefIdeal)
-- ==== Kernel.lean ====
abbrev S8448x2048 : Shape := ⟨2, ![8448, 2048]⟩
abbrev S1024x2048 : Shape := ⟨2, ![1024, 2048]⟩
abbrev S4x256x2048 : Shape := ⟨3, ![4, 256, 2048]⟩
abbrev S_ : Shape := ⟨0, ![]⟩
abbrev S1x256x2048 : Shape := ⟨3, ![1, 256, 2048]⟩
abbrev S1024x512 : Shape := ⟨2, ![1024, 512]⟩
abbrev S1x256x512 : Shape := ⟨3, ![1, 256, 512]⟩
abbrev S256x512 : Shape := ⟨2, ![256, 512]⟩
abbrev S1024x256 : Shape := ⟨2, ![1024, 256]⟩
abbrev S1024 : Shape := ⟨1, ![1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S1024x2048, .f32⟩
  | .hbm, ⟨2, _⟩ => ⟨S1024x2048, .f32⟩
  | .hbm, ⟨3, _⟩ => ⟨S4x256x2048, .f32⟩
  | .hbm, ⟨4, _⟩ => ⟨S4x256x2048, .f32⟩
  | .hbm, ⟨5, _⟩ => ⟨S_, .bf16⟩
  | .hbm, ⟨6, _⟩ => ⟨S8448x2048, .bf16⟩
  | .hbm, ⟨7, _⟩ => ⟨S8448x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1024x2048, .bf16⟩
  | .local _ .vmem, ⟨7, _⟩ => ⟨S1024x2048, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8448x2048 : Shape := ⟨2, ![8448, 2048]⟩
abbrev S1024x2048 : Shape := ⟨2, ![1024, 2048]⟩
abbrev S8192x2048 : Shape := ⟨2, ![8192, 2048]⟩
abbrev S4x2048x4x512 : Shape := ⟨4, ![4, 2048, 4, 512]⟩
abbrev S4x256x4x512 : Shape := ⟨4, ![4, 256, 4, 512]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x512x2048 : Shape := ⟨4, ![4, 4, 512, 2048]⟩
abbrev S256x2048 : Shape := ⟨2, ![256, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S1024x2048, .f32⟩
  | .hbm, ⟨2, _⟩ => ⟨S1024x2048, .f32⟩
  | .hbm, ⟨3, _⟩ => ⟨S8192x2048, .bf16⟩
  | .hbm, ⟨4, _⟩ => ⟨S8192x2048, .f32⟩
  | .hbm, ⟨5, _⟩ => ⟨S4x2048x4x512, .f32⟩
  | .hbm, ⟨6, _⟩ => ⟨S4x256x4x512, .f32⟩
  | .hbm, ⟨7, _⟩ => ⟨S4x256x4x512, .f32⟩
  | .hbm, ⟨8, _⟩ => ⟨S4x4x2048x256, .f32⟩
  | .hbm, ⟨9, _⟩ => ⟨S_, .f32⟩
  | .hbm, ⟨10, _⟩ => ⟨S4x4x2048x256, .f32⟩
  | .hbm, ⟨11, _⟩ => ⟨S4x4x2048x256, .f32⟩
  | .hbm, ⟨12, _⟩ => ⟨S_, .f32⟩
  | .hbm, ⟨13, _⟩ => ⟨S4x4x2048, .f32⟩
  | .hbm, ⟨14, _⟩ => ⟨S_, .f32⟩
  | .hbm, ⟨15, _⟩ => ⟨S4x4x2048, .f32⟩
  | .hbm, ⟨16, _⟩ => ⟨S4x4x2048, .f32⟩
  | .hbm, ⟨17, _⟩ => ⟨S4x4x2048x1, .f32⟩
  | .hbm, ⟨18, _⟩ => ⟨S4x4x2048x256, .f32⟩
  | .hbm, ⟨19, _⟩ => ⟨S4x4x2048x256, .f32⟩
  | .hbm, ⟨20, _⟩ => ⟨S4x4x2048x256, .f32⟩
  | .hbm, ⟨21, _⟩ => ⟨S_, .f32⟩
  | .hbm, ⟨22, _⟩ => ⟨S4x4x2048, .f32⟩
  | .hbm, ⟨23, _⟩ => ⟨S4x4x2048x1, .f32⟩
  | .hbm, ⟨24, _⟩ => ⟨S4x4x2048x256, .f32⟩
  | .hbm, ⟨25, _⟩ => ⟨S4x4x2048x256, .f32⟩
  | .hbm, ⟨26, _⟩ => ⟨S4x4x512x2048, .f32⟩
  | .hbm, ⟨27, _⟩ => ⟨S4x2048x4x512, .f32⟩
  | .hbm, ⟨28, _⟩ => ⟨S8192x2048, .f32⟩
  | .hbm, ⟨29, _⟩ => ⟨S8192x2048, .bf16⟩
  | .hbm, ⟨30, _⟩ => ⟨S_, .bf16⟩
  | .hbm, ⟨31, _⟩ => ⟨S256x2048, .bf16⟩
  | .hbm, ⟨32, _⟩ => ⟨S8448x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== InProj.lean ====
abbrev S4x2048x2048 : Shape := ⟨3, ![4, 2048, 2048]⟩
abbrev S128x1x2048 : Shape := ⟨3, ![128, 1, 2048]⟩
abbrev S1x2048 : Shape := ⟨2, ![1, 2048]⟩
abbrev S1x2048x5136 : Shape := ⟨3, ![1, 2048, 5136]⟩
abbrev S1x2048x5120 : Shape := ⟨3, ![1, 2048, 5120]⟩
abbrev S2048x5120 : Shape := ⟨2, ![2048, 5120]⟩
abbrev S1x2048x16 : Shape := ⟨3, ![1, 2048, 16]⟩
abbrev S2048x16 : Shape := ⟨2, ![2048, 16]⟩
abbrev S_ : Shape := ⟨0, ![]⟩
abbrev S2048x128 : Shape := ⟨2, ![2048, 128]⟩
abbrev S8192x2048 : Shape := ⟨2, ![8192, 2048]⟩
abbrev S128x2048 : Shape := ⟨2, ![128, 2048]⟩
abbrev S8448x2048 : Shape := ⟨2, ![8448, 2048]⟩
abbrev S2048 : Shape := ⟨1, ![2048]⟩
abbrev S8448x5120 : Shape := ⟨2, ![8448, 5120]⟩
abbrev S8448x128 : Shape := ⟨2, ![8448, 128]⟩
abbrev S384x2048 : Shape := ⟨2, ![384, 2048]⟩
abbrev S384x5120 : Shape := ⟨2, ![384, 5120]⟩
abbrev S384x128 : Shape := ⟨2, ![384, 128]⟩
abbrev S384 : Shape := ⟨1, ![384]⟩
abbrev S384x1 : Shape := ⟨2, ![384, 1]⟩

abbrev nBuf : Space → Nat
  | .hbm => 22
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S128x1x2048, .f32⟩
  | .hbm, ⟨2, _⟩ => ⟨S1x2048, .f32⟩
  | .hbm, ⟨3, _⟩ => ⟨S1x2048x5136, .f32⟩
  | .hbm, ⟨4, _⟩ => ⟨S1x2048x5120, .f32⟩
  | .hbm, ⟨5, _⟩ => ⟨S2048x5120, .f32⟩
  | .hbm, ⟨6, _⟩ => ⟨S2048x5120, .bf16⟩
  | .hbm, ⟨7, _⟩ => ⟨S1x2048x16, .f32⟩
  | .hbm, ⟨8, _⟩ => ⟨S2048x16, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x128, .bf16⟩
  | .hbm, ⟨13, _⟩ => ⟨S8192x2048, .f32⟩
  | .hbm, ⟨14, _⟩ => ⟨S128x2048, .f32⟩
  | .hbm, ⟨15, _⟩ => ⟨S_, .f32⟩
  | .hbm, ⟨16, _⟩ => ⟨S128x2048, .f32⟩
  | .hbm, ⟨17, _⟩ => ⟨S8448x2048, .f32⟩
  | .hbm, ⟨18, _⟩ => ⟨S2048, .f32⟩
  | .hbm, ⟨19, _⟩ => ⟨S1x2048, .f32⟩
  | .hbm, ⟨20, _⟩ => ⟨S8448x5120, .f32⟩
  | .hbm, ⟨21, _⟩ => ⟨S8448x128, .f32⟩
  | .local _ .vmem, ⟨0, _⟩ => ⟨S384x2048, .f32⟩
  | .local _ .vmem, ⟨1, _⟩ => ⟨S384x2048, .f32⟩
  | .local _ .vmem, ⟨2, _⟩ => ⟨S1x2048, .f32⟩
  | .local _ .vmem, ⟨3, _⟩ => ⟨S2048x5120, .bf16⟩
  | .local _ .vmem, ⟨4, _⟩ => ⟨S2048x128, .bf16⟩
  | .local _ .vmem, ⟨5, _⟩ => ⟨S384x5120, .f32⟩
  | .local _ .vmem, ⟨6, _⟩ => ⟨S384x5120, .f32⟩
  | .local _ .vmem, ⟨7, _⟩ => ⟨S384x128, .f32⟩
  | .local _ .vmem, ⟨8, _⟩ => ⟨S384x128, .f32⟩
  | .local _ .vmem, ⟨9, _⟩ => ⟨S384x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![22, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S384x5120 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InProjRefIdeal.lean ====
abbrev S4x2048x2048 : Shape := ⟨3, ![4, 2048, 2048]⟩
abbrev S128x1x2048 : Shape := ⟨3, ![128, 1, 2048]⟩
abbrev S1x2048 : Shape := ⟨2, ![1, 2048]⟩
abbrev S1x2048x5136 : Shape := ⟨3, ![1, 2048, 5136]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x5136 : Shape := ⟨2, ![2048, 5136]⟩
abbrev S4x2048x5136 : Shape := ⟨3, ![4, 2048, 5136]⟩
abbrev S128x1 : Shape := ⟨2, ![128, 1]⟩
abbrev S128x1x1 : Shape := ⟨3, ![128, 1, 1]⟩
abbrev S128x1x5136 : Shape := ⟨3, ![128, 1, 5136]⟩
abbrev S8192x5136 : Shape := ⟨2, ![8192, 5136]⟩
abbrev S128x5136 : Shape := ⟨2, ![128, 5136]⟩
abbrev S8448x5136 : Shape := ⟨2, ![8448, 5136]⟩
abbrev S8448x5120 : Shape := ⟨2, ![8448, 5120]⟩
abbrev S8448x16 : Shape := ⟨2, ![8448, 16]⟩
abbrev S8448x128 : Shape := ⟨2, ![8448, 128]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S128x1x2048, .f32⟩
  | .hbm, ⟨2, _⟩ => ⟨S1x2048, .f32⟩
  | .hbm, ⟨3, _⟩ => ⟨S1x2048x5136, .f32⟩
  | .hbm, ⟨4, _⟩ => ⟨S2048, .f32⟩
  | .hbm, ⟨5, _⟩ => ⟨S4x2048x2048, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S1x1x2048, .f32⟩
  | .hbm, ⟨19, _⟩ => ⟨S4x2048x2048, .f32⟩
  | .hbm, ⟨20, _⟩ => ⟨S4x2048x2048, .f32⟩
  | .hbm, ⟨21, _⟩ => ⟨S2048x5136, .f32⟩
  | .hbm, ⟨22, _⟩ => ⟨S4x2048x5136, .f32⟩
  | .hbm, ⟨23, _⟩ => ⟨S2048, .f32⟩
  | .hbm, ⟨24, _⟩ => ⟨S128x1x2048, .f32⟩
  | .hbm, ⟨25, _⟩ => ⟨S_, .f32⟩
  | .hbm, ⟨26, _⟩ => ⟨S128x1, .f32⟩
  | .hbm, ⟨27, _⟩ => ⟨S128x1x1, .f32⟩
  | .hbm, ⟨28, _⟩ => ⟨S_, .f32⟩
  | .hbm, ⟨29, _⟩ => ⟨S128x1x1, .f32⟩
  | .hbm, ⟨30, _⟩ => ⟨S128x1x1, .f32⟩
  | .hbm, ⟨31, _⟩ => ⟨S_, .f32⟩
  | .hbm, ⟨32, _⟩ => ⟨S128x1x1, .f32⟩
  | .hbm, ⟨33, _⟩ => ⟨S128x1x1, .f32⟩
  | .hbm, ⟨34, _⟩ => ⟨S128x1x1, .f32⟩
  | .hbm, ⟨35, _⟩ => ⟨S128x1x2048, .f32⟩
  | .hbm, ⟨36, _⟩ => ⟨S128x1x2048, .f32⟩
  | .hbm, ⟨37, _⟩ => ⟨S1x1x2048, .f32⟩
  | .hbm, ⟨38, _⟩ => ⟨S128x1x2048, .f32⟩
  | .hbm, ⟨39, _⟩ => ⟨S128x1x2048, .f32⟩
  | .hbm, ⟨40, _⟩ => ⟨S2048x5136, .f32⟩
  | .hbm, ⟨41, _⟩ => ⟨S128x1x5136, .f32⟩
  | .hbm, ⟨42, _⟩ => ⟨S8192x5136, .f32⟩
  | .hbm, ⟨43, _⟩ => ⟨S128x5136, .f32⟩
  | .hbm, ⟨44, _⟩ => ⟨S_, .f32⟩
  | .hbm, ⟨45, _⟩ => ⟨S128x5136, .f32⟩
  | .hbm, ⟨46, _⟩ => ⟨S8448x5136, .f32⟩
  | .hbm, ⟨47, _⟩ => ⟨S8448x5120, .f32⟩
  | .hbm, ⟨48, _⟩ => ⟨S8448x16, .f32⟩
  | .hbm, ⟨49, _⟩ => ⟨S_, .i32⟩
  | .hbm, ⟨50, _⟩ => ⟨S_, .f32⟩
  | .hbm, ⟨51, _⟩ => ⟨S8448x128, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c : Ref sig .tc := ⟨.hbm, 49, rfl⟩
abbrev main_call0_v0 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== OutProj.lean ====
abbrev S8448x2048 : Shape := ⟨2, ![8448, 2048]⟩
abbrev S1x2048x2048 : Shape := ⟨3, ![1, 2048, 2048]⟩
abbrev S2048x2048 : Shape := ⟨2, ![2048, 2048]⟩
abbrev S768x2048 : Shape := ⟨2, ![768, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S1x2048x2048, .f32⟩
  | .hbm, ⟨2, _⟩ => ⟨S8448x2048, .f32⟩
  | .hbm, ⟨3, _⟩ => ⟨S2048x2048, .f32⟩
  | .hbm, ⟨4, _⟩ => ⟨S2048x2048, .bf16⟩
  | .hbm, ⟨5, _⟩ => ⟨S8448x2048, .f32⟩
  | .local _ .vmem, ⟨0, _⟩ => ⟨S768x2048, .f32⟩
  | .local _ .vmem, ⟨1, _⟩ => ⟨S768x2048, .f32⟩
  | .local _ .vmem, ⟨2, _⟩ => ⟨S2048x2048, .bf16⟩
  | .local _ .vmem, ⟨3, _⟩ => ⟨S768x2048, .f32⟩
  | .local _ .vmem, ⟨4, _⟩ => ⟨S768x2048, .f32⟩
  | .local _ .vmem, ⟨5, _⟩ => ⟨S768x2048, .f32⟩
  | .local _ .vmem, ⟨6, _⟩ => ⟨S768x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutProjRefIdeal.lean ====
abbrev S8448x2048 : Shape := ⟨2, ![8448, 2048]⟩
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S1x2048x2048, .f32⟩
  | .hbm, ⟨2, _⟩ => ⟨S8448x2048, .f32⟩
  | .hbm, ⟨3, _⟩ => ⟨S2048x2048, .f32⟩
  | .hbm, ⟨4, _⟩ => ⟨S8448x2048, .f32⟩
  | .hbm, ⟨5, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== XOut.lean ====
abbrev S8448x2048 : Shape := ⟨2, ![8448, 2048]⟩
abbrev S1x2048x2048 : Shape := ⟨3, ![1, 2048, 2048]⟩
abbrev S2048x2048 : Shape := ⟨2, ![2048, 2048]⟩
abbrev S768x2048 : Shape := ⟨2, ![768, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S1x2048x2048, .f32⟩
  | .hbm, ⟨2, _⟩ => ⟨S8448x2048, .f32⟩
  | .hbm, ⟨3, _⟩ => ⟨S2048x2048, .f32⟩
  | .hbm, ⟨4, _⟩ => ⟨S2048x2048, .bf16⟩
  | .hbm, ⟨5, _⟩ => ⟨S8448x2048, .f32⟩
  | .local _ .vmem, ⟨0, _⟩ => ⟨S768x2048, .bf16⟩
  | .local _ .vmem, ⟨1, _⟩ => ⟨S768x2048, .bf16⟩
  | .local _ .vmem, ⟨2, _⟩ => ⟨S2048x2048, .bf16⟩
  | .local _ .vmem, ⟨3, _⟩ => ⟨S768x2048, .f32⟩
  | .local _ .vmem, ⟨4, _⟩ => ⟨S768x2048, .f32⟩
  | .local _ .vmem, ⟨5, _⟩ => ⟨S768x2048, .f32⟩
  | .local _ .vmem, ⟨6, _⟩ => ⟨S768x2048, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== XOutRefIdeal.lean ====
abbrev S8448x2048 : Shape := ⟨2, ![8448, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S1x2048x2048, .f32⟩
  | .hbm, ⟨2, _⟩ => ⟨S8448x2048, .f32⟩
  | .hbm, ⟨3, _⟩ => ⟨S8448x2048, .f32⟩
  | .hbm, ⟨4, _⟩ => ⟨S2048x2048, .f32⟩
  | .hbm, ⟨5, _⟩ => ⟨S8448x2048, .f32⟩
  | .hbm, ⟨6, _⟩ => ⟨S8448x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== XQuery.lean ====
abbrev S8448x2048 : Shape := ⟨2, ![8448, 2048]⟩
abbrev S1x2048 : Shape := ⟨2, ![1, 2048]⟩
abbrev S1x2048x2048 : Shape := ⟨3, ![1, 2048, 2048]⟩
abbrev S2048 : Shape := ⟨1, ![2048]⟩
abbrev S2048x2048 : Shape := ⟨2, ![2048, 2048]⟩
abbrev S768x2048 : Shape := ⟨2, ![768, 2048]⟩
abbrev S768 : Shape := ⟨1, ![768]⟩
abbrev S768x1 : Shape := ⟨2, ![768, 1]⟩

abbrev nBuf : Space → Nat
  | .hbm => 8
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S1x2048, .f32⟩
  | .hbm, ⟨2, _⟩ => ⟨S1x2048x2048, .f32⟩
  | .hbm, ⟨3, _⟩ => ⟨S2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S8448x2048, .bf16⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S2048x2048, .bf16⟩
  | .local _ .vmem, ⟨4, _⟩ => ⟨S768x2048, .bf16⟩
  | .local _ .vmem, ⟨5, _⟩ => ⟨S768x2048, .bf16⟩
  | .local _ .vmem, ⟨6, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S768x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== XQueryRefIdeal.lean ====
abbrev S8448x2048 : Shape := ⟨2, ![8448, 2048]⟩
abbrev S1x2048 : Shape := ⟨2, ![1, 2048]⟩
abbrev S1x2048x2048 : Shape := ⟨3, ![1, 2048, 2048]⟩
abbrev S2048 : Shape := ⟨1, ![2048]⟩
abbrev S_ : Shape := ⟨0, ![]⟩
abbrev S8448 : Shape := ⟨1, ![8448]⟩
abbrev S8448x1 : Shape := ⟨2, ![8448, 1]⟩
abbrev S2048x2048 : Shape := ⟨2, ![2048, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S1x2048, .f32⟩
  | .hbm, ⟨2, _⟩ => ⟨S1x2048x2048, .f32⟩
  | .hbm, ⟨3, _⟩ => ⟨S2048, .f32⟩
  | .hbm, ⟨4, _⟩ => ⟨S8448x2048, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x2048, .f32⟩
  | .hbm, ⟨16, _⟩ => ⟨S8448x2048, .f32⟩
  | .hbm, ⟨17, _⟩ => ⟨S1x2048, .f32⟩
  | .hbm, ⟨18, _⟩ => ⟨S8448x2048, .f32⟩
  | .hbm, ⟨19, _⟩ => ⟨S8448x2048, .f32⟩
  | .hbm, ⟨20, _⟩ => ⟨S2048x2048, .f32⟩
  | .hbm, ⟨21, _⟩ => ⟨S8448x2048, .f32⟩
  | .hbm, ⟨22, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== PQuery.lean ====
abbrev S8448x2048 : Shape := ⟨2, ![8448, 2048]⟩
abbrev S1x2048 : Shape := ⟨2, ![1, 2048]⟩
abbrev S1x2048x2048 : Shape := ⟨3, ![1, 2048, 2048]⟩
abbrev S2048 : Shape := ⟨1, ![2048]⟩
abbrev S2048x2048 : Shape := ⟨2, ![2048, 2048]⟩
abbrev S768x2048 : Shape := ⟨2, ![768, 2048]⟩
abbrev S768 : Shape := ⟨1, ![768]⟩
abbrev S768x1 : Shape := ⟨2, ![768, 1]⟩

abbrev nBuf : Space → Nat
  | .hbm => 9
  | .vmem => 9
  | .smem => 0
  | _ => 0

abbrev bufTy : (tb : Table) → Fin (tcTables nBuf tb) → BufTy
  | .hbm, ⟨0, _⟩ => ⟨S8448x2048, .f32⟩
  | .hbm, ⟨1, _⟩ => ⟨S1x2048, .f32⟩
  | .hbm, ⟨2, _⟩ => ⟨S1x2048x2048, .f32⟩
  | .hbm, ⟨3, _⟩ => ⟨S2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S8448x2048, .bf16⟩
  | .hbm, ⟨8, _⟩ => ⟨S8448x2048, .bf16⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S2048x2048, .bf16⟩
  | .local _ .vmem, ⟨4, _⟩ => ⟨S768x2048, .bf16⟩
  | .local _ .vmem, ⟨5, _⟩ => ⟨S768x2048, .bf16⟩
  | .local _ .vmem, ⟨6, _⟩ => ⟨S768x2048, .bf16⟩
  | .local _ .vmem, ⟨7, _⟩ => ⟨S768x2048, .bf16⟩
  | .local _ .vmem, ⟨8, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![11, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S768x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== PQueryRefIdeal.lean ====
abbrev S8448x2048 : Shape := ⟨2, ![8448, 2048]⟩
abbrev S1x2048 : Shape := ⟨2, ![1, 2048]⟩
abbrev S1x2048x2048 : Shape := ⟨3, ![1, 2048, 2048]⟩
abbrev S2048 : Shape := ⟨1, ![2048]⟩
abbrev S_ : Shape := ⟨0, ![]⟩
abbrev S8448 : Shape := ⟨1, ![8448]⟩
abbrev S8448x1 : Shape := ⟨2, ![8448, 1]⟩
abbrev S2048x2048 : Shape := ⟨2, ![2048, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S1x2048, .f32⟩
  | .hbm, ⟨2, _⟩ => ⟨S1x2048x2048, .f32⟩
  | .hbm, ⟨3, _⟩ => ⟨S2048, .f32⟩
  | .hbm, ⟨4, _⟩ => ⟨S8448x2048, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x2048, .f32⟩
  | .hbm, ⟨16, _⟩ => ⟨S8448x2048, .f32⟩
  | .hbm, ⟨17, _⟩ => ⟨S1x2048, .f32⟩
  | .hbm, ⟨18, _⟩ => ⟨S8448x2048, .f32⟩
  | .hbm, ⟨19, _⟩ => ⟨S8448x2048, .f32⟩
  | .hbm, ⟨20, _⟩ => ⟨S2048x2048, .f32⟩
  | .hbm, ⟨21, _⟩ => ⟨S8448x2048, .f32⟩
  | .hbm, ⟨22, _⟩ => ⟨S8448x2048, .bf16⟩
  | .hbm, ⟨23, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== MemKV.lean ====
abbrev S4x256x2048 : Shape := ⟨3, ![4, 256, 2048]⟩
abbrev S1x2048 : Shape := ⟨2, ![1, 2048]⟩
abbrev S1x2048x2048 : Shape := ⟨3, ![1, 2048, 2048]⟩
abbrev S1024x2048 : Shape := ⟨2, ![1024, 2048]⟩
abbrev S2048 : Shape := ⟨1, ![2048]⟩
abbrev S2048x2048 : Shape := ⟨2, ![2048, 2048]⟩
abbrev S1024x4x512 : Shape := ⟨3, ![1024, 4, 512]⟩
abbrev S512x2048 : Shape := ⟨2, ![512, 2048]⟩
abbrev S512x4x512 : Shape := ⟨3, ![512, 4, 512]⟩
abbrev S512 : Shape := ⟨1, ![512]⟩
abbrev S512x1 : Shape := ⟨2, ![512, 1]⟩
abbrev S512x512 : Shape := ⟨2, ![512, 512]⟩
abbrev S512x1x512 : Shape := ⟨3, ![512, 1, 512]⟩

abbrev nBuf : Space → Nat
  | .hbm => 10
  | .vmem => 9
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x2048, .f32⟩
  | .hbm, ⟨3, _⟩ => ⟨S1024x2048, .f32⟩
  | .hbm, ⟨4, _⟩ => ⟨S2048, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S1024x2048, .f32⟩
  | .hbm, ⟨9, _⟩ => ⟨S1024x4x512, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S512x4x512, .f32⟩
  | .local _ .vmem, ⟨7, _⟩ => ⟨S512x4x512, .f32⟩
  | .local _ .vmem, ⟨8, _⟩ => ⟨S512x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MemKVRefIdeal.lean ====
abbrev S4x256x2048 : Shape := ⟨3, ![4, 256, 2048]⟩
abbrev S1x2048 : Shape := ⟨2, ![1, 2048]⟩
abbrev S1x2048x2048 : Shape := ⟨3, ![1, 2048, 2048]⟩
abbrev S2048 : Shape := ⟨1, ![2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S2048x2048 : Shape := ⟨2, ![2048, 2048]⟩
abbrev S4x256x4x512 : Shape := ⟨4, ![4, 256, 4, 512]⟩
abbrev S1024x2048 : Shape := ⟨2, ![1024, 2048]⟩
abbrev S1024x4x512 : Shape := ⟨3, ![1024, 4, 512]⟩

abbrev nBuf : Space → Nat
  | .hbm => 25
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x2048, .f32⟩
  | .hbm, ⟨3, _⟩ => ⟨S2048, .f32⟩
  | .hbm, ⟨4, _⟩ => ⟨S4x256x2048, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x2048, .f32⟩
  | .hbm, ⟨16, _⟩ => ⟨S4x256x2048, .f32⟩
  | .hbm, ⟨17, _⟩ => ⟨S1x1x2048, .f32⟩
  | .hbm, ⟨18, _⟩ => ⟨S4x256x2048, .f32⟩
  | .hbm, ⟨19, _⟩ => ⟨S4x256x2048, .f32⟩
  | .hbm, ⟨20, _⟩ => ⟨S2048x2048, .f32⟩
  | .hbm, ⟨21, _⟩ => ⟨S4x256x2048, .f32⟩
  | .hbm, ⟨22, _⟩ => ⟨S4x256x4x512, .f32⟩
  | .hbm, ⟨23, _⟩ => ⟨S1024x2048, .f32⟩
  | .hbm, ⟨24, _⟩ => ⟨S1024x4x512, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== AttnSample.lean ====
abbrev S8448x2048 : Shape := ⟨2, ![8448, 2048]⟩
abbrev S1x128x256x4x512 : Shape := ⟨5, ![1, 128, 256, 4, 512]⟩
abbrev S128x2048 : Shape := ⟨2, ![128, 2048]⟩
abbrev S128x4x512 : Shape := ⟨3, ![128, 4, 512]⟩
abbrev S2x4x512 : Shape := ⟨3, ![2, 4, 512]⟩
abbrev S1x2x256x4x512 : Shape := ⟨5, ![1, 2, 256, 4, 512]⟩
abbrev S1x4x512 : Shape := ⟨3, ![1, 4, 512]⟩
abbrev S1x1x256x4x512 : Shape := ⟨5, ![1, 1, 256, 4, 512]⟩
abbrev S256x4x512 : Shape := ⟨3, ![256, 4, 512]⟩
abbrev S256x4 : Shape := ⟨2, ![256, 4]⟩
abbrev S256x4x1 : Shape := ⟨3, ![256, 4, 1]⟩
abbrev S4x1 : Shape := ⟨2, ![4, 1]⟩
abbrev S1x4x1 : Shape := ⟨3, ![1, 4, 1]⟩
abbrev S4x512 : Shape := ⟨2, ![4, 512]⟩

abbrev nBuf : Space → Nat
  | .hbm => 6
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S1x128x256x4x512, .f32⟩
  | .hbm, ⟨2, _⟩ => ⟨S1x128x256x4x512, .f32⟩
  | .hbm, ⟨3, _⟩ => ⟨S128x2048, .bf16⟩
  | .hbm, ⟨4, _⟩ => ⟨S128x4x512, .bf16⟩
  | .hbm, ⟨5, _⟩ => ⟨S128x4x512, .bf16⟩
  | .local _ .vmem, ⟨0, _⟩ => ⟨S2x4x512, .bf16⟩
  | .local _ .vmem, ⟨1, _⟩ => ⟨S2x4x512, .bf16⟩
  | .local _ .vmem, ⟨2, _⟩ => ⟨S1x2x256x4x512, .f32⟩
  | .local _ .vmem, ⟨3, _⟩ => ⟨S1x2x256x4x512, .f32⟩
  | .local _ .vmem, ⟨4, _⟩ => ⟨S1x2x256x4x512, .f32⟩
  | .local _ .vmem, ⟨5, _⟩ => ⟨S1x2x256x4x512, .f32⟩
  | .local _ .vmem, ⟨6, _⟩ => ⟨S2x4x512, .bf16⟩
  | .local _ .vmem, ⟨7, _⟩ => ⟨S2x4x512, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x256x4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x256x4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x4x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnSampleRefIdeal.lean ====
abbrev S8448x2048 : Shape := ⟨2, ![8448, 2048]⟩
abbrev S1x128x256x4x512 : Shape := ⟨5, ![1, 128, 256, 4, 512]⟩
abbrev S128x2048 : Shape := ⟨2, ![128, 2048]⟩
abbrev S128x1x4x512 : Shape := ⟨4, ![128, 1, 4, 512]⟩
abbrev S128x256x4x512 : Shape := ⟨4, ![128, 256, 4, 512]⟩
abbrev S128x4x1x256 : Shape := ⟨4, ![128, 4, 1, 256]⟩
abbrev S_ : Shape := ⟨0, ![]⟩
abbrev S128x4x1 : Shape := ⟨3, ![128, 4, 1]⟩
abbrev S128x4x1x1 : Shape := ⟨4, ![128, 4, 1, 1]⟩
abbrev S128x4x512x1 : Shape := ⟨4, ![128, 4, 512, 1]⟩
abbrev S128x4x512 : Shape := ⟨3, ![128, 4, 512]⟩

abbrev nBuf : Space → Nat
  | .hbm => 30
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S1x128x256x4x512, .f32⟩
  | .hbm, ⟨2, _⟩ => ⟨S1x128x256x4x512, .f32⟩
  | .hbm, ⟨3, _⟩ => ⟨S128x2048, .bf16⟩
  | .hbm, ⟨4, _⟩ => ⟨S128x2048, .f32⟩
  | .hbm, ⟨5, _⟩ => ⟨S128x1x4x512, .f32⟩
  | .hbm, ⟨6, _⟩ => ⟨S128x256x4x512, .f32⟩
  | .hbm, ⟨7, _⟩ => ⟨S128x256x4x512, .f32⟩
  | .hbm, ⟨8, _⟩ => ⟨S128x4x1x256, .f32⟩
  | .hbm, ⟨9, _⟩ => ⟨S_, .f32⟩
  | .hbm, ⟨10, _⟩ => ⟨S128x4x1x256, .f32⟩
  | .hbm, ⟨11, _⟩ => ⟨S128x4x1x256, .f32⟩
  | .hbm, ⟨12, _⟩ => ⟨S_, .f32⟩
  | .hbm, ⟨13, _⟩ => ⟨S128x4x1, .f32⟩
  | .hbm, ⟨14, _⟩ => ⟨S_, .f32⟩
  | .hbm, ⟨15, _⟩ => ⟨S128x4x1, .f32⟩
  | .hbm, ⟨16, _⟩ => ⟨S128x4x1, .f32⟩
  | .hbm, ⟨17, _⟩ => ⟨S128x4x1x1, .f32⟩
  | .hbm, ⟨18, _⟩ => ⟨S128x4x1x256, .f32⟩
  | .hbm, ⟨19, _⟩ => ⟨S128x4x1x256, .f32⟩
  | .hbm, ⟨20, _⟩ => ⟨S128x4x1x256, .f32⟩
  | .hbm, ⟨21, _⟩ => ⟨S_, .f32⟩
  | .hbm, ⟨22, _⟩ => ⟨S128x4x1, .f32⟩
  | .hbm, ⟨23, _⟩ => ⟨S128x4x1x1, .f32⟩
  | .hbm, ⟨24, _⟩ => ⟨S128x4x1x256, .f32⟩
  | .hbm, ⟨25, _⟩ => ⟨S128x4x1x256, .f32⟩
  | .hbm, ⟨26, _⟩ => ⟨S128x4x512x1, .f32⟩
  | .hbm, ⟨27, _⟩ => ⟨S128x1x4x512, .f32⟩
  | .hbm, ⟨28, _⟩ => ⟨S128x4x512, .f32⟩
  | .hbm, ⟨29, _⟩ => ⟨S128x4x512, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== FinalPrompt.lean ====
abbrev S8448x2048 : Shape := ⟨2, ![8448, 2048]⟩
abbrev S2048x8448 : Shape := ⟨2, ![2048, 8448]⟩
abbrev S2048 : Shape := ⟨1, ![2048]⟩
abbrev S1x2048 : Shape := ⟨2, ![1, 2048]⟩
abbrev S8192x2048 : Shape := ⟨2, ![8192, 2048]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2048x8448, .f32⟩
  | .hbm, ⟨2, _⟩ => ⟨S2048, .f32⟩
  | .hbm, ⟨3, _⟩ => ⟨S1x2048, .f32⟩
  | .hbm, ⟨4, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S2048x256, .f32⟩
  | .local _ .vmem, ⟨3, _⟩ => ⟨S2048x256, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FinalPromptRefIdeal.lean ====
abbrev S8448x2048 : Shape := ⟨2, ![8448, 2048]⟩
abbrev S2048x8448 : Shape := ⟨2, ![2048, 8448]⟩
abbrev S2048 : Shape := ⟨1, ![2048]⟩
abbrev S8192x2048 : Shape := ⟨2, ![8192, 2048]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x8448, .f32⟩
  | .hbm, ⟨2, _⟩ => ⟨S2048, .f32⟩
  | .hbm, ⟨3, _⟩ => ⟨S8192x2048, .f32⟩
  | .hbm, ⟨4, _⟩ => ⟨S4x2048x2048, .f32⟩
  | .hbm, ⟨5, _⟩ => ⟨S8448x2048, .f32⟩
  | .hbm, ⟨6, _⟩ => ⟨S8192x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x2048, .f32⟩
  | .hbm, ⟨21, _⟩ => ⟨S4x2048x2048, .f32⟩
  | .hbm, ⟨22, _⟩ => ⟨S1x1x2048, .f32⟩
  | .hbm, ⟨23, _⟩ => ⟨S4x2048x2048, .f32⟩
  | .hbm, ⟨24, _⟩ => ⟨S4x2048x2048, .f32⟩
  | .hbm, ⟨25, _⟩ => ⟨S8192x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== FinalSample.lean ====
abbrev S8448x2048 : Shape := ⟨2, ![8448, 2048]⟩
abbrev S2048x8448 : Shape := ⟨2, ![2048, 8448]⟩
abbrev S2048 : Shape := ⟨1, ![2048]⟩
abbrev S1x2048 : Shape := ⟨2, ![1, 2048]⟩
abbrev S128x2048 : Shape := ⟨2, ![128, 2048]⟩
abbrev S2048x128 : Shape := ⟨2, ![2048, 128]⟩
abbrev S128 : Shape := ⟨1, ![128]⟩
abbrev S128x1 : Shape := ⟨2, ![128, 1]⟩

abbrev nBuf : Space → Nat
  | .hbm => 5
  | .vmem => 4
  | .smem => 0
  | _ => 0

abbrev bufTy : (tb : Table) → Fin (tcTables nBuf tb) → BufTy
  | .hbm, ⟨0, _⟩ => ⟨S8448x2048, .f32⟩
  | .hbm, ⟨1, _⟩ => ⟨S2048x8448, .f32⟩
  | .hbm, ⟨2, _⟩ => ⟨S2048, .f32⟩
  | .hbm, ⟨3, _⟩ => ⟨S1x2048, .f32⟩
  | .hbm, ⟨4, _⟩ => ⟨S128x2048, .f32⟩
  | .local _ .vmem, ⟨0, _⟩ => ⟨S128x2048, .f32⟩
  | .local _ .vmem, ⟨1, _⟩ => ⟨S2048x128, .f32⟩
  | .local _ .vmem, ⟨2, _⟩ => ⟨S1x2048, .f32⟩
  | .local _ .vmem, ⟨3, _⟩ => ⟨S128x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== FinalSampleRefIdeal.lean ====
abbrev S8448x2048 : Shape := ⟨2, ![8448, 2048]⟩
abbrev S2048x8448 : Shape := ⟨2, ![2048, 8448]⟩
abbrev S2048 : Shape := ⟨1, ![2048]⟩
abbrev S128x2048 : Shape := ⟨2, ![128, 2048]⟩
abbrev S128x1x2048 : Shape := ⟨3, ![128, 1, 2048]⟩
abbrev S_ : Shape := ⟨0, ![]⟩
abbrev S128x1 : Shape := ⟨2, ![128, 1]⟩
abbrev S128x1x1 : Shape := ⟨3, ![128, 1, 1]⟩
abbrev S1x1x2048 : Shape := ⟨3, ![1, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x8448, .f32⟩
  | .hbm, ⟨2, _⟩ => ⟨S2048, .f32⟩
  | .hbm, ⟨3, _⟩ => ⟨S128x2048, .f32⟩
  | .hbm, ⟨4, _⟩ => ⟨S128x1x2048, .f32⟩
  | .hbm, ⟨5, _⟩ => ⟨S8448x2048, .f32⟩
  | .hbm, ⟨6, _⟩ => ⟨S128x2048, .f32⟩
  | .hbm, ⟨7, _⟩ => ⟨S128x1x2048, .f32⟩
  | .hbm, ⟨8, _⟩ => ⟨S128x1x2048, .f32⟩
  | .hbm, ⟨9, _⟩ => ⟨S128x1x2048, .f32⟩
  | .hbm, ⟨10, _⟩ => ⟨S_, .f32⟩
  | .hbm, ⟨11, _⟩ => ⟨S128x1, .f32⟩
  | .hbm, ⟨12, _⟩ => ⟨S128x1x1, .f32⟩
  | .hbm, ⟨13, _⟩ => ⟨S_, .f32⟩
  | .hbm, ⟨14, _⟩ => ⟨S128x1x1, .f32⟩
  | .hbm, ⟨15, _⟩ => ⟨S128x1x1, .f32⟩
  | .hbm, ⟨16, _⟩ => ⟨S_, .f32⟩
  | .hbm, ⟨17, _⟩ => ⟨S128x1x1, .f32⟩
  | .hbm, ⟨18, _⟩ => ⟨S128x1x1, .f32⟩
  | .hbm, ⟨19, _⟩ => ⟨S128x1x1, .f32⟩
  | .hbm, ⟨20, _⟩ => ⟨S128x1x2048, .f32⟩
  | .hbm, ⟨21, _⟩ => ⟨S128x1x2048, .f32⟩
  | .hbm, ⟨22, _⟩ => ⟨S1x1x2048, .f32⟩
  | .hbm, ⟨23, _⟩ => ⟨S128x1x2048, .f32⟩
  | .hbm, ⟨24, _⟩ => ⟨S128x1x2048, .f32⟩
  | .hbm, ⟨25, _⟩ => ⟨S128x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Sgu.lean ====
abbrev S8448x5120 : Shape := ⟨2, ![8448, 5120]⟩
abbrev S1x8x128x128 : Shape := ⟨4, ![1, 8, 128, 128]⟩
abbrev S1x8x128 : Shape := ⟨3, ![1, 8, 128]⟩
abbrev S_ : Shape := ⟨0, ![]⟩
abbrev S128x128 : Shape := ⟨2, ![128, 128]⟩
abbrev S8x128x128 : Shape := ⟨3, ![8, 128, 128]⟩
abbrev S8x128 : Shape := ⟨2, ![8, 128]⟩
abbrev S128x8 : Shape := ⟨2, ![128, 8]⟩
abbrev S1x1024 : Shape := ⟨2, ![1, 1024]⟩
abbrev S8448x2048 : Shape := ⟨2, ![8448, 2048]⟩
abbrev S4x128x1024 : Shape := ⟨3, ![4, 128, 1024]⟩
abbrev S256x1024 : Shape := ⟨2, ![256, 1024]⟩
abbrev S1x128x1024 : Shape := ⟨3, ![1, 128, 1024]⟩
abbrev S128 : Shape := ⟨1, ![128]⟩
abbrev S128x1 : Shape := ⟨2, ![128, 1]⟩
abbrev S1x128 : Shape := ⟨2, ![1, 128]⟩
abbrev S1x128x128 : Shape := ⟨3, ![1, 128, 128]⟩

abbrev nBuf : Space → Nat
  | .hbm => 30
  | .vmem => 11
  | .smem => 0
  | _ => 0

abbrev bufTy : (tb : Table) → Fin (tcTables nBuf tb) → BufTy
  | .hbm, ⟨0, _⟩ => ⟨S8448x5120, .f32⟩
  | .hbm, ⟨1, _⟩ => ⟨S1x8x128x128, .f32⟩
  | .hbm, ⟨2, _⟩ => ⟨S1x8x128, .f32⟩
  | .hbm, ⟨3, _⟩ => ⟨S1x8x128, .f32⟩
  | .hbm, ⟨4, _⟩ => ⟨S_, .i1⟩
  | .hbm, ⟨5, _⟩ => ⟨S128x128, .i1⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S128x128, .i1⟩
  | .hbm, ⟨12, _⟩ => ⟨S_, .i1⟩
  | .hbm, ⟨13, _⟩ => ⟨S128x128, .i1⟩
  | .hbm, ⟨14, _⟩ => ⟨S128x128, .i1⟩
  | .hbm, ⟨15, _⟩ => ⟨S8x128x128, .f32⟩
  | .hbm, ⟨16, _⟩ => ⟨S_, .i32⟩
  | .hbm, ⟨17, _⟩ => ⟨S_, .f32⟩
  | .hbm, ⟨18, _⟩ => ⟨S8x128x128, .i1⟩
  | .hbm, ⟨19, _⟩ => ⟨S8x128x128, .f32⟩
  | .hbm, ⟨20, _⟩ => ⟨S8x128x128, .f32⟩
  | .hbm, ⟨21, _⟩ => ⟨S8x128x128, .bf16⟩
  | .hbm, ⟨22, _⟩ => ⟨S8x128, .f32⟩
  | .hbm, ⟨23, _⟩ => ⟨S128x8, .f32⟩
  | .hbm, ⟨24, _⟩ => ⟨S8x128, .f32⟩
  | .hbm, ⟨25, _⟩ => ⟨S1x1024, .f32⟩
  | .hbm, ⟨26, _⟩ => ⟨S_, .f32⟩
  | .hbm, ⟨27, _⟩ => ⟨S8448x2048, .f32⟩
  | .hbm, ⟨28, _⟩ => ⟨S8448x2048, .f32⟩
  | .hbm, ⟨29, _⟩ => ⟨S4x128x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x128x128, .bf16⟩
  | .local _ .vmem, ⟨5, _⟩ => ⟨S128x8, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S1x128x1024, .f32⟩
  | .local _ .vmem, ⟨10, _⟩ => ⟨S1x128x1024, .f32⟩
  | _, _ => ⟨S8448x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_0 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10_0 : Ref sig .tc := ⟨.hbm, 28, rfl⟩
abbrev main_v10_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SguIdeal.lean ====
variable {F : FTy → Type} [FloatOps F] [Named F]
def κ : String → Option EReal := fun
  | "gelu_cub" => some ((-(((Real.log 2)⁻¹ * (6693141 / 4194304)) * (12003091 / 268435456)) : ℝ) : EReal)
  | "gelu_lin" => some ((-((Real.log 2)⁻¹ * (6693141 / 4194304)) : ℝ) : EReal)
  | _ => none
-- ==== SguRefIdeal.lean ====
abbrev S8448x5120 : Shape := ⟨2, ![8448, 5120]⟩
abbrev S1x8x128x128 : Shape := ⟨4, ![1, 8, 128, 128]⟩
abbrev S1x8x128 : Shape := ⟨3, ![1, 8, 128]⟩
abbrev S8192x2048 : Shape := ⟨2, ![8192, 2048]⟩
abbrev S4x2048x2048 : Shape := ⟨3, ![4, 2048, 2048]⟩
abbrev S_ : Shape := ⟨0, ![]⟩
abbrev S4x2048x1024 : Shape := ⟨3, ![4, 2048, 1024]⟩
abbrev S4x2048x8x128 : Shape := ⟨4, ![4, 2048, 8, 128]⟩
abbrev S8x128 : Shape := ⟨2, ![8, 128]⟩
abbrev S4x2048x8 : Shape := ⟨3, ![4, 2048, 8]⟩
abbrev S4x2048x8x1 : Shape := ⟨4, ![4, 2048, 8, 1]⟩
abbrev S1x1x8x128 : Shape := ⟨4, ![1, 1, 8, 128]⟩
abbrev S4x16x128x8x128 : Shape := ⟨5, ![4, 16, 128, 8, 128]⟩
abbrev S128x128 : Shape := ⟨2, ![128, 128]⟩
abbrev S8x128x128 : Shape := ⟨3, ![8, 128, 128]⟩
abbrev S128x8 : Shape := ⟨2, ![128, 8]⟩
abbrev S1x1x128x8x1 : Shape := ⟨5, ![1, 1, 128, 8, 1]⟩
abbrev S8x4x16x128x128 : Shape := ⟨5, ![8, 4, 16, 128, 128]⟩
abbrev S8192x1024 : Shape := ⟨2, ![8192, 1024]⟩
abbrev S4x128x8x128 : Shape := ⟨4, ![4, 128, 8, 128]⟩
abbrev S8448x2048 : Shape := ⟨2, ![8448, 2048]⟩
abbrev S4x128x1024 : Shape := ⟨3, ![4, 128, 1024]⟩

abbrev nBuf : Space → Nat
  | .hbm => 77
  | .vmem => 0
  | .smem => 0
  | _ => 0

abbrev bufTy : (tb : Table) → Fin (tcTables nBuf tb) → BufTy
  | .hbm, ⟨0, _⟩ => ⟨S8448x5120, .f32⟩
  | .hbm, ⟨1, _⟩ => ⟨S1x8x128x128, .f32⟩
  | .hbm, ⟨2, _⟩ => ⟨S1x8x128, .f32⟩
  | .hbm, ⟨3, _⟩ => ⟨S1x8x128, .f32⟩
  | .hbm, ⟨4, _⟩ => ⟨S8192x2048, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S_, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S_, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S_, .f32⟩
  | .hbm, ⟨17, _⟩ => ⟨S4x2048x2048, .f32⟩
  | .hbm, ⟨18, _⟩ => ⟨S4x2048x2048, .f32⟩
  | .hbm, ⟨19, _⟩ => ⟨S_, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S4x2048x1024, .f32⟩
  | .hbm, ⟨24, _⟩ => ⟨S4x2048x1024, .f32⟩
  | .hbm, ⟨25, _⟩ => ⟨S4x2048x8x128, .f32⟩
  | .hbm, ⟨26, _⟩ => ⟨S4x2048x8x128, .f32⟩
  | .hbm, ⟨27, _⟩ => ⟨S8x128, .f32⟩
  | .hbm, ⟨28, _⟩ => ⟨S4x2048x8x128, .f32⟩
  | .hbm, ⟨29, _⟩ => ⟨S_, .f32⟩
  | .hbm, ⟨30, _⟩ => ⟨S4x2048x8, .f32⟩
  | .hbm, ⟨31, _⟩ => ⟨S4x2048x8x1, .f32⟩
  | .hbm, ⟨32, _⟩ => ⟨S_, .f32⟩
  | .hbm, ⟨33, _⟩ => ⟨S4x2048x8x1, .f32⟩
  | .hbm, ⟨34, _⟩ => ⟨S4x2048x8x1, .f32⟩
  | .hbm, ⟨35, _⟩ => ⟨S_, .f32⟩
  | .hbm, ⟨36, _⟩ => ⟨S4x2048x8x1, .f32⟩
  | .hbm, ⟨37, _⟩ => ⟨S4x2048x8x1, .f32⟩
  | .hbm, ⟨38, _⟩ => ⟨S4x2048x8x1, .f32⟩
  | .hbm, ⟨39, _⟩ => ⟨S4x2048x8x128, .f32⟩
  | .hbm, ⟨40, _⟩ => ⟨S4x2048x8x128, .f32⟩
  | .hbm, ⟨41, _⟩ => ⟨S1x1x8x128, .f32⟩
  | .hbm, ⟨42, _⟩ => ⟨S4x2048x8x128, .f32⟩
  | .hbm, ⟨43, _⟩ => ⟨S4x2048x8x128, .f32⟩
  | .hbm, ⟨44, _⟩ => ⟨S4x16x128x8x128, .f32⟩
  | .hbm, ⟨45, _⟩ => ⟨S_, .i1⟩
  | .hbm, ⟨46, _⟩ => ⟨S128x128, .i1⟩
  | .hbm, ⟨47, _⟩ => ⟨S128x128, .i32⟩
  | .hbm, ⟨48, _⟩ => ⟨S_, .i32⟩
  | .hbm, ⟨49, _⟩ => ⟨S128x128, .i32⟩
  | .hbm, ⟨50, _⟩ => ⟨S128x128, .i32⟩
  | .hbm, ⟨51, _⟩ => ⟨S128x128, .i32⟩
  | .hbm, ⟨52, _⟩ => ⟨S128x128, .i1⟩
  | .hbm, ⟨53, _⟩ => ⟨S_, .i1⟩
  | .hbm, ⟨54, _⟩ => ⟨S128x128, .i1⟩
  | .hbm, ⟨55, _⟩ => ⟨S128x128, .i1⟩
  | .hbm, ⟨56, _⟩ => ⟨S8x128x128, .f32⟩
  | .hbm, ⟨57, _⟩ => ⟨S_, .i32⟩
  | .hbm, ⟨58, _⟩ => ⟨S_, .f32⟩
  | .hbm, ⟨59, _⟩ => ⟨S8x128x128, .i1⟩
  | .hbm, ⟨60, _⟩ => ⟨S8x128x128, .f32⟩
  | .hbm, ⟨61, _⟩ => ⟨S8x128x128, .f32⟩
  | .hbm, ⟨62, _⟩ => ⟨S8x128, .f32⟩
  | .hbm, ⟨63, _⟩ => ⟨S128x8, .f32⟩
  | .hbm, ⟨64, _⟩ => ⟨S1x1x128x8x1, .f32⟩
  | .hbm, ⟨65, _⟩ => ⟨S8x4x16x128x128, .f32⟩
  | .hbm, ⟨66, _⟩ => ⟨S4x16x128x8x128, .f32⟩
  | .hbm, ⟨67, _⟩ => ⟨S4x16x128x8x128, .f32⟩
  | .hbm, ⟨68, _⟩ => ⟨S4x16x128x8x128, .f32⟩
  | .hbm, ⟨69, _⟩ => ⟨S4x2048x8x128, .f32⟩
  | .hbm, ⟨70, _⟩ => ⟨S4x2048x8x128, .f32⟩
  | .hbm, ⟨71, _⟩ => ⟨S8192x1024, .f32⟩
  | .hbm, ⟨72, _⟩ => ⟨S4x128x8x128, .f32⟩
  | .hbm, ⟨73, _⟩ => ⟨S_, .i32⟩
  | .hbm, ⟨74, _⟩ => ⟨S_, .f32⟩
  | .hbm, ⟨75, _⟩ => ⟨S8448x2048, .f32⟩
  | .hbm, ⟨76, _⟩ => ⟨S4x128x1024, .f32⟩
  | _, _ => ⟨S8448x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c : Ref sig .tc := ⟨.hbm, 45, rfl⟩
abbrev main_v34 : Ref sig .tc := ⟨.hbm, 46, rfl⟩
abbrev main_call0_v0 : Ref sig .tc := ⟨.hbm, 47, rfl⟩
abbrev main_call0_c : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_c_0 : Ref sig .tc := ⟨.hbm, 53, rfl⟩
abbrev main_call0_v5 : Ref sig .tc := ⟨.hbm, 54, rfl⟩
abbrev main_v35 : Ref sig .tc := ⟨.hbm, 55, rfl⟩
abbrev main_v36 : Ref sig .tc := ⟨.hbm, 56, rfl⟩
abbrev main_c_6 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_7 : Ref sig .tc := ⟨.hbm, 73, rfl⟩
abbrev main_call2_v0 : Ref sig .tc := ⟨.hbm, 74, rfl⟩
abbrev main_v49 : Ref sig .tc := ⟨.hbm, 75, rfl⟩
abbrev main_v50 : Ref sig .tc := ⟨.hbm, 76, rfl⟩

abbrev nD : Nat := 1
abbrev τ : Topo := Topo.v7x

variable {F : FTy → Type} [FloatOps F]
-- ==== SMix.lean ====
abbrev S8448x5120 : Shape := ⟨2, ![8448, 5120]⟩
abbrev S8448x128 : Shape := ⟨2, ![8448, 128]⟩
abbrev S1x128x4x128x256 : Shape := ⟨5, ![1, 128, 4, 128, 256]⟩
abbrev S1x16x512 : Shape := ⟨3, ![1, 16, 512]⟩
abbrev S1x512 : Shape := ⟨2, ![1, 512]⟩
abbrev S1x8x128x128 : Shape := ⟨4, ![1, 8, 128, 128]⟩
abbrev S1x8x128 : Shape := ⟨3, ![1, 8, 128]⟩
abbrev S1x4x256 : Shape := ⟨3, ![1, 4, 256]⟩
abbrev S16x512 : Shape := ⟨2, ![16, 512]⟩
abbrev S_ : Shape := ⟨0, ![]⟩
abbrev S128x512 : Shape := ⟨2, ![128, 512]⟩
abbrev S512 : Shape := ⟨1, ![512]⟩
abbrev S8x128 : Shape := ⟨2, ![8, 128]⟩
abbrev S1x1024 : Shape := ⟨2, ![1, 1024]⟩
abbrev S4x256 : Shape := ⟨2, ![4, 256]⟩
abbrev S1x8x1x1 : Shape := ⟨4, ![1, 8, 1, 1]⟩
abbrev S8 : Shape := ⟨1, ![8]⟩
abbrev S1024 : Shape := ⟨1, ![1024]⟩
abbrev S1x8x1 : Shape := ⟨3, ![1, 8, 1]⟩
abbrev S128x4x128x256 : Shape := ⟨4, ![128, 4, 128, 256]⟩
abbrev S8448x2048 : Shape := ⟨2, ![8448, 2048]⟩
abbrev S128x1024 : Shape := ⟨2, ![128, 1024]⟩
abbrev S8x5120 : Shape := ⟨2, ![8, 5120]⟩
abbrev S8x4x128x256 : Shape := ⟨4, ![8, 4, 128, 256]⟩
abbrev S8x2048 : Shape := ⟨2, ![8, 2048]⟩
abbrev S8x1024 : Shape := ⟨2, ![8, 1024]⟩
abbrev S8x1 : Shape := ⟨2, ![8, 1]⟩
abbrev S1x128 : Shape := ⟨2, ![1, 128]⟩
abbrev S8x512 : Shape := ⟨2, ![8, 512]⟩
abbrev S128x128 : Shape := ⟨2, ![128, 128]⟩
abbrev S128 : Shape := ⟨1, ![128]⟩
abbrev S128x1 : Shape := ⟨2, ![128, 1]⟩
abbrev S1x256 : Shape := ⟨2, ![1, 256]⟩
abbrev S1x1x128x256 : Shape := ⟨4, ![1, 1, 128, 256]⟩
abbrev S128x256 : Shape := ⟨2, ![128, 256]⟩
abbrev S256 : Shape := ⟨1, ![256]⟩
abbrev S1 : Shape := ⟨1, ![1]⟩
abbrev S1x1 : Shape := ⟨2, ![1, 1]⟩

abbrev nBuf : Space → Nat
  | .hbm => 36
  | .vmem => 18
  | .smem => 0
  | _ => 0

abbrev bufTy : (tb : Table) → Fin (tcTables nBuf tb) → BufTy
  | .hbm, ⟨0, _⟩ => ⟨S8448x5120, .f32⟩
  | .hbm, ⟨1, _⟩ => ⟨S8448x128, .f32⟩
  | .hbm, ⟨2, _⟩ => ⟨S1x128x4x128x256, .f32⟩
  | .hbm, ⟨3, _⟩ => ⟨S1x16x512, .f32⟩
  | .hbm, ⟨4, _⟩ => ⟨S1x512, .f32⟩
  | .hbm, ⟨5, _⟩ => ⟨S1x8x128x128, .f32⟩
  | .hbm, ⟨6, _⟩ => ⟨S1x8x128, .f32⟩
  | .hbm, ⟨7, _⟩ => ⟨S1x8x128, .f32⟩
  | .hbm, ⟨8, _⟩ => ⟨S1x4x256, .f32⟩
  | .hbm, ⟨9, _⟩ => ⟨S16x512, .f32⟩
  | .hbm, ⟨10, _⟩ => ⟨S_, .i32⟩
  | .hbm, ⟨11, _⟩ => ⟨S_, .f32⟩
  | .hbm, ⟨12, _⟩ => ⟨S128x512, .f32⟩
  | .hbm, ⟨13, _⟩ => ⟨S128x512, .bf16⟩
  | .hbm, ⟨14, _⟩ => ⟨S512, .f32⟩
  | .hbm, ⟨15, _⟩ => ⟨S1x512, .f32⟩
  | .hbm, ⟨16, _⟩ => ⟨S8x128, .f32⟩
  | .hbm, ⟨17, _⟩ => ⟨S1x1024, .f32⟩
  | .hbm, ⟨18, _⟩ => ⟨S4x256, .f32⟩
  | .hbm, ⟨19, _⟩ => ⟨S1x1024, .f32⟩
  | .hbm, ⟨20, _⟩ => ⟨S1x8x1x1, .f32⟩
  | .hbm, ⟨21, _⟩ => ⟨S8, .f32⟩
  | .hbm, ⟨22, _⟩ => ⟨S8x128, .f32⟩
  | .hbm, ⟨23, _⟩ => ⟨S1024, .f32⟩
  | .hbm, ⟨24, _⟩ => ⟨S1x1024, .f32⟩
  | .hbm, ⟨25, _⟩ => ⟨S1x8x1, .f32⟩
  | .hbm, ⟨26, _⟩ => ⟨S8, .f32⟩
  | .hbm, ⟨27, _⟩ => ⟨S8x128, .f32⟩
  | .hbm, ⟨28, _⟩ => ⟨S1024, .f32⟩
  | .hbm, ⟨29, _⟩ => ⟨S1x1024, .f32⟩
  | .hbm, ⟨30, _⟩ => ⟨S128x4x128x256, .f32⟩
  | .hbm, ⟨31, _⟩ => ⟨S_, .f32⟩
  | .hbm, ⟨32, _⟩ => ⟨S8448x2048, .f32⟩
  | .hbm, ⟨33, _⟩ => ⟨S8448x2048, .f32⟩
  | .hbm, ⟨34, _⟩ => ⟨S128x1024, .f32⟩
  | .hbm, ⟨35, _⟩ => ⟨S128x4x128x256, .f32⟩
  | .local _ .vmem, ⟨0, _⟩ => ⟨S8x5120, .f32⟩
  | .local _ .vmem, ⟨1, _⟩ => ⟨S8x5120, .f32⟩
  | .local _ .vmem, ⟨2, _⟩ => ⟨S8x128, .f32⟩
  | .local _ .vmem, ⟨3, _⟩ => ⟨S8x128, .f32⟩
  | .local _ .vmem, ⟨4, _⟩ => ⟨S8x4x128x256, .f32⟩
  | .local _ .vmem, ⟨5, _⟩ => ⟨S8x4x128x256, .f32⟩
  | .local _ .vmem, ⟨6, _⟩ => ⟨S128x512, .bf16⟩
  | .local _ .vmem, ⟨7, _⟩ => ⟨S1x512, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S8x2048, .f32⟩
  | .local _ .vmem, ⟨13, _⟩ => ⟨S8x2048, .f32⟩
  | .local _ .vmem, ⟨14, _⟩ => ⟨S8x1024, .f32⟩
  | .local _ .vmem, ⟨15, _⟩ => ⟨S8x1024, .f32⟩
  | .local _ .vmem, ⟨16, _⟩ => ⟨S8x4x128x256, .f32⟩
  | .local _ .vmem, ⟨17, _⟩ => ⟨S8x4x128x256, .f32⟩
  | _, _ => ⟨S8448x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_v21_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1024_i32 : BitVec 32 := 1024#32
  let v0 : BitVec 32 := Scalar.addi c1024_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1024_i32 : BitVec 32 := 1024#32
  let v0 : BitVec 32 := Scalar.addi c1024_i32 arg0
  let c0_i32 : BitVec 32 := 0#32
  let c0_i32_0 : BitVec 32 := 0#32
  ![v0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1024_i32 : BitVec 32 := 1024#32
  let v0 : BitVec 32 := Scalar.addi c1024_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x4x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== SMixIdeal.lean ====
variable {F : FTy → Type} [FloatOps F] [Named F]
def κ : String → Option EReal := fun
  | "gelu_cub" => some ((-(((Real.log 2)⁻¹ * (6693141 / 4194304)) * (12003091 / 268435456)) : ℝ) : EReal)
  | "gelu_lin" => some ((-((Real.log 2)⁻¹ * (6693141 / 4194304)) : ℝ) : EReal)
  | _ => none
-- ==== SMixRefIdeal.lean ====
abbrev S8448x5120 : Shape := ⟨2, ![8448, 5120]⟩
abbrev S8448x128 : Shape := ⟨2, ![8448, 128]⟩
abbrev S1x128x4x128x256 : Shape := ⟨5, ![1, 128, 4, 128, 256]⟩
abbrev S1x16x512 : Shape := ⟨3, ![1, 16, 512]⟩
abbrev S1x512 : Shape := ⟨2, ![1, 512]⟩
abbrev S1x8x128x128 : Shape := ⟨4, ![1, 8, 128, 128]⟩
abbrev S1x8x128 : Shape := ⟨3, ![1, 8, 128]⟩
abbrev S1x4x256 : Shape := ⟨3, ![1, 4, 256]⟩
abbrev S128x5120 : Shape := ⟨2, ![128, 5120]⟩
abbrev S128x2048 : Shape := ⟨2, ![128, 2048]⟩
abbrev S128x512 : Shape := ⟨2, ![128, 512]⟩
abbrev S128x1024 : Shape := ⟨2, ![128, 1024]⟩
abbrev S_ : Shape := ⟨0, ![]⟩
abbrev S128x8x128 : Shape := ⟨3, ![128, 8, 128]⟩
abbrev S8x128 : Shape := ⟨2, ![8, 128]⟩
abbrev S128x8 : Shape := ⟨2, ![128, 8]⟩
abbrev S128x8x1 : Shape := ⟨3, ![128, 8, 1]⟩
abbrev S1x8x1x1 : Shape := ⟨4, ![1, 8, 1, 1]⟩
abbrev S8 : Shape := ⟨1, ![8]⟩
abbrev S1x8x1 : Shape := ⟨3, ![1, 8, 1]⟩
abbrev S128x4x128 : Shape := ⟨3, ![128, 4, 128]⟩
abbrev S128x4x256 : Shape := ⟨3, ![128, 4, 256]⟩
abbrev S128x16 : Shape := ⟨2, ![128, 16]⟩
abbrev S16x512 : Shape := ⟨2, ![16, 512]⟩
abbrev S512 : Shape := ⟨1, ![512]⟩
abbrev S128x4x128x1 : Shape := ⟨4, ![128, 4, 128, 1]⟩
abbrev S128x4x128x256 : Shape := ⟨4, ![128, 4, 128, 256]⟩
abbrev S128x4x1x256 : Shape := ⟨4, ![128, 4, 1, 256]⟩
abbrev S4x256 : Shape := ⟨2, ![4, 256]⟩
abbrev S128x4 : Shape := ⟨2, ![128, 4]⟩
abbrev S128x4x1 : Shape := ⟨3, ![128, 4, 1]⟩
abbrev S8448x2048 : Shape := ⟨2, ![8448, 2048]⟩

abbrev nBuf : Space → Nat
  | .hbm => 143
  | .vmem => 0
  | .smem => 0
  | _ => 0

abbrev hbmTy0_0 (i : Nat) : BufTy := match i % 128 with
  | 0 => ⟨S8448x5120, .f32⟩
  | 1 => ⟨S8448x128, .f32⟩
  | 2 => ⟨S1x128x4x128x256, .f32⟩
  | 3 => ⟨S1x16x512, .f32⟩
  | 4 => ⟨S1x512, .f32⟩
  | 5 => ⟨S1x8x128x128, .f32⟩
  | 6 => ⟨S1x8x128, .f32⟩
  | 7 => ⟨S1x8x128, .f32⟩
  | 8 => ⟨S1x4x256, .f32⟩
  | 9 => ⟨S128x5120, .f32⟩
  | 10 => ⟨S128x2048, .f32⟩
  | 11 => ⟨S128x512, .f32⟩
  | 12 => ⟨S128x512, .f32⟩
  | 13 => ⟨S128x1024, .f32⟩
  | 14 => ⟨S128x1024, .f32⟩
  | 15 => ⟨S128x2048, .f32⟩
  | 16 => ⟨S128x2048, .f32⟩
  | 17 => ⟨S_, .f32⟩
  | 18 => ⟨S128x2048, .f32⟩
  | 19 => ⟨S128x2048, .f32⟩
  | 20 => ⟨S128x2048, .f32⟩
  | 21 => ⟨S_, .f32⟩
  | 22 => ⟨S128x2048, .f32⟩
  | 23 => ⟨S128x2048, .f32⟩
  | 24 => ⟨S128x2048, .f32⟩
  | 25 => ⟨S_, .f32⟩
  | 26 => ⟨S128x2048, .f32⟩
  | 27 => ⟨S128x2048, .f32⟩
  | 28 => ⟨S_, .f32⟩
  | 29 => ⟨S128x2048, .f32⟩
  | 30 => ⟨S128x2048, .f32⟩
  | 31 => ⟨S128x2048, .f32⟩
  | 32 => ⟨S128x1024, .f32⟩
  | 33 => ⟨S128x1024, .f32⟩
  | 34 => ⟨S128x8x128, .f32⟩
  | 35 => ⟨S128x8x128, .f32⟩
  | 36 => ⟨S8x128, .f32⟩
  | 37 => ⟨S128x8x128, .f32⟩
  | 38 => ⟨S_, .f32⟩
  | 39 => ⟨S128x8, .f32⟩
  | 40 => ⟨S128x8x1, .f32⟩
  | 41 => ⟨S_, .f32⟩
  | 42 => ⟨S128x8x1, .f32⟩
  | 43 => ⟨S128x8x1, .f32⟩
  | 44 => ⟨S_, .f32⟩
  | 45 => ⟨S128x8x1, .f32⟩
  | 46 => ⟨S128x8x1, .f32⟩
  | 47 => ⟨S128x8x1, .f32⟩
  | 48 => ⟨S128x8x128, .f32⟩
  | 49 => ⟨S128x8x128, .f32⟩
  | 50 => ⟨S1x8x128, .f32⟩
  | 51 => ⟨S128x8x128, .f32⟩
  | 52 => ⟨S128x8x128, .f32⟩
  | 53 => ⟨S1x8x1x1, .f32⟩
  | 54 => ⟨S8, .f32⟩
  | 55 => ⟨S1x8x1, .f32⟩
  | 56 => ⟨S128x8x128, .f32⟩
  | 57 => ⟨S128x8x128, .f32⟩
  | 58 => ⟨S1x8x1, .f32⟩
  | 59 => ⟨S8, .f32⟩
  | 60 => ⟨S1x8x1, .f32⟩
  | 61 => ⟨S128x8x128, .f32⟩
  | 62 => ⟨S128x8x128, .f32⟩
  | 63 => ⟨S128x8x128, .f32⟩
  | 64 => ⟨S128x4x128, .f32⟩
  | 65 => ⟨S_, .f32⟩
  | 66 => ⟨S128x4x128, .f32⟩
  | 67 => ⟨S128x4x128, .f32⟩
  | 68 => ⟨S128x4x128, .f32⟩
  | 69 => ⟨S128x4x256, .f32⟩
  | 70 => ⟨S128x16, .f32⟩
  | 71 => ⟨S16x512, .f32⟩
  | 72 => ⟨S128x512, .f32⟩
  | 73 => ⟨S512, .f32⟩
  | 74 => ⟨S1x512, .f32⟩
  | 75 => ⟨S128x512, .f32⟩
  | 76 => ⟨S128x512, .f32⟩
  | 77 => ⟨S128x512, .f32⟩
  | 78 => ⟨S_, .f32⟩
  | 79 => ⟨S128x512, .f32⟩
  | 80 => ⟨S128x512, .f32⟩
  | 81 => ⟨S128x512, .f32⟩
  | 82 => ⟨S128x512, .f32⟩
  | 83 => ⟨S128x512, .i1⟩
  | 84 => ⟨S128x512, .f32⟩
  | 85 => ⟨S128x512, .f32⟩
  | 86 => ⟨S128x512, .f32⟩
  | 87 => ⟨S128x512, .f32⟩
  | 88 => ⟨S128x512, .f32⟩
  | 89 => ⟨S128x512, .f32⟩
  | 90 => ⟨S128x512, .f32⟩
  | 91 => ⟨S128x512, .f32⟩
  | 92 => ⟨S128x512, .f32⟩
  | 93 => ⟨S_, .f32⟩
  | 94 => ⟨S128x512, .f32⟩
  | 95 => ⟨S128x512, .f32⟩
  | 96 => ⟨S128x512, .f32⟩
  | 97 => ⟨S128x4x128, .f32⟩
  | 98 => ⟨S128x4x128x1, .f32⟩
  | 99 => ⟨S128x4x128x256, .f32⟩
  | 100 => ⟨S128x4x128x256, .f32⟩
  | 101 => ⟨S128x4x128x256, .f32⟩
  | 102 => ⟨S128x4x128x1, .f32⟩
  | 103 => ⟨S128x4x1x256, .f32⟩
  | 104 => ⟨S128x4x128x256, .f32⟩
  | 105 => ⟨S128x4x128x256, .f32⟩
  | 106 => ⟨S128x4x128x256, .f32⟩
  | 107 => ⟨S128x4x128x256, .f32⟩
  | 108 => ⟨S128x4x256, .f32⟩
  | 109 => ⟨S4x256, .f32⟩
  | 110 => ⟨S128x4x256, .f32⟩
  | 111 => ⟨S_, .f32⟩
  | 112 => ⟨S128x4, .f32⟩
  | 113 => ⟨S128x4x1, .f32⟩
  | 114 => ⟨S_, .f32⟩
  | 115 => ⟨S128x4x1, .f32⟩
  | 116 => ⟨S128x4x1, .f32⟩
  | 117 => ⟨S_, .f32⟩
  | 118 => ⟨S128x4x1, .f32⟩
  | 119 => ⟨S128x4x1, .f32⟩
  | 120 => ⟨S128x4x1, .f32⟩
  | 121 => ⟨S128x4x256, .f32⟩
  | 122 => ⟨S128x4x256, .f32⟩
  | 123 => ⟨S1x4x256, .f32⟩
  | 124 => ⟨S128x4x256, .f32⟩
  | 125 => ⟨S128x4x256, .f32⟩
  | 126 => ⟨S128x1024, .f32⟩
  | 127 => ⟨S128x1024, .f32⟩
  | _ => ⟨S8448x5120, .f32⟩

abbrev hbmTy0_1 (i : Nat) : BufTy := match i % 128 with
  | 0 => ⟨S_, .f32⟩
  | 1 => ⟨S128x1024, .f32⟩
  | 2 => ⟨S128x1024, .f32⟩
  | 3 => ⟨S_, .f32⟩
  | 4 => ⟨S128x1024, .f32⟩
  | 5 => ⟨S128x1024, .f32⟩
  | 6 => ⟨S128x1024, .f32⟩
  | 7 => ⟨S128x1024, .f32⟩
  | 8 => ⟨S128x1024, .f32⟩
  | 9 => ⟨S128x1024, .f32⟩
  | 10 => ⟨S128x2048, .f32⟩
  | 11 => ⟨S_, .i32⟩
  | 12 => ⟨S_, .f32⟩
  | 13 => ⟨S8448x2048, .f32⟩
  | 14 => ⟨S128x1024, .f32⟩
  | _ => ⟨S8448x5120, .f32⟩

abbrev hbmTy (i : Nat) : BufTy := match i / 128 with
  | 0 => hbmTy0_0 i
  | 1 => hbmTy0_1 i
  | _ => ⟨S8448x5120, .f32⟩

abbrev bufTy : (tb : Table) → Fin (tcTables nBuf tb) → BufTy
  | .hbm, ⟨i, _⟩ => hbmTy i
  | _, _ => ⟨S8448x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_call0_v0 : Ref sig .tc := ⟨.hbm, 77, rfl⟩
abbrev main_call0_call0_cst : Ref sig .tc := ⟨.hbm, 78, rfl⟩
abbrev main_call0_call0_v0 : Ref sig .tc := ⟨.hbm, 79, rfl⟩
abbrev main_call0_call0_v1 : Ref sig .tc := ⟨.hbm, 80, rfl⟩
abbrev main_call0_call0_v2 : Ref sig .tc := ⟨.hbm, 81, rfl⟩
abbrev main_call0_call0_v3 : Ref sig .tc := ⟨.hbm, 82, rfl⟩
abbrev main_call0_call0_v4 : Ref sig .tc := ⟨.hbm, 83, rfl⟩
abbrev main_call0_call0_v5 : Ref sig .tc := ⟨.hbm, 84, rfl⟩
abbrev main_call0_call0_v6 : Ref sig .tc := ⟨.hbm, 85, rfl⟩
abbrev main_call0_call0_v7 : Ref sig .tc := ⟨.hbm, 86, rfl⟩
abbrev main_call0_call0_v8 : Ref sig .tc := ⟨.hbm, 87, rfl⟩
abbrev main_call0_call0_v9 : Ref sig .tc := ⟨.hbm, 88, rfl⟩
abbrev main_call0_call0_v10 : Ref sig .tc := ⟨.hbm, 89, rfl⟩
abbrev main_call0_call0_v11 : Ref sig .tc := ⟨.hbm, 90, rfl⟩
abbrev main_call0_v1 : Ref sig .tc := ⟨.hbm, 91, rfl⟩
abbrev main_v60 : Ref sig .tc := ⟨.hbm, 92, rfl⟩
abbrev main_cst_7 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_8 : Ref sig .tc := ⟨.hbm, 111, rfl⟩
abbrev main_v78 : Ref sig .tc := ⟨.hbm, 112, rfl⟩
abbrev main_v79 : Ref sig .tc := ⟨.hbm, 113, rfl⟩
abbrev main_cst_9 : Ref sig .tc := ⟨.hbm, 114, rfl⟩
abbrev main_v80 : Ref sig .tc := ⟨.hbm, 115, rfl⟩
abbrev main_v81 : Ref sig .tc := ⟨.hbm, 116, rfl⟩
abbrev main_cst_10 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_call1_v0 : Ref sig .tc := ⟨.hbm, 126, rfl⟩
abbrev main_call1_v1 : Ref sig .tc := ⟨.hbm, 127, rfl⟩
abbrev main_call1_cst : Ref sig .tc := ⟨.hbm, 128, rfl⟩
abbrev main_call1_v2 : Ref sig .tc := ⟨.hbm, 129, rfl⟩
abbrev main_call1_v3 : Ref sig .tc := ⟨.hbm, 130, rfl⟩
abbrev main_call1_cst_0 : Ref sig .tc := ⟨.hbm, 131, rfl⟩
abbrev main_call1_v4 : Ref sig .tc := ⟨.hbm, 132, rfl⟩
abbrev main_call1_v5 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_c : Ref sig .tc := ⟨.hbm, 139, rfl⟩
abbrev main_call2_v0 : Ref sig .tc := ⟨.hbm, 140, rfl⟩
abbrev main_v95 : Ref sig .tc := ⟨.hbm, 141, rfl⟩
abbrev main_v96 : Ref sig .tc := ⟨.hbm, 142, rfl⟩

abbrev nD : Nat := 1
abbrev τ : Topo := Topo.v7x

variable {F : FTy → Type} [FloatOps F]
-- ==== Gla.lean ====
abbrev S8448x5120 : Shape := ⟨2, ![8448, 5120]⟩
abbrev S8448x128 : Shape := ⟨2, ![8448, 128]⟩
abbrev S1x16x512 : Shape := ⟨3, ![1, 16, 512]⟩
abbrev S1x512 : Shape := ⟨2, ![1, 512]⟩
abbrev S1x4x256 : Shape := ⟨3, ![1, 4, 256]⟩
abbrev S16x512 : Shape := ⟨2, ![16, 512]⟩
abbrev S_ : Shape := ⟨0, ![]⟩
abbrev S128x512 : Shape := ⟨2, ![128, 512]⟩
abbrev S512 : Shape := ⟨1, ![512]⟩
abbrev S4x256 : Shape := ⟨2, ![4, 256]⟩
abbrev S1x1024 : Shape := ⟨2, ![1, 1024]⟩
abbrev S8448x2048 : Shape := ⟨2, ![8448, 2048]⟩
abbrev S4x4x128x256 : Shape := ⟨4, ![4, 4, 128, 256]⟩
abbrev S128x1024 : Shape := ⟨2, ![128, 1024]⟩
abbrev S128x128 : Shape := ⟨2, ![128, 128]⟩
abbrev S1x4x128x256 : Shape := ⟨4, ![1, 4, 128, 256]⟩
abbrev S4x128x256 : Shape := ⟨3, ![4, 128, 256]⟩
abbrev S2x64x512 : Shape := ⟨3, ![2, 64, 512]⟩
abbrev S64x128 : Shape := ⟨2, ![64, 128]⟩
abbrev S64x512 : Shape := ⟨2, ![64, 512]⟩
abbrev S64x64 : Shape := ⟨2, ![64, 64]⟩
abbrev S1x64x512 : Shape := ⟨3, ![1, 64, 512]⟩
abbrev S8x128 : Shape := ⟨2, ![8, 128]⟩
abbrev S1x64x128 : Shape := ⟨3, ![1, 64, 128]⟩
abbrev S64x256 : Shape := ⟨2, ![64, 256]⟩
abbrev S1x128x256 : Shape := ⟨3, ![1, 128, 256]⟩
abbrev S128x256 : Shape := ⟨2, ![128, 256]⟩
abbrev S1x8x128 : Shape := ⟨3, ![1, 8, 128]⟩
abbrev S8x256 : Shape := ⟨2, ![8, 256]⟩
abbrev S1x128 : Shape := ⟨2, ![1, 128]⟩
abbrev S1x256 : Shape := ⟨2, ![1, 256]⟩
abbrev S1x1x128 : Shape := ⟨3, ![1, 1, 128]⟩
abbrev S8 : Shape := ⟨1, ![8]⟩
abbrev S8x1 : Shape := ⟨2, ![8, 1]⟩
abbrev S16x256 : Shape := ⟨2, ![16, 256]⟩
abbrev S16x128 : Shape := ⟨2, ![16, 128]⟩
abbrev S16x16 : Shape := ⟨2, ![16, 16]⟩
abbrev S32x128 : Shape := ⟨2, ![32, 128]⟩
abbrev S16x32 : Shape := ⟨2, ![16, 32]⟩
abbrev S32x256 : Shape := ⟨2, ![32, 256]⟩
abbrev S48x128 : Shape := ⟨2, ![48, 128]⟩
abbrev S16x48 : Shape := ⟨2, ![16, 48]⟩
abbrev S48x256 : Shape := ⟨2, ![48, 256]⟩
abbrev S128x64 : Shape := ⟨2, ![128, 64]⟩
abbrev S128 : Shape := ⟨1, ![128]⟩
abbrev S128x1 : Shape := ⟨2, ![128, 1]⟩
abbrev S64 : Shape := ⟨1, ![64]⟩
abbrev S64x1 : Shape := ⟨2, ![64, 1]⟩

abbrev nBuf : Space → Nat
  | .hbm => 18
  | .vmem => 19
  | .smem => 0
  | _ => 0

abbrev bufTy : (tb : Table) → Fin (tcTables nBuf tb) → BufTy
  | .hbm, ⟨0, _⟩ => ⟨S8448x5120, .f32⟩
  | .hbm, ⟨1, _⟩ => ⟨S8448x128, .f32⟩
  | .hbm, ⟨2, _⟩ => ⟨S1x16x512, .f32⟩
  | .hbm, ⟨3, _⟩ => ⟨S1x512, .f32⟩
  | .hbm, ⟨4, _⟩ => ⟨S1x4x256, .f32⟩
  | .hbm, ⟨5, _⟩ => ⟨S16x512, .f32⟩
  | .hbm, ⟨6, _⟩ => ⟨S_, .i32⟩
  | .hbm, ⟨7, _⟩ => ⟨S_, .f32⟩
  | .hbm, ⟨8, _⟩ => ⟨S128x512, .f32⟩
  | .hbm, ⟨9, _⟩ => ⟨S128x512, .bf16⟩
  | .hbm, ⟨10, _⟩ => ⟨S512, .f32⟩
  | .hbm, ⟨11, _⟩ => ⟨S1x512, .f32⟩
  | .hbm, ⟨12, _⟩ => ⟨S4x256, .f32⟩
  | .hbm, ⟨13, _⟩ => ⟨S1x1024, .f32⟩
  | .hbm, ⟨14, _⟩ => ⟨S_, .f32⟩
  | .hbm, ⟨15, _⟩ => ⟨S8448x2048, .f32⟩
  | .hbm, ⟨16, _⟩ => ⟨S8448x2048, .f32⟩
  | .hbm, ⟨17, _⟩ => ⟨S4x4x128x256, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x128, .f32⟩
  | .local _ .vmem, ⟨9, _⟩ => ⟨S128x128, .f32⟩
  | .local _ .vmem, ⟨10, _⟩ => ⟨S128x512, .bf16⟩
  | .local _ .vmem, ⟨11, _⟩ => ⟨S1x512, .f32⟩
  | .local _ .vmem, ⟨12, _⟩ => ⟨S1x1024, .f32⟩
  | .local _ .vmem, ⟨13, _⟩ => ⟨S128x1024, .f32⟩
  | .local _ .vmem, ⟨14, _⟩ => ⟨S128x1024, .f32⟩
  | .local _ .vmem, ⟨15, _⟩ => ⟨S1x4x128x256, .f32⟩
  | .local _ .vmem, ⟨16, _⟩ => ⟨S1x4x128x256, .f32⟩
  | .local _ .vmem, ⟨17, _⟩ => ⟨S4x128x256, .f32⟩
  | .local _ .vmem, ⟨18, _⟩ => ⟨S2x64x512, .f32⟩
  | _, _ => ⟨S8448x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v14787 : BitVec 1 := Scalar.cmpi .eq arg1 c15_i32
  let v14788 : BitVec 32 := Scalar.extui v14787
  let c0_i32_6092 : BitVec 32 := 0#32
  let v14789 : BitVec 1 := Scalar.cmpi .ne v14788 c0_i32_6092
  v14789

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== GlaRefIdeal.lean ====
abbrev S8448x5120 : Shape := ⟨2, ![8448, 5120]⟩
abbrev S8448x128 : Shape := ⟨2, ![8448, 128]⟩
abbrev S1x16x512 : Shape := ⟨3, ![1, 16, 512]⟩
abbrev S1x512 : Shape := ⟨2, ![1, 512]⟩
abbrev S1x4x256 : Shape := ⟨3, ![1, 4, 256]⟩
abbrev S8192x512 : Shape := ⟨2, ![8192, 512]⟩
abbrev S4x2048x4x128 : Shape := ⟨4, ![4, 2048, 4, 128]⟩
abbrev S8192x1024 : Shape := ⟨2, ![8192, 1024]⟩
abbrev S4x2048x4x256 : Shape := ⟨4, ![4, 2048, 4, 256]⟩
abbrev S8192x16 : Shape := ⟨2, ![8192, 16]⟩
abbrev S16x512 : Shape := ⟨2, ![16, 512]⟩
abbrev S512 : Shape := ⟨1, ![512]⟩
abbrev S_ : Shape := ⟨0, ![]⟩
abbrev S4x4x128x256 : Shape := ⟨4, ![4, 4, 128, 256]⟩
abbrev S4x32x64x4x128 : Shape := ⟨5, ![4, 32, 64, 4, 128]⟩
abbrev S32x4x4x64x128 : Shape := ⟨5, ![32, 4, 4, 64, 128]⟩
abbrev S4x32x64x4x256 : Shape := ⟨5, ![4, 32, 64, 4, 256]⟩
abbrev S32x4x4x64x256 : Shape := ⟨5, ![32, 4, 4, 64, 256]⟩
abbrev S1x4x4x64x128 : Shape := ⟨5, ![1, 4, 4, 64, 128]⟩
abbrev S4x4x64x128 : Shape := ⟨4, ![4, 4, 64, 128]⟩
abbrev S1x4x4x64x256 : Shape := ⟨5, ![1, 4, 4, 64, 256]⟩
abbrev S4x4x64x256 : Shape := ⟨4, ![4, 4, 64, 256]⟩
abbrev S4x4x1x128 : Shape := ⟨4, ![4, 4, 1, 128]⟩
abbrev S4x4x128 : Shape := ⟨3, ![4, 4, 128]⟩
abbrev S4x4x128x1 : Shape := ⟨4, ![4, 4, 128, 1]⟩

abbrev nBuf : Space → Nat
  | .hbm => 87
  | .vmem => 0
  | .smem => 0
  | _ => 0

abbrev bufTy : (tb : Table) → Fin (tcTables nBuf tb) → BufTy
  | .hbm, ⟨0, _⟩ => ⟨S8448x5120, .f32⟩
  | .hbm, ⟨1, _⟩ => ⟨S8448x128, .f32⟩
  | .hbm, ⟨2, _⟩ => ⟨S1x16x512, .f32⟩
  | .hbm, ⟨3, _⟩ => ⟨S1x512, .f32⟩
  | .hbm, ⟨4, _⟩ => ⟨S1x4x256, .f32⟩
  | .hbm, ⟨5, _⟩ => ⟨S8192x512, .f32⟩
  | .hbm, ⟨6, _⟩ => ⟨S4x2048x4x128, .f32⟩
  | .hbm, ⟨7, _⟩ => ⟨S8192x1024, .f32⟩
  | .hbm, ⟨8, _⟩ => ⟨S4x2048x4x256, .f32⟩
  | .hbm, ⟨9, _⟩ => ⟨S8192x16, .f32⟩
  | .hbm, ⟨10, _⟩ => ⟨S16x512, .f32⟩
  | .hbm, ⟨11, _⟩ => ⟨S8192x512, .f32⟩
  | .hbm, ⟨12, _⟩ => ⟨S512, .f32⟩
  | .hbm, ⟨13, _⟩ => ⟨S1x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S_, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .i1⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S8192x512, .f32⟩
  | .hbm, ⟨34, _⟩ => ⟨S8192x512, .f32⟩
  | .hbm, ⟨35, _⟩ => ⟨S4x2048x4x128, .f32⟩
  | .hbm, ⟨36, _⟩ => ⟨S_, .f32⟩
  | .hbm, ⟨37, _⟩ => ⟨S4x4x128x256, .f32⟩
  | .hbm, ⟨38, _⟩ => ⟨S4x32x64x4x128, .f32⟩
  | .hbm, ⟨39, _⟩ => ⟨S32x4x4x64x128, .f32⟩
  | .hbm, ⟨40, _⟩ => ⟨S4x32x64x4x256, .f32⟩
  | .hbm, ⟨41, _⟩ => ⟨S32x4x4x64x256, .f32⟩
  | .hbm, ⟨42, _⟩ => ⟨S4x32x64x4x128, .f32⟩
  | .hbm, ⟨43, _⟩ => ⟨S32x4x4x64x128, .f32⟩
  | .hbm, ⟨44, _⟩ => ⟨S_, .i32⟩
  | .hbm, ⟨45, _⟩ => ⟨S32x4x4x64x128, .f32⟩
  | .hbm, ⟨46, _⟩ => ⟨S32x4x4x64x256, .f32⟩
  | .hbm, ⟨47, _⟩ => ⟨S32x4x4x64x128, .f32⟩
  | .hbm, ⟨48, _⟩ => ⟨S_, .i32⟩
  | .hbm, ⟨49, _⟩ => ⟨S4x4x128x256, .f32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S1x4x4x64x128, .f32⟩
  | .hbm, ⟨57, _⟩ => ⟨S4x4x64x128, .f32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S1x4x4x64x256, .f32⟩
  | .hbm, ⟨63, _⟩ => ⟨S4x4x64x256, .f32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S1x4x4x64x128, .f32⟩
  | .hbm, ⟨69, _⟩ => ⟨S4x4x64x128, .f32⟩
  | .hbm, ⟨70, _⟩ => ⟨S_, .f32⟩
  | .hbm, ⟨71, _⟩ => ⟨S_, .f32⟩
  | .hbm, ⟨72, _⟩ => ⟨S4x4x64x128, .f32⟩
  | .hbm, ⟨73, _⟩ => ⟨S4x4x1x128, .f32⟩
  | .hbm, ⟨74, _⟩ => ⟨S4x4x64x128, .f32⟩
  | .hbm, ⟨75, _⟩ => ⟨S4x4x64x128, .f32⟩
  | .hbm, ⟨76, _⟩ => ⟨S4x4x64x128, .f32⟩
  | .hbm, ⟨77, _⟩ => ⟨S4x4x64x128, .f32⟩
  | .hbm, ⟨78, _⟩ => ⟨S4x4x128, .f32⟩
  | .hbm, ⟨79, _⟩ => ⟨S4x4x128, .f32⟩
  | .hbm, ⟨80, _⟩ => ⟨S4x4x128x1, .f32⟩
  | .hbm, ⟨81, _⟩ => ⟨S4x4x128x256, .f32⟩
  | .hbm, ⟨82, _⟩ => ⟨S4x4x128x256, .f32⟩
  | .hbm, ⟨83, _⟩ => ⟨S4x4x128x256, .f32⟩
  | .hbm, ⟨84, _⟩ => ⟨S4x4x128x256, .f32⟩
  | .hbm, ⟨85, _⟩ => ⟨S_, .i32⟩
  | .hbm, ⟨86, _⟩ => ⟨S_, .i32⟩
  | _, _ => ⟨S8448x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c : Ref sig .tc := ⟨.hbm, 44, rfl⟩
abbrev main_v22_0 : Ref sig .tc := ⟨.hbm, 45, rfl⟩
abbrev main_v22_1 : Ref sig .tc := ⟨.hbm, 46, rfl⟩
abbrev main_v22_2 : Ref sig .tc := ⟨.hbm, 47, rfl⟩
abbrev main_v22_3 : Ref sig .tc := ⟨.hbm, 48, rfl⟩
abbrev main_v22_4 : Ref sig .tc := ⟨.hbm, 49, rfl⟩
abbrev main_while0c_c_5 : Ref sig .tc := ⟨.hbm, 50, rfl⟩
abbrev main_while0c_v23 : Ref sig .tc := ⟨.hbm, 51, rfl⟩
abbrev main_while0b_call1_c : Ref sig .tc := ⟨.hbm, 52, rfl⟩
abbrev main_while0b_call1_c_0 : Ref sig .tc := ⟨.hbm, 53, rfl⟩
abbrev main_while0b_call1_c_1 : Ref sig .tc := ⟨.hbm, 54, rfl⟩
abbrev main_while0b_call1_c_2 : Ref sig .tc := ⟨.hbm, 55, rfl⟩
abbrev main_while0b_call1_v0 : Ref sig .tc := ⟨.hbm, 56, rfl⟩
abbrev main_while0b_v23 : Ref sig .tc := ⟨.hbm, 57, rfl⟩
abbrev main_while0b_call2_c : Ref sig .tc := ⟨.hbm, 58, rfl⟩
abbrev main_while0b_call2_c_0 : Ref sig .tc := ⟨.hbm, 59, rfl⟩
abbrev main_while0b_call2_c_1 : Ref sig .tc := ⟨.hbm, 60, rfl⟩
abbrev main_while0b_call2_c_2 : Ref sig .tc := ⟨.hbm, 61, rfl⟩
abbrev main_while0b_call2_v0 : Ref sig .tc := ⟨.hbm, 62, rfl⟩
abbrev main_while0b_v24 : Ref sig .tc := ⟨.hbm, 63, rfl⟩
abbrev main_while0b_call3_c : Ref sig .tc := ⟨.hbm, 64, rfl⟩
abbrev main_while0b_call3_c_0 : Ref sig .tc := ⟨.hbm, 65, rfl⟩
abbrev main_while0b_call3_c_1 : Ref sig .tc := ⟨.hbm, 66, rfl⟩
abbrev main_while0b_call3_c_2 : Ref sig .tc := ⟨.hbm, 67, rfl⟩
abbrev main_while0b_call3_v0 : Ref sig .tc := ⟨.hbm, 68, rfl⟩
abbrev main_while0b_v25 : Ref sig .tc := ⟨.hbm, 69, rfl⟩
abbrev main_while0b_call4_call0_cst : Ref sig .tc := ⟨.hbm, 70, rfl⟩
abbrev main_while0b_call4_call0_v0 : Ref sig .tc := ⟨.hbm, 71, rfl⟩
abbrev main_while0b_v26 : Ref sig .tc := ⟨.hbm, 72, rfl⟩
abbrev main_while0b_v27 : Ref sig .tc := ⟨.hbm, 73, rfl⟩
abbrev main_while0b_v28 : Ref sig .tc := ⟨.hbm, 74, rfl⟩
abbrev main_while0b_v29 : Ref sig .tc := ⟨.hbm, 75, rfl⟩
abbrev main_while0b_v30 : Ref sig .tc := ⟨.hbm, 76, rfl⟩
abbrev main_while0b_v31 : Ref sig .tc := ⟨.hbm, 77, rfl⟩
abbrev main_while0b_v32 : Ref sig .tc := ⟨.hbm, 78, rfl⟩
abbrev main_while0b_v33 : Ref sig .tc := ⟨.hbm, 79, rfl⟩
abbrev main_while0b_v34 : Ref sig .tc := ⟨.hbm, 80, rfl⟩
abbrev main_while0b_v35 : Ref sig .tc := ⟨.hbm, 81, rfl⟩
abbrev main_while0b_v36 : Ref sig .tc := ⟨.hbm, 82, rfl⟩
abbrev main_while0b_v37 : Ref sig .tc := ⟨.hbm, 83, rfl⟩
abbrev main_while0b_v38 : Ref sig .tc := ⟨.hbm, 84, rfl⟩
abbrev main_while0b_c_5 : Ref sig .tc := ⟨.hbm, 85, rfl⟩
abbrev main_while0b_v39 : Ref sig .tc := ⟨.hbm, 86, rfl⟩

abbrev nD : Nat := 1
abbrev τ : Topo := Topo.v7x

variable {F : FTy → Type} [FloatOps F]

abbrev main_while0_count : Scf.Loop 32 := ⟨0#32, 32#32, 1#32⟩
-- ==== Proof.Softmax.lean ====
/- A row of softmax weights over the extended reals, and the attention output of one query element. -/
module

public import Idealize.ShloMosaic.PureOps.Ideal.Laws
public import Idealize.ShloMosaic.Lib.Pointwise

@[expose] public section

noncomputable section

namespace Cert.Softmax

open Idealize.ShloMosaic

/-- The largest entry of a row; the maximum starts from the pattern of minus infinity. -/
def top {n : ℕ} (s : Fin n → EReal) : EReal :=
  Finset.fold max (Ideal.ofBits FTy.f32 0xFF800000#32) s Finset.univ

/-- The softmax weight at one place of a row. -/
def weight {n : ℕ} (s : Fin n → EReal) (i : Fin n) : EReal :=
  Ideal.div (Ideal.exp (s i - top s)) (∑ j, Ideal.exp (s j - top s))

/-- Taking the maximum with the starting value once more changes nothing. -/
theorem max_top {n : ℕ} (s : Fin n → EReal) : max (Ideal.ofBits FTy.f32 0xFF800000#32) (top s) = top s :=
  max_eq_right (Finset.le_fold_max _ |>.mpr (Or.inl le_rfl))

/-- The host's maximum along the last of four axes, from minus infinity. -/
theorem hostMax_top {n0 n1 n2 n3 : ℕ} {u : Shape} (x : FVec Ideal (⟨4, ![n0, n1, n2, n3]⟩ : Shape) .f32)
    (init : FVec Ideal u .f32) (h : (⟨4, ![n0, n1, n2, n3]⟩ : Shape).ReducesTo [3] (⟨3, ![n0, n1, n2]⟩ : Shape))
    (hu : 0 < u.numel) (hi : ∀ i, init i = Ideal.ofBits FTy.f32 0xFF800000#32)
    (j : (⟨3, ![n0, n1, n2]⟩ : Shape).Idx) :
    Host.reduce (FloatOps.maximumf (F := Ideal) (φ := .f32)) x init h hu j = top fun k => x (ix4 (j 0) (j 1) (j 2) k) := by
  rw [Host.reduce_eq_fold, h.fold_fiber_r4_a3, hi]
  rfl

/-- One attention score: the inner product of a query and a key, scaled. -/
def score {n : ℕ} (q k : Fin n → EReal) : EReal := (∑ d, q d * k d) * Ideal.ofBits FTy.f32 0x3D3504F3#32

/-- One element of an attention output: the values weighted by the softmax of the scores. -/
def attend {n d : ℕ} (q : Fin d → EReal) (k : Fin n → Fin d → EReal) (v : Fin n → EReal) : EReal :=
  ∑ i, weight (fun j => score q (k j)) i * v i

end Cert.Softmax

end
-- ==== Proof.AttnRef.lean ====
/- The reference of the prompt's cross-attention, read at one index: a prompt row's softmax attention, and 0 on padding rows. -/
module

public import proofs.«01_k».proof.Proof.Gen.KernelIdeal.Value
public import proofs.«01_k».proof.Proof.Gen.ReferenceIdeal.Read
public import Idealize.ShloMosaic.Lib.Pipeline.ValueKit
public import Idealize.ShloMosaic.Lib.Pointwise
public import proofs.«01_k».proof.Proof.Softmax

@[expose] public section

set_option maxRecDepth 16384

noncomputable section

namespace Cert.ReferenceIdeal.Result

open Cert.ReferenceIdeal Cert.ReferenceIdeal.Gen Cert.ReferenceIdeal.Read Cert.Softmax Idealize.ShloMosaic Idealize.ShloMosaic.TcCoe Idealize.SL.Sem
open Idealize.ShloMosaic.Pipeline (Dat)

variable (x0 : FVec Ideal S8448x2048 .bf16) (x1 x2 : FVec Ideal S1024x2048 .f32)

/-- A score of the reference. -/
theorem score_at (i : S4x4x2048x256.Idx) : val_main_v7 (F := Ideal) x0 x1 i
    = score (fun d : Fin 512 => x0 (ix2 (⟨(i 0 : ℕ) * 2048 + (i 2 : ℕ), by idx_bounds; omega⟩ : Fin 8448)
          (⟨(i 1 : ℕ) * 512 + (d : ℕ), by idx_bounds; omega⟩ : Fin 2048)))
        (fun d : Fin 512 => x1 (ix2 (⟨(i 0 : ℕ) * 256 + (i 3 : ℕ), by idx_bounds; omega⟩ : Fin 1024)
          (⟨(i 1 : ℕ) * 512 + (d : ℕ), by idx_bounds; omega⟩ : Fin 2048))) := by
  unfold score
  pointwise [val_main_v7, val_main_v6, val_main_v5, val_main_v3, val_main_v2, val_main_v1, val_main_v0, val_main_cst]

/-- The largest score of a row. -/
theorem top_at (i : S4x4x2048.Idx) : val_main_v10 (F := Ideal) x0 x1 i
    = top (fun j : Fin 256 => val_main_v7 (F := Ideal) x0 x1 (ix4 (i 0) (i 1) (i 2) j)) := by
  rw [val_main_v10_apply, val_main_v9_apply]
  unfold val_main_v8
  exact (congrArg (FloatOps.maximumf (F := Ideal) (φ := .f32) _)
    (hostMax_top _ _ reducesTo_S4x4x2048x256_S4x4x2048_d3 h_S_ (fun _ => rfl) i)).trans (max_top _)

/-- A softmax numerator of the reference. -/
theorem exp_at (i : S4x4x2048x256.Idx) : val_main_v14 (F := Ideal) x0 x1 i
    = Ideal.exp (val_main_v7 (F := Ideal) x0 x1 i
        - top (fun j : Fin 256 => val_main_v7 (F := Ideal) x0 x1 (ix4 (i 0) (i 1) (i 2) j))) := by
  pointwise [val_main_v14, val_main_v13, val_main_v12, val_main_v11, top_at]

/-- A softmax weight of the reference. -/
theorem weight_at (i : S4x4x2048x256.Idx) : val_main_v18 (F := Ideal) x0 x1 i
    = weight (fun j : Fin 256 => val_main_v7 (F := Ideal) x0 x1 (ix4 (i 0) (i 1) (i 2) j)) (i 3) := by
  unfold weight
  pointwise [val_main_v18, val_main_v17, val_main_v16, val_main_v15, val_main_cst_2, exp_at]

/-- The attention output of a prompt row. -/
theorem out_at (i : S8192x2048.Idx) : val_main_v22 (F := Ideal) x0 x1 x2 i
    = ∑ j : Fin 256, x2 (ix2 (⟨(i 0 : ℕ) / 2048 * 256 + (j : ℕ), by idx_bounds; omega⟩ : Fin 1024) (i 1))
        * val_main_v18 (F := Ideal) x0 x1 (ix4 (⟨(i 0 : ℕ) / 2048, by idx_bounds; omega⟩ : Fin 4)
          (⟨(i 1 : ℕ) / 512, by idx_bounds; omega⟩ : Fin 4) (⟨(i 0 : ℕ) % 2048, by idx_bounds; omega⟩ : Fin 2048) j) := by
  pointwise [val_main_v22, val_main_v21, val_main_v20, val_main_v19, val_main_v4]

/-- The attention of a prompt row: four sequences of 2048 rows, each with its own 256 memory rows; four heads of 512 columns. -/
def prompt (i : S8192x2048.Idx) : EReal :=
  attend
    (fun d : Fin 512 => x0 (ix2 (⟨(i 0 : ℕ), by idx_bounds; omega⟩ : Fin 8448)
      (⟨(i 1 : ℕ) / 512 * 512 + (d : ℕ), by idx_bounds; omega⟩ : Fin 2048)))
    (fun (j : Fin 256) (d : Fin 512) => x1 (ix2 (⟨(i 0 : ℕ) / 2048 * 256 + (j : ℕ), by idx_bounds; omega⟩ : Fin 1024)
      (⟨(i 1 : ℕ) / 512 * 512 + (d : ℕ), by idx_bounds; omega⟩ : Fin 2048)))
    (fun j : Fin 256 => x2 (ix2 (⟨(i 0 : ℕ) / 2048 * 256 + (j : ℕ), by idx_bounds; omega⟩ : Fin 1024) (i 1)))

/-- The reference's prompt rows are that attention. -/
theorem prompt_at (i : S8192x2048.Idx) : val_main_v22 (F := Ideal) x0 x1 x2 i = prompt x0 x1 x2 i := by
  rw [out_at]
  unfold prompt attend
  refine Finset.sum_congr rfl fun j _ => ?_
  rw [mul_comm, weight_at]
  congr 2
  funext k
  rw [score_at]
  congr 1
  funext d
  congr 2
  apply Fin.ext
  have h0 : (i 0 : ℕ) < 8192 := (i 0).isLt
  show (i 0 : ℕ) / 2048 * 2048 + (i 0 : ℕ) % 2048 = (i 0 : ℕ)
  omega

/-- The reference's result: the attention on the prompt's rows, zero on the rows after them. -/
theorem result_at (i : S8448x2048.Idx) : val_main_v24 (F := Ideal) x0 x1 x2 i
    = if h : (i 0 : ℕ) < 8192 then prompt x0 x1 x2 (ix2 (⟨(i 0 : ℕ), h⟩ : Fin 8192) (i 1)) else 0 := by
  simp only [← prompt_at]
  unfold val_main_v24
  generalize val_main_v22 (F := Ideal) x0 x1 x2 = y
  pointwise [val_main_v23, val_main_cst_3]

/-- The reference's result at a prompt row. -/
theorem result_of (i : S8448x2048.Idx) (k : S8192x2048.Idx) (h0 : (i 0 : ℕ) = (k 0 : ℕ)) (h1 : (i 1 : ℕ) = (k 1 : ℕ)) :
    val_main_v24 (F := Ideal) x0 x1 x2 i = prompt x0 x1 x2 k := by
  have hk : (k 0 : ℕ) < 8192 := (k 0).isLt
  rw [result_at, dif_pos (by omega)]
  refine congrArg (prompt x0 x1 x2) ?_
  blk_ext

end Cert.ReferenceIdeal.Result

end
-- ==== Proof.AttnValue.lean ====
/- The value of the prompt's cross-attention: every head tile a grid point stores is the attention of its block of rows, the
   padding rows keep the zeros the result array starts with, and together they are the reference's result. -/
module

public import proofs.«01_k».proof.Proof.Gen.KernelIdeal.Value
public import proofs.«01_k».proof.Proof.Gen.ReferenceIdeal.Read
public import Idealize.ShloMosaic.Lib.Pipeline.ValueKit
public import Idealize.ShloMosaic.Lib.Pointwise
public import proofs.«01_k».proof.Proof.AttnRef

@[expose] public section

set_option maxRecDepth 16384

noncomputable section

namespace Cert.KernelIdeal.Result

open Cert.KernelIdeal Cert.KernelIdeal.Gen Idealize.ShloMosaic Idealize.ShloMosaic.TcCoe Idealize.SL.Sem
open Idealize.ShloMosaic.Pipeline (Dat)

open Cert.Softmax
open Cert.ReferenceIdeal.Result (prompt result_at)

variable (m : (ℓ : Loc nD τ sig) → Buf (Elt Ideal) ℓ)

/-- Which block each window takes at a grid point. -/
theorem idx : ∀ t : Fin cfg0.N, win0_0.index t = ![t.val, 0] ∧ win0_1.index t = ![t.val / 2, 0, 0]
    ∧ win0_2.index t = ![t.val / 2, 0, 0] ∧ win0_3.index t = ![t.val, 0] :=
  (by decide +kernel : ∀ t : Fin grid0.N, _)

/-- The grid has eight points. -/
theorem lt8 (t : Fin cfg0.N) : (t : ℕ) < 8 := lt_of_lt_of_eq t.isLt (by decide +kernel)

/-- The attention of row `r` of a block of 1024 rows over one sequence's memory, at column `e` of head `p`. -/
def head (q : FVec Ideal S1024x2048 .bf16) (k v : FVec Ideal S1x256x2048 .f32) (p : Fin 4) (r : Fin 1024) (e : Fin 512) : EReal :=
  attend
    (fun d : Fin 512 => q (ix2 r (⟨(p : ℕ) * 512 + (d : ℕ), by omega⟩ : Fin 2048)))
    (fun (j : Fin 256) (d : Fin 512) => k (ix3 0 j (⟨(p : ℕ) * 512 + (d : ℕ), by omega⟩ : Fin 2048)))
    (fun j : Fin 256 => v (ix3 0 j (⟨(p : ℕ) * 512 + (e : ℕ), by omega⟩ : Fin 2048)))

/-- A query the block holds. -/
theorem query_at (c : Dev nD) (t : Fin cfg0.N) (j : S1024x2048.Idx) : X0_0 m c t j
    = m ((c : Thread nD τ).loc main_arg0) (ix2 (⟨(t : ℕ) * 1024 + (j 0 : ℕ), by
        have := lt8 t; idx_bounds; omega⟩ : Fin 8448) (j 1)) := by
  unfold X0_0 Pipeline.Window.fill
  rw [dif_pos (moved0_0 t j)]
  blk_point [iblk, V, idx t]

/-- What a point leaves in its result block. -/
theorem stored (c : Dev nD) (t : Fin cfg0.N) (y : S1024x2048.Idx) :
    outsAt0 m c t y = head (X0_0 m c t) (iblk m c 1 t) (iblk m c 2 t) (⟨(y 1 : ℕ) / 512, by idx_bounds; omega⟩ : Fin 4) (y 0)
      (⟨(y 1 : ℕ) % 512, by omega⟩ : Fin 512) := by
  unfold outsAt0
  generalize X0_0 m c t = q
  generalize iblk m c 1 t = k
  generalize iblk m c 2 t = v
  frame_out
  have hhead : ∀ (x : S1024x512.Idx) (p : Fin 4), (y 0 : ℕ) = (x 0 : ℕ) → (y 1 : ℕ) = (p : ℕ) * 512 + (x 1 : ℕ) →
      head q k v (⟨(y 1 : ℕ) / 512, by idx_bounds; omega⟩ : Fin 4) (y 0) (⟨(y 1 : ℕ) % 512, by omega⟩ : Fin 512)
        = head q k v p (x 0) (x 1) := by
    intro x p h0 h1
    have hx : (x 1 : ℕ) < 512 := (x 1).isLt
    congr 1 <;> apply Fin.ext
    · show (y 1 : ℕ) / 512 = (p : ℕ)
      omega
    · exact h0
    · show (y 1 : ℕ) % 512 = (x 1 : ℕ)
      omega
  canon_tiles x h
  case piece0 => rw [hhead x 3 h0 (by simp; omega)]; open_payloads; unfold head attend weight top score; pointwise
  case piece1 => rw [hhead x 2 h0 (by simp; omega)]; open_payloads; unfold head attend weight top score; pointwise
  case piece2 => rw [hhead x 1 h0 (by simp; omega)]; open_payloads; unfold head attend weight top score; pointwise
  case piece3 => rw [hhead x 0 h0 (by simp; omega)]; open_payloads; unfold head attend weight top score; pointwise

/-- A key the block holds. -/
theorem key_at (c : Dev nD) (t : Fin cfg0.N) (j : S1x256x2048.Idx) : iblk m c 1 t j
    = m ((c : Thread nD τ).loc main_arg1) (ix2 (⟨(t : ℕ) / 2 * 256 + (j 1 : ℕ), by
        have := lt8 t; idx_bounds; omega⟩ : Fin 1024) (j 2)) := by
  blk_point [iblk, V, idx t]

/-- A value the block holds. -/
theorem value_at (c : Dev nD) (t : Fin cfg0.N) (j : S1x256x2048.Idx) : iblk m c 2 t j
    = m ((c : Thread nD τ).loc main_arg2) (ix2 (⟨(t : ℕ) / 2 * 256 + (j 1 : ℕ), by
        have := lt8 t; idx_bounds; omega⟩ : Fin 1024) (j 2)) := by
  blk_point [iblk, V, idx t]

/-- The blocks' attention is the attention of the arrays' rows. -/
theorem point (c : Dev nD) (t : Fin cfg0.N) (y : S1024x2048.Idx) (i : Cert.ReferenceIdeal.S8192x2048.Idx)
    (h0 : (i 0 : ℕ) = (t : ℕ) * 1024 + (y 0 : ℕ)) (h1 : (i 1 : ℕ) = (y 1 : ℕ)) :
    outsAt0 m c t y = prompt (m ((c : Thread nD τ).loc main_arg0)) (m ((c : Thread nD τ).loc main_arg1))
      (m ((c : Thread nD τ).loc main_arg2)) i := by
  have ht := lt8 t
  have hy0 : (y 0 : ℕ) < 1024 := (y 0).isLt
  have hd : ((t : ℕ) * 1024 + (y 0 : ℕ)) / 2048 = (t : ℕ) / 2 := by omega
  rw [stored]
  unfold head prompt
  congr 1
  · funext d
    rw [query_at]
    simp only [h0, h1]
    rfl
  · funext j d
    rw [key_at]
    simp only [h0, h1, hd]
    rfl
  · funext j
    rw [value_at]
    refine congrArg (m ((c : Thread nD τ).loc main_arg2)) ?_
    blk_ext

/-- What a point leaves in its result block is the reference's result there. -/
theorem stored_at (c : Dev nD) (t : Fin cfg0.N) (y : S1024x2048.Idx) (i : S8448x2048.Idx)
    (h0 : (i 0 : ℕ) = (t : ℕ) * 1024 + (y 0 : ℕ)) (h1 : (i 1 : ℕ) = (y 1 : ℕ)) :
    outsAt0 m c t y = Cert.ReferenceIdeal.Read.val_main_v24 (F := Ideal) (m ((c : Thread nD τ).loc main_arg0))
      (m ((c : Thread nD τ).loc main_arg1)) (m ((c : Thread nD τ).loc main_arg2)) i := by
  have ht := lt8 t
  have hy0 : (y 0 : ℕ) < 1024 := (y 0).isLt
  have hy1 : (y 1 : ℕ) < 2048 := (y 1).isLt
  obtain_idx k : Cert.ReferenceIdeal.S8192x2048 := [(t : ℕ) * 1024 + (y 0 : ℕ), (y 1 : ℕ)] with hk
  exact (point m c t y k hk0 hk1).trans
    (Cert.ReferenceIdeal.Result.result_of _ _ _ i k (h0.trans hk0.symm) (h1.trans hk1.symm)).symm

/-- The kernel's result array: the attention of the prompt's rows, zero on the rows after them. -/
theorem final (c : Dev nD) : (dats m 0 c).arrAt 3 (cfgs 0).N
    = Cert.ReferenceIdeal.Read.val_main_v24 (F := Ideal) (m ((c : Thread nD τ).loc main_arg0))
        (m ((c : Thread nD τ).loc main_arg1)) (m ((c : Thread nD τ).loc main_arg2)) := by
  refine (dats m 0 c).arrAt_eq_of_coversWhere_of_agree 3 _ (fun β => β 0 < 8) (by decide +kernel) (fun t hf y => ?_)
    (fun j hj => ?_)
  · blk_simp
    rw [after0_3]
    refine stored_at m c t _ _ ?_ ?_
    · blk_simp [idx t]
    · blk_simp [idx t]
  · blk_simp [Pipeline.Window.cell_apply] at hj
    have hj' : ¬(j 0 : ℕ) < 8192 := by omega
    refine Eq.trans ?_ ((Cert.ReferenceIdeal.Result.result_at _ _ _ _).trans (dif_neg hj')).symm
    rw [A_eq]
    show V m c main_v3 _ = (0 : EReal)
    entry_read
    pointwise

end Cert.KernelIdeal.Result

end
-- ==== Proof.InProjRef.lean ====
/- The reference of the combined input projection, read at one index: the prompt rows, the sample rows, and zero rows after them. -/
module

public import proofs.«01_k».proof.Proof.Gen.InProjIdeal.Value
public import proofs.«01_k».proof.Proof.Gen.InProjRefIdeal.Read
public import Idealize.ShloMosaic.Lib.Pipeline.ValueKit
public import Idealize.ShloMosaic.Lib.Pointwise

@[expose] public section

set_option maxRecDepth 16384

noncomputable section

namespace Cert.InProjIdeal.Result

open Cert.InProjIdeal Cert.InProjIdeal.Gen Idealize.ShloMosaic Idealize.ShloMosaic.TcCoe Idealize.SL.Sem
open Idealize.ShloMosaic.Pipeline (Dat)

open Cert.InProjRefIdeal.Read

/-- A row, divided by its root mean square and scaled, times one column of a matrix. -/
def projected (x g w : Fin 2048 → EReal) : EReal :=
  ∑ k, x k * Ideal.rsqrt (Ideal.div (∑ j, x j * x j) (Ideal.ofBits FTy.f32 0x45000000#32) + Ideal.ofBits FTy.f32 0x358637BD#32) * g k * w k

variable (x0 : FVec Ideal S4x2048x2048 .f32) (x1 : FVec Ideal S128x1x2048 .f32) (x2 : FVec Ideal S1x2048 .f32)
  (x3 : FVec Ideal S1x2048x5136 .f32)

/-- The projected prompt rows. -/
theorem prompt_at (i : Cert.InProjRefIdeal.S4x2048x5136.Idx) : val_main_v15 (F := Ideal) x0 x2 x3 i
    = projected (fun k => x0 (ix3 (i 0) (i 1) k)) (fun k => x2 (ix2 0 k)) (fun k => x3 (ix3 0 k (i 2))) := by
  unfold projected
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The projected sample rows. -/
theorem sample_at (r : Fin 128) (n : Fin 5136) : val_main_v31 (F := Ideal) x1 x2 x3 (ix3 r 0 n)
    = projected (fun k => x1 (ix3 r 0 k)) (fun k => x2 (ix2 0 k)) (fun k => x3 (ix3 0 k n)) := by
  unfold projected
  pointwise [val_main_v31, val_main_v30, val_main_v29, val_main_v28, val_main_v27, val_main_v26, val_main_v25, val_main_v24, val_main_v23, val_main_v22, val_main_v21, val_main_v20, val_main_v19, val_main_v18, val_main_v17, val_main_v16, val_main_cst_2, val_main_cst_3, val_main_cst_4]

/-- Every row of the batch: the prompt rows, then the sample rows, then rows of zeros. -/
def row (r : Fin 8448) (k : Fin 2048) : EReal :=
  if h : (r : ℕ) < 8192 then x0 (ix3 (⟨(r : ℕ) / 2048, by omega⟩ : Fin 4) (⟨(r : ℕ) % 2048, by omega⟩ : Fin 2048) k)
  else if h' : (r : ℕ) < 8320 then x1 (ix3 (⟨(r : ℕ) - 8192, by omega⟩ : Fin 128) 0 k) else 0

/-- A row of zeros projects to zero. -/
theorem projected_zero (g w : Fin 2048 → EReal) : projected (fun _ => 0) g w = 0 := by
  unfold projected
  exact Finset.sum_eq_zero fun k _ => by rw [zero_mul, zero_mul, zero_mul]

/-- The reference's projected rows, all of them. -/
theorem all_at (i : Cert.InProjRefIdeal.S8448x5136.Idx) : val_main_v35 (F := Ideal) x0 x1 x2 x3 i
    = projected (row x0 x1 (i 0)) (fun k => x2 (ix2 0 k)) (fun k => x3 (ix3 0 k (i 1))) := by
  have hr : (i 0 : ℕ) < 8448 := (i 0).isLt
  by_cases h : (i 0 : ℕ) < 8192
  · have e : row x0 x1 (i 0) = fun k => x0 (ix3 (⟨(i 0 : ℕ) / 2048, by omega⟩ : Fin 4) (⟨(i 0 : ℕ) % 2048, by omega⟩ : Fin 2048) k) :=
      funext fun k => dif_pos h
    rw [e]
    refine Eq.trans ?_ (prompt_at x0 x2 x3 (ix3 (⟨(i 0 : ℕ) / 2048, by omega⟩ : Fin 4) (⟨(i 0 : ℕ) % 2048, by omega⟩ : Fin 2048) (i 1)))
    unfold val_main_v35 val_main_v32
    generalize val_main_v15 (F := Ideal) x0 x2 x3 = u
    generalize val_main_v33 (F := Ideal) x1 x2 x3 = v
    pointwise
    rw [dif_pos h]
  by_cases h' : (i 0 : ℕ) < 8320
  · have e : row x0 x1 (i 0) = fun k => x1 (ix3 (⟨(i 0 : ℕ) - 8192, by omega⟩ : Fin 128) 0 k) :=
      funext fun k => (dif_neg h).trans (dif_pos h')
    rw [e]
    refine Eq.trans ?_ (sample_at x1 x2 x3 (⟨(i 0 : ℕ) - 8192, by omega⟩ : Fin 128) (i 1))
    unfold val_main_v35 val_main_v33
    generalize val_main_v32 (F := Ideal) x0 x2 x3 = u
    generalize val_main_v31 (F := Ideal) x1 x2 x3 = v
    pointwise
    rw [dif_neg h, dif_pos (by omega)]
  · have e : row x0 x1 (i 0) = fun _ => 0 := funext fun k => (dif_neg h).trans (dif_neg h')
    rw [e, projected_zero]
    unfold val_main_v35
    generalize val_main_v32 (F := Ideal) x0 x2 x3 = u
    generalize val_main_v33 (F := Ideal) x1 x2 x3 = v
    pointwise [val_main_v34, val_main_cst_5]
    rw [dif_neg h, dif_neg (by omega)]

/-- The reference's first result: the first 5120 columns. -/
theorem main_at (i : Cert.InProjRefIdeal.S8448x5120.Idx) : val_main_v36 (F := Ideal) x0 x1 x2 x3 i
    = projected (row x0 x1 (i 0)) (fun k => x2 (ix2 0 k))
        (fun k => x3 (ix3 0 k (⟨(i 1 : ℕ), by idx_bounds; omega⟩ : Fin 5136))) := by
  rw [val_main_v36_apply, all_at]
  rfl

/-- The reference's second result: the last 16 columns, and zeros up to column 128. -/
theorem gate_at (i : Cert.InProjRefIdeal.S8448x128.Idx) : val_main_v38 (F := Ideal) x0 x1 x2 x3 i
    = projected (row x0 x1 (i 0)) (fun k => x2 (ix2 0 k))
        (fun k => if h : (i 1 : ℕ) < 16 then x3 (ix3 0 k (⟨5120 + (i 1 : ℕ), by omega⟩ : Fin 5136)) else 0) := by
  by_cases h : (i 1 : ℕ) < 16
  · simp only [dif_pos h]
    refine Eq.trans ?_ (all_at x0 x1 x2 x3 (ix2 (i 0) (⟨5120 + (i 1 : ℕ), by omega⟩ : Fin 5136)))
    unfold val_main_v38 val_main_v37
    generalize val_main_v35 (F := Ideal) x0 x1 x2 x3 = u
    pointwise
    rw [dif_pos (by omega)]
  · simp only [dif_neg h]
    have e : projected (row x0 x1 (i 0)) (fun k => x2 (ix2 0 k)) (fun _ => 0) = 0 := by
      unfold projected
      exact Finset.sum_eq_zero fun k _ => mul_zero _
    rw [e]
    unfold val_main_v38
    generalize val_main_v37 (F := Ideal) x0 x1 x2 x3 = u
    pointwise [val_main_call0_v0, val_main_c]
    rw [dif_neg (by omega)]
    show (((0#32 : BitVec 32).toInt : ℝ) : EReal) = 0
    simp

end Cert.InProjIdeal.Result

end
-- ==== Proof.InProjValue.lean ====
/- The values of the combined input projection: every row of the batch, divided by its root mean square and scaled, times the main
   columns (the first result) and times the gate columns (the second), block of 384 rows by block of 384 rows. -/
module

public import proofs.«01_k».proof.Proof.Gen.InProjIdeal.Value
public import proofs.«01_k».proof.Proof.Gen.InProjRefIdeal.Read
public import Idealize.ShloMosaic.Lib.Pipeline.ValueKit
public import Idealize.ShloMosaic.Lib.Pointwise
public import proofs.«01_k».proof.Proof.InProjRef

@[expose] public section

set_option maxRecDepth 16384

noncomputable section

namespace Cert.InProjIdeal.Result

open Cert.InProjIdeal Cert.InProjIdeal.Gen Idealize.ShloMosaic Idealize.ShloMosaic.TcCoe Idealize.SL.Sem
open Idealize.ShloMosaic.Pipeline (Dat)

open Cert.InProjRefIdeal.Read

variable (m : (ℓ : Loc nD τ sig) → Buf (Elt Ideal) ℓ)

/-- Which block each window takes at a grid point. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

/-- The grid has 22 points. -/
theorem lt22 (t : Fin cfg0.N) : (t : ℕ) < 22 := lt_of_lt_of_eq t.isLt (by decide +kernel)

/-- The device's buffers before the three row pieces are put together. -/
abbrev before (c : Dev nD) : Valuation τ sig (Elt Ideal) :=
  StableHlo.after (hostOps0 ++ hostOps0_1 ++ hostOps0_2.take 5) (fun b => m (c, b))

/-- The operations from the concatenation on leave its three pieces, put together. -/
theorem joined (σ : Valuation τ sig (Elt Ideal)) :
    StableHlo.after (hostOps0_2.drop 5) σ ((.tc : Proc τ).devRef main_v10)
      = concatenate S8448x2048 0 [⟨S8192x2048, (σ ((.tc : Proc τ).devRef main_v7) : (⟨S8192x2048, .f32⟩ : BufTy).Contents (Elt Ideal))⟩,
          ⟨S128x2048, (σ ((.tc : Proc τ).devRef main_v8) : (⟨S128x2048, .f32⟩ : BufTy).Contents (Elt Ideal))⟩,
          ⟨S128x2048, (σ ((.tc : Proc τ).devRef main_v9) : (⟨S128x2048, .f32⟩ : BufTy).Contents (Elt Ideal))⟩]
        concatenates_S8192x2048_S128x2048_S128x2048_S8448x2048_d0 := by
  simp only [hostOps0_2, List.drop_succ_cons, List.drop_zero, StableHlo.after_cons, StableHlo.after_nil]
  rw [StableHlo.reshape_result_ne _ _ _ _ _ _ _ (by decide), StableHlo.reshape_result_ne _ _ _ _ _ _ _ (by decide),
    StableHlo.nary_result]
  rfl

/-- The prompt rows among the pieces. -/
theorem prompt_piece (c : Dev nD) (i : S8192x2048.Idx) : before m c ((.tc : Proc τ).devRef main_v7) i
    = m ((c : Thread nD τ).loc main_arg0) (ix3 (⟨(i 0 : ℕ) / 2048, by idx_bounds; omega⟩ : Fin 4) (⟨(i 0 : ℕ) % 2048, by omega⟩ : Fin 2048) (i 1)) := by
  simp only [before, hostOps0, hostOps0_1, hostOps0_2, List.take_succ_cons, List.take_zero, List.append_nil, List.cons_append,
    List.nil_append]
  entry_read
  pointwise
  blk_ext

/-- The sample rows among the pieces. -/
theorem sample_piece (c : Dev nD) (i : S128x2048.Idx) : before m c ((.tc : Proc τ).devRef main_v8) i
    = m ((c : Thread nD τ).loc main_arg1) (ix3 (i 0) 0 (i 1)) := by
  simp only [before, hostOps0, hostOps0_1, hostOps0_2, List.take_succ_cons, List.take_zero, List.append_nil, List.cons_append,
    List.nil_append]
  entry_read
  pointwise
  blk_ext

/-- The zero rows among the pieces. -/
theorem zero_piece (c : Dev nD) (i : S128x2048.Idx) : before m c ((.tc : Proc τ).devRef main_v9) i = (0 : EReal) := by
  simp only [before, hostOps0, hostOps0_1, hostOps0_2, List.take_succ_cons, List.take_zero, List.append_nil, List.cons_append,
    List.nil_append]
  entry_read
  pointwise

/-- The batch at the region's start: the prompt rows, the sample rows, rows of zeros. -/
theorem batch_at (c : Dev nD) (r : Fin 8448) (k : Fin 2048) : V m c main_v10 (ix2 r k)
    = row (m ((c : Thread nD τ).loc main_arg0)) (m ((c : Thread nD τ).loc main_arg1)) r k := by
  have e : V m c main_v10 = StableHlo.after (hostOps0_2.drop 5) (before m c) ((.tc : Proc τ).devRef main_v10) := rfl
  rw [e, joined]
  have h7 := prompt_piece m c
  have h8 := sample_piece m c
  have h9 := zero_piece m c
  generalize before m c = σ at h7 h8 h9 ⊢
  generalize σ ((.tc : Proc τ).devRef main_v7) = u at h7 ⊢
  generalize σ ((.tc : Proc τ).devRef main_v8) = v at h8 ⊢
  generalize σ ((.tc : Proc τ).devRef main_v9) = w at h9 ⊢
  by_cases h : (r : ℕ) < 8192
  · refine Eq.trans ?_ (dif_pos h).symm
    pointwise
    exact (dif_pos h).trans (h7 _)
  by_cases h' : (r : ℕ) < 8320
  · refine Eq.trans ?_ ((dif_neg h).trans (dif_pos h')).symm
    pointwise
    rw [dif_neg h, dif_pos (by omega)]
    exact h8 _
  · refine Eq.trans ?_ ((dif_neg h).trans (dif_neg h')).symm
    pointwise
    rw [dif_neg h, dif_neg (by omega)]
    exact h9 _

/-- The scale at the region's start. -/
theorem scale_entry (c : Dev nD) (i : S1x2048.Idx) : V m c main_v12 i = m ((c : Thread nD τ).loc main_arg2) i := by
  simp only [V, hostOps0, hostOps0_1, hostOps0_2, List.flatten_cons, List.flatten_nil, List.append_nil, List.cons_append,
    List.nil_append]
  entry_read
  pointwise
  blk_ext

/-- The main columns at the region's start. -/
theorem main_entry (c : Dev nD) (i : S2048x5120.Idx) : V m c main_v2 i
    = m ((c : Thread nD τ).loc main_arg3) (ix3 0 (i 0) (⟨(i 1 : ℕ), lt_of_lt_of_le (i 1).isLt (by decide)⟩ : Fin 5136)) := by
  simp only [V, hostOps0, hostOps0_1, hostOps0_2, List.flatten_cons, List.flatten_nil, List.append_nil, List.cons_append,
    List.nil_append]
  entry_read
  pointwise
  blk_ext

/-- The gate columns at the region's start, zeros after the sixteenth. -/
theorem gate_entry (c : Dev nD) (i : S2048x128.Idx) : V m c main_v6 i
    = if h : (i 1 : ℕ) < 16 then m ((c : Thread nD τ).loc main_arg3) (ix3 0 (i 0) (⟨5120 + (i 1 : ℕ), by omega⟩ : Fin 5136)) else (0 : EReal) := by
  simp only [V, hostOps0, hostOps0_1, hostOps0_2, List.flatten_cons, List.flatten_nil, List.append_nil, List.cons_append,
    List.nil_append]
  entry_read
  simp -implicitDefEqProofs only [StableHlo.TRef.toBuf, StableHlo.TRef.ofBuf, cast_cast, cast_eq]
  by_cases h : (i 1 : ℕ) < 16
  · refine Eq.trans ?_ (dif_pos h).symm
    pointwise
    rw [dif_pos h]
    blk_ext
  · refine Eq.trans ?_ (dif_neg h).symm
    pointwise
    rw [dif_neg h]
    show (((0#32 : BitVec 32).toInt : ℝ) : EReal) = 0
    simp

/-- A row the block holds is a row of the batch. -/
theorem row_at (c : Dev nD) (t : Fin cfg0.N) (r : Fin 384) (k : Fin 2048) : iblk m c 0 t (ix2 r k)
    = row (m ((c : Thread nD τ).loc main_arg0)) (m ((c : Thread nD τ).loc main_arg1))
        (⟨(t : ℕ) * 384 + (r : ℕ), by have := lt22 t; omega⟩ : Fin 8448) k := by
  have e : (win0_0.blk t).view.emb (ix2 r k) = ix2 (⟨(t : ℕ) * 384 + (r : ℕ), by have := lt22 t; omega⟩ : Fin 8448) k := by
    blk_ext [idx t]
  show V m c main_v10 ((win0_0.blk t).view.emb (ix2 r k)) = _
  rw [e]
  exact batch_at m c _ k

/-- The scale the block holds. -/
theorem scale_at (c : Dev nD) (t : Fin cfg0.N) (k : Fin 2048) : iblk m c 1 t (ix2 0 k)
    = m ((c : Thread nD τ).loc main_arg2) (ix2 0 k) := by
  have e : (win0_1.blk t).view.emb (ix2 0 k) = ix2 0 k := by
    blk_ext [idx t]
  exact (scale_entry m c _).trans (by rw [e])

/-- The main columns the block holds. -/
theorem main_col (c : Dev nD) (t : Fin cfg0.N) (k : Fin 2048) (n : Fin 5120) : iblk m c 2 t (ix2 k n)
    = m ((c : Thread nD τ).loc main_arg3) (ix3 0 k (⟨(n : ℕ), by omega⟩ : Fin 5136)) := by
  have e : (win0_2.blk t).view.emb (ix2 k n) = ix2 k n := by
    blk_ext [idx t]
  exact (main_entry m c _).trans (by rw [e]; rfl)

/-- The gate columns the block holds. -/
theorem gate_col (c : Dev nD) (t : Fin cfg0.N) (k : Fin 2048) (n : Fin 128) : iblk m c 3 t (ix2 k n)
    = if h : (n : ℕ) < 16 then m ((c : Thread nD τ).loc main_arg3) (ix3 0 k (⟨5120 + (n : ℕ), by omega⟩ : Fin 5136)) else (0 : EReal) := by
  have e : (win0_3.blk t).view.emb (ix2 k n) = ix2 k n := by
    blk_ext [idx t]
  exact (gate_entry m c _).trans (by rw [e]; rfl)

/-- One element of the main product of a block of rows. -/
theorem main_pay (x : FVec Ideal S384x2048 .f32) (g : FVec Ideal S1x2048 .f32) (w : FVec Ideal S2048x5120 .bf16) (y : S384x5120.Idx) :
    (k0_pay4 (F := Ideal) (k0_pay2 (F := Ideal) x g) w y : EReal)
      = projected (fun k => x (ix2 (y 0) k)) (fun k => g (ix2 0 k)) (fun k => w (ix2 k (y 1))) := by
  unfold projected
  pointwise [k0_pay4, k0_pay2, k0_pay1]

/-- One element of the gate product of a block of rows. -/
theorem gate_pay (x : FVec Ideal S384x2048 .f32) (g : FVec Ideal S1x2048 .f32) (w : FVec Ideal S2048x128 .bf16) (y : S384x128.Idx) :
    (k0_pay3 (F := Ideal) x g w y : EReal)
      = projected (fun k => x (ix2 (y 0) k)) (fun k => g (ix2 0 k)) (fun k => w (ix2 k (y 1))) := by
  unfold projected
  pointwise [k0_pay3, k0_pay1]

/-- What a point stores for the main columns. -/
theorem main_point (c : Dev nD) (t : Fin cfg0.N) (y : S384x5120.Idx) (i : S8448x5120.Idx)
    (h0 : (i 0 : ℕ) = (t : ℕ) * 384 + (y 0 : ℕ)) (h1 : (i 1 : ℕ) = (y 1 : ℕ)) :
    k0_pay4 (k0_pay2 (iblk m c 0 t) (iblk m c 1 t)) (iblk m c 2 t) y
      = val_main_v36 (F := Ideal) (m ((c : Thread nD τ).loc main_arg0)) (m ((c : Thread nD τ).loc main_arg1))
          (m ((c : Thread nD τ).loc main_arg2)) (m ((c : Thread nD τ).loc main_arg3)) i := by
  rw [main_at, main_pay]
  refine congr (congr (congrArg projected (funext fun k => ?_)) (funext fun k => ?_)) (funext fun k => ?_)
  · exact (row_at m c t (y 0) k).trans (congrArg (fun r : Fin 8448 => row (m ((c : Thread nD τ).loc main_arg0))
      (m ((c : Thread nD τ).loc main_arg1)) r k) (Fin.ext h0.symm))
  · exact scale_at m c t k
  · exact (main_col m c t k (y 1)).trans
      (congrArg (fun n : Fin 5136 => m ((c : Thread nD τ).loc main_arg3) (ix3 0 k n)) (Fin.ext h1.symm))

/-- What a point stores for the gate columns. -/
theorem gate_point (c : Dev nD) (t : Fin cfg0.N) (y : S384x128.Idx) (i : S8448x128.Idx)
    (h0 : (i 0 : ℕ) = (t : ℕ) * 384 + (y 0 : ℕ)) (h1 : (i 1 : ℕ) = (y 1 : ℕ)) :
    k0_pay3 (iblk m c 0 t) (iblk m c 1 t) (iblk m c 3 t) y
      = val_main_v38 (F := Ideal) (m ((c : Thread nD τ).loc main_arg0)) (m ((c : Thread nD τ).loc main_arg1))
          (m ((c : Thread nD τ).loc main_arg2)) (m ((c : Thread nD τ).loc main_arg3)) i := by
  rw [gate_at, gate_pay]
  refine congr (congr (congrArg projected (funext fun k => ?_)) (funext fun k => ?_)) (funext fun k => ?_)
  · exact (row_at m c t (y 0) k).trans (congrArg (fun r : Fin 8448 => row (m ((c : Thread nD τ).loc main_arg0))
      (m ((c : Thread nD τ).loc main_arg1)) r k) (Fin.ext h0.symm))
  · exact scale_at m c t k
  · refine (gate_col m c t k (y 1)).trans ?_
    simp only [h1]

/-- The main columns' array. -/
theorem final_main (c : Dev nD) : (dats m 0 c).arrAt 4 (cfgs 0).N
    = val_main_v36 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  unfold outsAt0
  frame_out
  refine main_point m c t y _ ?_ ?_
  all_goals (blk_simp [idx t] <;> try omega)

/-- The gate columns' array. -/
theorem final_gate (c : Dev nD) : (dats m 0 c).arrAt 5 (cfgs 0).N
    = val_main_v38 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  blk_simp
  rw [after0_5]
  unfold outsAt0
  frame_out
  refine gate_point m c t y _ ?_ ?_
  all_goals (blk_simp [idx t] <;> try omega)

end Cert.InProjIdeal.Result

end
-- ==== Proof.OutProjValue.lean ====
/- The value of the output projection of the mixers: the array the kernel leaves is the residual stream plus the product of
   the mixed rows with the projection, block of 768 rows by block of 768 rows. -/
module

public import proofs.«01_k».proof.Proof.Gen.OutProjIdeal.Value
public import proofs.«01_k».proof.Proof.Gen.OutProjRefIdeal.Read
public import Idealize.ShloMosaic.Lib.Pipeline.ValueKit
public import Idealize.ShloMosaic.Lib.Pointwise

@[expose] public section

set_option maxRecDepth 16384

noncomputable section

namespace Cert.OutProjIdeal.Result

open Cert.OutProjIdeal Cert.OutProjIdeal.Gen Idealize.ShloMosaic Idealize.ShloMosaic.TcCoe Idealize.SL.Sem
open Idealize.ShloMosaic.Pipeline (Dat)

variable (m : (ℓ : Loc nD τ sig) → Buf (Elt Ideal) ℓ)

/-- The reference's result as a function of its arguments. -/
abbrev REF (mix : FVec Ideal S8448x2048 .f32) (w : FVec Ideal S1x2048x2048 .f32) (x : FVec Ideal S8448x2048 .f32) :
    FVec Ideal S8448x2048 .f32 :=
  addf x (Host.dotGeneral Cert.OutProjRefIdeal.dot_S8448x2048_S2048x2048_S8448x2048_1_0_0_1_n_n none mix
    (shapeCast _ w Cert.OutProjRefIdeal.Gen.shapeCasts_S1x2048x2048_S2048x2048))

/-- Which block each window takes at a grid point. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- One element of what a point stores. -/
theorem point (c : Dev nD) (t : Fin cfg0.N) (y) :
    k0_pay1 (iblk m c 2 t) (iblk m c 0 t) (iblk m c 1 t) y
      = REF (m ((c : Thread nD τ).loc main_arg0)) (m ((c : Thread nD τ).loc main_arg1))
          (m ((c : Thread nD τ).loc main_arg2)) (((cfg0.win 3).blk t).view.emb y) := by
  pointwise [k0_pay1, REF]
  blk_point [iblk, V, idx t]

/-- The kernel's result array. -/
theorem final (c : Dev nD) : (dats m 0 c).arrAt 3 (cfgs 0).N
    = REF (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point m c t y

end Cert.OutProjIdeal.Result

end
-- ==== Proof.XOutValue.lean ====
/- The value of the output projection of the cross-attention: the array the kernel leaves is the residual stream plus the
   product of the 16-bit attention rows with the projection, block of 768 rows by block of 768 rows. -/
module

public import proofs.«01_k».proof.Proof.Gen.XOutIdeal.Value
public import proofs.«01_k».proof.Proof.Gen.XOutRefIdeal.Read
public import Idealize.ShloMosaic.Lib.Pipeline.ValueKit
public import Idealize.ShloMosaic.Lib.Pointwise

@[expose] public section

set_option maxRecDepth 16384

noncomputable section

namespace Cert.XOutIdeal.Result

open Cert.XOutIdeal Cert.XOutIdeal.Gen Idealize.ShloMosaic Idealize.ShloMosaic.TcCoe Idealize.SL.Sem
open Idealize.ShloMosaic.Pipeline (Dat)

variable (m : (ℓ : Loc nD τ sig) → Buf (Elt Ideal) ℓ)

/-- The reference's result as a function of its arguments. -/
abbrev REF (att : FVec Ideal S8448x2048 .bf16) (w : FVec Ideal S1x2048x2048 .f32) (x : FVec Ideal S8448x2048 .f32) :
    FVec Ideal S8448x2048 .f32 :=
  addf x (Host.dotGeneral Cert.XOutRefIdeal.dot_S8448x2048_S2048x2048_S8448x2048_1_0_0_1_n_n none (extf .f32 att Cert.XOutRefIdeal.Gen.bitsLt_bf16_f32)
    (shapeCast _ w Cert.XOutRefIdeal.Gen.shapeCasts_S1x2048x2048_S2048x2048))

/-- Which block each window takes at a grid point. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- One element of what a point stores. -/
theorem point (c : Dev nD) (t : Fin cfg0.N) (y) :
    k0_pay1 (iblk m c 2 t) (iblk m c 0 t) (iblk m c 1 t) y
      = REF (m ((c : Thread nD τ).loc main_arg0)) (m ((c : Thread nD τ).loc main_arg1))
          (m ((c : Thread nD τ).loc main_arg2)) (((cfg0.win 3).blk t).view.emb y) := by
  pointwise [k0_pay1, REF]
  blk_point [iblk, V, idx t]

/-- The kernel's result array. -/
theorem final (c : Dev nD) : (dats m 0 c).arrAt 3 (cfgs 0).N
    = REF (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point m c t y

end Cert.XOutIdeal.Result

end
-- ==== Proof.XQueryValue.lean ====
/- The value of the query projection of the cross-attention: every row is divided by its root mean square, scaled and multiplied
   by the projection, block of 768 rows by block of 768 rows. -/
module

public import proofs.«01_k».proof.Proof.Gen.XQueryIdeal.Value
public import proofs.«01_k».proof.Proof.Gen.XQueryRefIdeal.Read
public import Idealize.ShloMosaic.Lib.Pipeline.ValueKit
public import Idealize.ShloMosaic.Lib.Pointwise

@[expose] public section

set_option maxRecDepth 16384

noncomputable section

namespace Cert.XQueryIdeal.Result

open Cert.XQueryIdeal Cert.XQueryIdeal.Gen Idealize.ShloMosaic Idealize.ShloMosaic.TcCoe Idealize.SL.Sem
open Idealize.ShloMosaic.Pipeline (Dat)

open Cert.XQueryRefIdeal.Read

variable (m : (ℓ : Loc nD τ sig) → Buf (Elt Ideal) ℓ)

/-- The reference's result as a function of its arguments. -/
abbrev REF (x : FVec Ideal S8448x2048 .f32) (g : FVec Ideal S1x2048 .f32) (w : FVec Ideal S1x2048x2048 .f32) :
    FVec Ideal S8448x2048 .bf16 :=
  val_main_v16 (F := Ideal) x g w

/-- Which block each window takes at a grid point. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- One element of what a point stores. -/
theorem point (c : Dev nD) (t : Fin cfg0.N) (y) :
    k0_pay2 (k0_pay1 (iblk m c 0 t) (iblk m c 1 t)) (iblk m c 2 t) y
      = REF (m ((c : Thread nD τ).loc main_arg0)) (m ((c : Thread nD τ).loc main_arg1))
          (m ((c : Thread nD τ).loc main_arg2)) (((cfg0.win 3).blk t).view.emb y) := by
  pointwise [k0_pay1, k0_pay2, val_main_v16, val_main_v15, val_main_v14, val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1]
  blk_point [iblk, V, idx t]

/-- The kernel's result array. -/
theorem final (c : Dev nD) : (dats m 0 c).arrAt 3 (cfgs 0).N
    = REF (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  unfold outsAt0
  frame_out
  exact point m c t y

end Cert.XQueryIdeal.Result

end
-- ==== Proof.PQueryValue.lean ====
/- The values of the query projection of the product-key layer: every row is divided by its root mean square and scaled, which is the second
   result, and multiplied by the projection, which is the first, block of 768 rows by block of 768 rows. -/
module

public import proofs.«01_k».proof.Proof.Gen.PQueryIdeal.Value
public import proofs.«01_k».proof.Proof.Gen.PQueryRefIdeal.Read
public import Idealize.ShloMosaic.Lib.Pipeline.ValueKit
public import Idealize.ShloMosaic.Lib.Pointwise

@[expose] public section

set_option maxRecDepth 16384

noncomputable section

namespace Cert.PQueryIdeal.Result

open Cert.PQueryIdeal Cert.PQueryIdeal.Gen Idealize.ShloMosaic Idealize.ShloMosaic.TcCoe Idealize.SL.Sem
open Idealize.ShloMosaic.Pipeline (Dat)

open Cert.PQueryRefIdeal.Read

variable (m : (ℓ : Loc nD τ sig) → Buf (Elt Ideal) ℓ)

/-- Which block each window takes at a grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- One element of the queries a point stores. -/
theorem point_query (c : Dev nD) (t : Fin cfg0.N) (y) :
    k0_pay3 (k0_pay2 (iblk m c 0 t) (iblk m c 1 t)) (iblk m c 2 t) y
      = val_main_v16 (F := Ideal) (m ((c : Thread nD τ).loc main_arg0)) (m ((c : Thread nD τ).loc main_arg1))
          (m ((c : Thread nD τ).loc main_arg2)) (((cfg0.win 3).blk t).view.emb y) := by
  pointwise [k0_pay1, k0_pay2, k0_pay3, val_main_v16, val_main_v15, val_main_v14, val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1]
  blk_point [iblk, V, idx t]

/-- One element of the normalised rows a point stores. -/
theorem point_norm (c : Dev nD) (t : Fin cfg0.N) (y) :
    k0_pay1 (iblk m c 0 t) (iblk m c 1 t) y
      = val_main_v17 (F := Ideal) (m ((c : Thread nD τ).loc main_arg0)) (m ((c : Thread nD τ).loc main_arg1))
          (((cfg0.win 4).blk t).view.emb y) := by
  pointwise [k0_pay1, val_main_v17, val_main_v15, val_main_v14, val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1]
  blk_point [iblk, V, idx t]

/-- The queries. -/
theorem final_query (c : Dev nD) : (dats m 0 c).arrAt 3 (cfgs 0).N
    = val_main_v16 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  unfold outsAt0
  frame_out
  exact point_query m c t y

/-- The normalised rows. -/
theorem final_norm (c : Dev nD) : (dats m 0 c).arrAt 4 (cfgs 0).N
    = val_main_v17 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  unfold outsAt0
  frame_out
  exact point_norm m c t y

end Cert.PQueryIdeal.Result

end
-- ==== Proof.MemKVValue.lean ====
/- The values of the memory keys (and, with the other projection, values): the projected, normalised memory rows, once as rows and
   once split into heads, block of 512 rows by block of 512 rows. -/
module

public import proofs.«01_k».proof.Proof.Gen.MemKVIdeal.Value
public import proofs.«01_k».proof.Proof.Gen.MemKVRefIdeal.Read
public import Idealize.ShloMosaic.Lib.Pipeline.ValueKit
public import Idealize.ShloMosaic.Lib.Pointwise

@[expose] public section

set_option maxRecDepth 16384

noncomputable section

namespace Cert.MemKVIdeal.Result

open Cert.MemKVIdeal Cert.MemKVIdeal.Gen Idealize.ShloMosaic Idealize.ShloMosaic.TcCoe Idealize.SL.Sem
open Idealize.ShloMosaic.Pipeline (Dat)

open Cert.MemKVRefIdeal.Read

variable (m : (ℓ : Loc nD τ sig) → Buf (Elt Ideal) ℓ)

/-- Which block each window takes at a grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0, 0] :=
  (by decide +kernel : ∀ t : Fin grid0.N, _)

/-- One element of the projected rows a point computes, against the reference's projected rows. -/
theorem core (c : Dev nD) (t : Fin cfg0.N) (y : S512x2048.Idx) (i : Cert.MemKVRefIdeal.S4x256x2048.Idx)
    (h0 : (i 0 : ℕ) = ((t : ℕ) * 512 + (y 0 : ℕ)) / 256) (h1 : (i 1 : ℕ) = ((t : ℕ) * 512 + (y 0 : ℕ)) % 256)
    (h2 : (i 2 : ℕ) = (y 1 : ℕ)) :
    k0_pay2 (k0_pay1 (iblk m c 0 t) (iblk m c 1 t)) (iblk m c 2 t) y
      = val_main_v15 (F := Ideal) (m ((c : Thread nD τ).loc main_arg0)) (m ((c : Thread nD τ).loc main_arg1))
          (m ((c : Thread nD τ).loc main_arg2)) i := by
  pointwise [k0_pay1, k0_pay2, val_main_v15, val_main_v14, val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1]
  blk_point [iblk, V, idx t]

/-- The reference's rows, read at their projected rows. -/
theorem rows_at (x : FVec Ideal S4x256x2048 .f32) (g : FVec Ideal S1x2048 .f32) (w : FVec Ideal S1x2048x2048 .f32)
    (j : Cert.MemKVRefIdeal.S1024x2048.Idx) (i : Cert.MemKVRefIdeal.S4x256x2048.Idx) (h0 : (i 0 : ℕ) = (j 0 : ℕ) / 256)
    (h1 : (i 1 : ℕ) = (j 0 : ℕ) % 256) (h2 : (i 2 : ℕ) = (j 1 : ℕ)) :
    val_main_v17 (F := Ideal) x g w j = val_main_v15 (F := Ideal) x g w i := by
  unfold val_main_v17 val_main_v16
  generalize val_main_v15 (F := Ideal) x g w = v
  pointwise
  blk_ext

/-- The reference's heads, read at their projected rows. -/
theorem heads_at (x : FVec Ideal S4x256x2048 .f32) (g : FVec Ideal S1x2048 .f32) (w : FVec Ideal S1x2048x2048 .f32)
    (j : Cert.MemKVRefIdeal.S1024x4x512.Idx) (i : Cert.MemKVRefIdeal.S4x256x2048.Idx) (h0 : (i 0 : ℕ) = (j 0 : ℕ) / 256)
    (h1 : (i 1 : ℕ) = (j 0 : ℕ) % 256) (h2 : (i 2 : ℕ) = (j 1 : ℕ) * 512 + (j 2 : ℕ)) :
    val_main_v18 (F := Ideal) x g w j = val_main_v15 (F := Ideal) x g w i := by
  unfold val_main_v18 val_main_v16
  generalize val_main_v15 (F := Ideal) x g w = v
  pointwise
  blk_ext

/-- The grid has two points. -/
theorem lt2 (t : Fin cfg0.N) : (t : ℕ) < 2 := lt_of_lt_of_eq t.isLt (by decide +kernel)

/-- The projected rows a point computes are the reference's rows. -/
theorem rows_core (c : Dev nD) (t : Fin cfg0.N) (y : S512x2048.Idx) (j : Cert.MemKVRefIdeal.S1024x2048.Idx)
    (h0 : (j 0 : ℕ) = (t : ℕ) * 512 + (y 0 : ℕ)) (h1 : (j 1 : ℕ) = (y 1 : ℕ)) :
    k0_pay2 (k0_pay1 (iblk m c 0 t) (iblk m c 1 t)) (iblk m c 2 t) y
      = val_main_v17 (F := Ideal) (m ((c : Thread nD τ).loc main_arg0)) (m ((c : Thread nD τ).loc main_arg1))
          (m ((c : Thread nD τ).loc main_arg2)) j := by
  obtain_idx k : Cert.MemKVRefIdeal.S4x256x2048 := [(j 0 : ℕ) / 256, (j 0 : ℕ) % 256, (j 1 : ℕ)] with hk
  exact (core m c t y k (by omega) (by omega) (by omega)).trans (rows_at _ _ _ j k hk0 hk1 hk2).symm

/-- The projected rows a point computes are the reference's heads. -/
theorem heads_core (c : Dev nD) (t : Fin cfg0.N) (y : S512x2048.Idx) (j : Cert.MemKVRefIdeal.S1024x4x512.Idx)
    (h0 : (j 0 : ℕ) = (t : ℕ) * 512 + (y 0 : ℕ)) (h1 : (j 1 : ℕ) * 512 + (j 2 : ℕ) = (y 1 : ℕ)) :
    k0_pay2 (k0_pay1 (iblk m c 0 t) (iblk m c 1 t)) (iblk m c 2 t) y
      = val_main_v18 (F := Ideal) (m ((c : Thread nD τ).loc main_arg0)) (m ((c : Thread nD τ).loc main_arg1))
          (m ((c : Thread nD τ).loc main_arg2)) j := by
  obtain_idx k : Cert.MemKVRefIdeal.S4x256x2048 := [(j 0 : ℕ) / 256, (j 0 : ℕ) % 256, (j 1 : ℕ) * 512 + (j 2 : ℕ)] with hk
  exact (core m c t y k (by omega) (by omega) (by omega)).trans (heads_at _ _ _ j k hk0 hk1 hk2).symm

/-- The rows. -/
theorem final_rows (c : Dev nD) : (dats m 0 c).arrAt 3 (cfgs 0).N
    = val_main_v17 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  unfold outsAt0
  frame_out
  refine rows_core m c t y _ ?_ ?_
  all_goals (blk_simp [idx t] <;> try omega)

/-- What a point stores for the heads is its projected rows. -/
theorem heads_stored (c : Dev nD) (t : Fin cfg0.N) (y : S512x4x512.Idx) (i : S512x2048.Idx) (hi0 : (i 0 : ℕ) = (y 0 : ℕ))
    (hi1 : (i 1 : ℕ) = (y 1 : ℕ) * 512 + (y 2 : ℕ)) :
    (outsAt0 m c t).2 y = k0_pay2 (F := Ideal) (k0_pay1 (F := Ideal) (iblk m c 0 t) (iblk m c 1 t)) (iblk m c 2 t) i := by
  unfold outsAt0
  frame_out
  canon_tiles x h
  all_goals (open_payloads; pointwise; blk_ext)

/-- The rows, split into heads. -/
theorem final_heads (c : Dev nD) : (dats m 0 c).arrAt 4 (cfgs 0).N
    = val_main_v18 (F := Ideal) (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  rw [after0_4]
  obtain_idx i : S512x2048 := [(y 0 : ℕ), (y 1 : ℕ) * 512 + (y 2 : ℕ)] with hi
  refine (heads_stored m c t y i hi0 hi1).trans (heads_core m c t i _ ?_ ?_)
  all_goals (blk_simp [idx t, hi0, hi1] <;> try omega)

end Cert.MemKVIdeal.Result

end
-- ==== Proof.AttnSampleValue.lean ====
/- The value of the sample tokens' cross-attention: two tokens at a grid point, each against its own 256 cached memory rows. -/
module

public import proofs.«01_k».proof.Proof.Gen.AttnSampleIdeal.Value
public import proofs.«01_k».proof.Proof.Gen.AttnSampleRefIdeal.Read
public import Idealize.ShloMosaic.Lib.Pipeline.ValueKit
public import Idealize.ShloMosaic.Lib.Pointwise
public import proofs.«01_k».proof.Proof.Softmax

@[expose] public section

set_option maxRecDepth 16384

noncomputable section

namespace Cert.AttnSampleIdeal.Result

open Cert.AttnSampleIdeal Cert.AttnSampleIdeal.Gen Idealize.ShloMosaic Idealize.ShloMosaic.TcCoe Idealize.SL.Sem
open Idealize.ShloMosaic.Pipeline (Dat)

open Cert.AttnSampleRefIdeal.Read Cert.Softmax

section Reference

variable (x0 : FVec Ideal S8448x2048 .bf16) (x1 x2 : FVec Ideal S1x128x256x4x512 .f32)

/-- A score of the reference. -/
theorem score_at (i : Cert.AttnSampleRefIdeal.S128x4x1x256.Idx) : val_main_v7 (F := Ideal) x0 x1 i
    = score (fun d : Fin 512 => x0 (ix2 (⟨8192 + (i 0 : ℕ), by idx_bounds; omega⟩ : Fin 8448)
          (⟨(i 1 : ℕ) * 512 + (d : ℕ), by idx_bounds; omega⟩ : Fin 2048)))
        (fun d : Fin 512 => x1 (ix5 0 (i 0) (i 3) (i 1) d)) := by
  unfold score
  pointwise [val_main_v7, val_main_v6, val_main_v5, val_main_v3, val_main_v2, val_main_v1, val_main_v0, val_main_cst]

/-- The largest score of a row. -/
theorem top_at (i : Cert.AttnSampleRefIdeal.S128x4x1.Idx) : val_main_v10 (F := Ideal) x0 x1 i
    = top (fun j : Fin 256 => val_main_v7 (F := Ideal) x0 x1 (ix4 (i 0) (i 1) (i 2) j)) := by
  rw [val_main_v10_apply, val_main_v9_apply]
  unfold val_main_v8
  exact (congrArg (FloatOps.maximumf (F := Ideal) (φ := .f32) _)
    (hostMax_top _ _ Cert.AttnSampleRefIdeal.Gen.facts.reducesTo_S128x4x1x256_S128x4x1_d3 Cert.AttnSampleRefIdeal.Gen.facts.h_S_ (fun _ => rfl) i)).trans
      (max_top _)

/-- A softmax numerator of the reference. -/
theorem exp_at (i : Cert.AttnSampleRefIdeal.S128x4x1x256.Idx) : val_main_v14 (F := Ideal) x0 x1 i
    = Ideal.exp (val_main_v7 (F := Ideal) x0 x1 i
        - top (fun j : Fin 256 => val_main_v7 (F := Ideal) x0 x1 (ix4 (i 0) (i 1) 0 j))) := by
  pointwise [val_main_v14, val_main_v13, val_main_v12, val_main_v11, top_at]

/-- A softmax weight of the reference. -/
theorem weight_at (a : Fin 128) (b : Fin 4) (k : Fin 256) : val_main_v18 (F := Ideal) x0 x1 (ix4 a b 0 k)
    = weight (fun j : Fin 256 => val_main_v7 (F := Ideal) x0 x1 (ix4 a b 0 j)) k := by
  unfold weight
  pointwise [val_main_v18, val_main_v17, val_main_v16, val_main_v15, val_main_cst_2, exp_at]

/-- The attention output of a sample token, with its own cached keys and values. -/
theorem out_at (i : S128x4x512.Idx) : val_main_v22 (F := Ideal) x0 x1 x2 i
    = ∑ j : Fin 256, x2 (ix5 0 (i 0) j (i 1) (i 2))
        * val_main_v18 (F := Ideal) x0 x1 (ix4 (i 0) (i 1) 0 j) := by
  pointwise [val_main_v22, val_main_v21, val_main_v20, val_main_v19, val_main_v4]

/-- The reference's result: softmax attention of each token over its own memory. -/
theorem result_at (i : S128x4x512.Idx) : val_main_v22 (F := Ideal) x0 x1 x2 i
    = attend
        (fun d : Fin 512 => x0 (ix2 (⟨8192 + (i 0 : ℕ), by idx_bounds; omega⟩ : Fin 8448)
          (⟨(i 1 : ℕ) * 512 + (d : ℕ), by idx_bounds; omega⟩ : Fin 2048)))
        (fun (j : Fin 256) (d : Fin 512) => x1 (ix5 0 (i 0) j (i 1) d))
        (fun j : Fin 256 => x2 (ix5 0 (i 0) j (i 1) (i 2))) := by
  rw [out_at]
  unfold attend
  refine Finset.sum_congr rfl fun j _ => ?_
  rw [mul_comm]
  refine congrArg (· * x2 (ix5 0 (i 0) j (i 1) (i 2))) ((weight_at x0 x1 _ _ j).trans ?_)
  refine congrArg (fun s => weight s j) ?_
  funext k
  exact score_at x0 x1 _

end Reference

variable (m : (ℓ : Loc nD τ sig) → Buf (Elt Ideal) ℓ)

/-- Which block each window takes at a grid point. -/
theorem idx : ∀ t : Fin cfg0.N, win0_0.index t = ![t.val, 0, 0] ∧ win0_1.index t = ![0, t.val, 0, 0, 0]
    ∧ win0_2.index t = ![0, t.val, 0, 0, 0] ∧ win0_3.index t = ![t.val, 0, 0] :=
  (by decide +kernel : ∀ t : Fin grid0.N, _)

/-- The grid has 64 points. -/
theorem lt64 (t : Fin cfg0.N) : (t : ℕ) < 64 := lt_of_lt_of_eq t.isLt (by decide +kernel)

/-- The attention of token `p` of a block of two tokens, at column `e` of head `b`; the scores as the kernel multiplies them. -/
def token (q : FVec Ideal S2x4x512 .bf16) (k v : FVec Ideal S1x2x256x4x512 .f32) (p : Fin 2) (b : Fin 4) (e : Fin 512) : EReal :=
  ∑ i, weight (fun j : Fin 256 => score (fun d : Fin 512 => k (ix5 0 p j b d)) (fun d : Fin 512 => q (ix3 p b d))) i
    * v (ix5 0 p i b e)

/-- What the body leaves in its result block: for each of the block's two tokens the attention over that token's memory. -/
theorem stored (q : FVec Ideal S2x4x512 .bf16) (k v : FVec Ideal S1x2x256x4x512 .f32) (y : S2x4x512.Idx) :
    (out0_3 (F := Ideal) q k v y : EReal) = token q k v (y 0) (y 1) (y 2) := by
  frame_out
  have htoken : ∀ (x : S1x4x512.Idx) (p : Fin 2), (y 0 : ℕ) = (p : ℕ) → (y 1 : ℕ) = (x 1 : ℕ) → (y 2 : ℕ) = (x 2 : ℕ) →
      token q k v (y 0) (y 1) (y 2) = token q k v p (x 1) (x 2) := by
    intro x p h0 h1 h2
    congr 1 <;> apply Fin.ext
    · exact h0
    · exact h1
    · exact h2
  canon_tiles x h
  case piece0 => rw [htoken x 1 (by simp; omega) h1 h2]; open_payloads; unfold token weight top score; pointwise
  case piece1 => rw [htoken x 0 (by simp; omega) h1 h2]; open_payloads; unfold token weight top score; pointwise

/-- A query the block holds. -/
theorem query_at (c : Dev nD) (t : Fin cfg0.N) (j : S2x4x512.Idx) : iblk m c 0 t j
    = m ((c : Thread nD τ).loc main_arg0) (ix2 (⟨8192 + ((t : ℕ) * 2 + (j 0 : ℕ)), by
        have := lt64 t; idx_bounds; omega⟩ : Fin 8448) (⟨(j 1 : ℕ) * 512 + (j 2 : ℕ), by idx_bounds; omega⟩ : Fin 2048)) := by
  blk_point [iblk, V, idx t]

/-- A cached key the block holds. -/
theorem key_at (c : Dev nD) (t : Fin cfg0.N) (j : S1x2x256x4x512.Idx) : iblk m c 1 t j
    = m ((c : Thread nD τ).loc main_arg1) (ix5 0 (⟨(t : ℕ) * 2 + (j 1 : ℕ), by
        have := lt64 t; idx_bounds; omega⟩ : Fin 128) (j 2) (j 3) (j 4)) := by
  blk_point [iblk, V, idx t]

/-- A cached value the block holds. -/
theorem value_at (c : Dev nD) (t : Fin cfg0.N) (j : S1x2x256x4x512.Idx) : iblk m c 2 t j
    = m ((c : Thread nD τ).loc main_arg2) (ix5 0 (⟨(t : ℕ) * 2 + (j 1 : ℕ), by
        have := lt64 t; idx_bounds; omega⟩ : Fin 128) (j 2) (j 3) (j 4)) := by
  blk_point [iblk, V, idx t]

/-- A score does not depend on which of the two rows is multiplied first. -/
theorem score_comm {n : ℕ} (q k : Fin n → EReal) : score k q = score q k :=
  congrArg (· * Ideal.ofBits FTy.f32 0x3D3504F3#32) (Finset.sum_congr rfl fun d _ => mul_comm _ _)

/-- A block's attention is the attention of the arrays' rows. -/
theorem point (c : Dev nD) (t : Fin cfg0.N) (i : S128x4x512.Idx) (y : S2x4x512.Idx)
    (h0 : (i 0 : ℕ) = (t : ℕ) * 2 + (y 0 : ℕ)) (h1 : (i 1 : ℕ) = (y 1 : ℕ)) (h2 : (i 2 : ℕ) = (y 2 : ℕ)) :
    (out0_3 (F := Ideal) (iblk m c 0 t) (iblk m c 1 t) (iblk m c 2 t) y : EReal)
      = val_main_v22 (F := Ideal) (m ((c : Thread nD τ).loc main_arg0)) (m ((c : Thread nD τ).loc main_arg1))
          (m ((c : Thread nD τ).loc main_arg2)) i := by
  rw [stored, result_at]
  have hq : ∀ d : Fin 512, iblk m c 0 t (ix3 (y 0) (y 1) d) = m ((c : Thread nD τ).loc main_arg0)
      (ix2 (⟨8192 + (i 0 : ℕ), by idx_bounds; omega⟩ : Fin 8448) (⟨(i 1 : ℕ) * 512 + (d : ℕ), by idx_bounds; omega⟩ : Fin 2048)) := by
    intro d
    rw [query_at]
    refine congrArg (m ((c : Thread nD τ).loc main_arg0)) ?_
    blk_ext [h0, h1]
  have hk : ∀ (j : Fin 256) (d : Fin 512), iblk m c 1 t (ix5 0 (y 0) j (y 1) d)
      = m ((c : Thread nD τ).loc main_arg1) (ix5 0 (i 0) j (i 1) d) := by
    intro j d
    rw [key_at]
    refine congrArg (m ((c : Thread nD τ).loc main_arg1)) ?_
    blk_ext [h0, h1]
  have hv : ∀ j : Fin 256, iblk m c 2 t (ix5 0 (y 0) j (y 1) (y 2))
      = m ((c : Thread nD τ).loc main_arg2) (ix5 0 (i 0) j (i 1) (i 2)) := by
    intro j
    rw [value_at]
    refine congrArg (m ((c : Thread nD τ).loc main_arg2)) ?_
    blk_ext [h0, h1, h2]
  unfold token attend
  refine Finset.sum_congr rfl fun j _ => ?_
  rw [hv]
  refine congrArg (· * m ((c : Thread nD τ).loc main_arg2) (ix5 0 (i 0) j (i 1) (i 2))) ?_
  refine congrArg (fun s => weight s j) ?_
  funext k
  rw [score_comm]
  simp only [hq, hk]

/-- The kernel's result array. -/
theorem final (c : Dev nD) : (dats m 0 c).arrAt 3 (cfgs 0).N
    = val_main_v22 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  refine point m c t _ _ ?_ ?_ ?_
  all_goals (blk_simp [idx t] <;> try omega)

end Cert.AttnSampleIdeal.Result

end
-- ==== Proof.FinalPromptValue.lean ====
/- The value of the final norm of the prompt's rows: the transposed expert output is added to a row, and the row is divided by its
   root mean square and scaled, block of 256 rows by block of 256 rows. -/
module

public import proofs.«01_k».proof.Proof.Gen.FinalPromptIdeal.Value
public import proofs.«01_k».proof.Proof.Gen.FinalPromptRefIdeal.Read
public import Idealize.ShloMosaic.Lib.Pipeline.ValueKit
public import Idealize.ShloMosaic.Lib.Pointwise

@[expose] public section

set_option maxRecDepth 16384

noncomputable section

namespace Cert.FinalPromptIdeal.Result

open Cert.FinalPromptIdeal Cert.FinalPromptIdeal.Gen Idealize.ShloMosaic Idealize.ShloMosaic.TcCoe Idealize.SL.Sem
open Idealize.ShloMosaic.Pipeline (Dat)

open Cert.FinalPromptRefIdeal.Read

variable (m : (ℓ : Loc nD τ sig) → Buf (Elt Ideal) ℓ)

/-- The reference's result as a function of its arguments. -/
abbrev REF (x : FVec Ideal S8448x2048 .f32) (p : FVec Ideal S2048x8448 .f32) (g : FVec Ideal S2048 .f32) :
    FVec Ideal S8192x2048 .f32 :=
  val_main_v19 (F := Ideal) x p g

/-- Which block each window takes at a grid point. -/
theorem idx : ∀ t : Fin cfg0.N, win0_0.index t = ![t.val, 0] ∧ win0_1.index t = ![0, t.val] ∧ win0_2.index t = ![0, 0]
    ∧ win0_3.index t = ![t.val, 0] :=
  (by decide +kernel : ∀ t : Fin grid0.N, _)

/-- One element of what a point stores. -/
theorem point (c : Dev nD) (t : Fin cfg0.N) (y) :
    k0_pay1 (iblk m c 0 t) (iblk m c 1 t) (iblk m c 2 t) y
      = REF (m ((c : Thread nD τ).loc main_arg0)) (m ((c : Thread nD τ).loc main_arg1))
          (m ((c : Thread nD τ).loc main_arg2)) (((cfg0.win 3).blk t).view.emb y) := by
  pointwise [k0_pay1, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

/-- The kernel's result array. -/
theorem final (c : Dev nD) : (dats m 0 c).arrAt 3 (cfgs 0).N
    = REF (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  frame_out
  exact point m c t y

end Cert.FinalPromptIdeal.Result

end
-- ==== Proof.FinalSampleValue.lean ====
/- The value of the final norm of the sample rows: one block of 128 rows, which follow the prompt's rows. -/
module

public import proofs.«01_k».proof.Proof.Gen.FinalSampleIdeal.Value
public import proofs.«01_k».proof.Proof.Gen.FinalSampleRefIdeal.Read
public import Idealize.ShloMosaic.Lib.Pipeline.ValueKit
public import Idealize.ShloMosaic.Lib.Pointwise

@[expose] public section

set_option maxRecDepth 16384

noncomputable section

namespace Cert.FinalSampleIdeal.Result

open Cert.FinalSampleIdeal Cert.FinalSampleIdeal.Gen Idealize.ShloMosaic Idealize.ShloMosaic.TcCoe Idealize.SL.Sem
open Idealize.ShloMosaic.Pipeline (Dat)

open Cert.FinalSampleRefIdeal.Read

variable (m : (ℓ : Loc nD τ sig) → Buf (Elt Ideal) ℓ)

/-- The reference's result as a function of its arguments. -/
abbrev REF (x : FVec Ideal S8448x2048 .f32) (p : FVec Ideal S2048x8448 .f32) (g : FVec Ideal S2048 .f32) :
    FVec Ideal S128x2048 .f32 :=
  val_main_v19 (F := Ideal) x p g

/-- Which block each window takes at a grid point. -/
theorem idx : ∀ t : Fin cfg0.N, win0_0.index t = ![64, 0] ∧ win0_1.index t = ![0, 64] ∧ win0_2.index t = ![0, 0]
    ∧ win0_3.index t = ![0, 0] :=
  (by decide +kernel : ∀ t : Fin grid0.N, _)

/-- One element of what a point stores. -/
theorem point (c : Dev nD) (t : Fin cfg0.N) (y) :
    k0_pay1 (iblk m c 0 t) (iblk m c 1 t) (iblk m c 2 t) y
      = REF (m ((c : Thread nD τ).loc main_arg0)) (m ((c : Thread nD τ).loc main_arg1))
          (m ((c : Thread nD τ).loc main_arg2)) (((cfg0.win 3).blk t).view.emb y) := by
  pointwise [k0_pay1, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

/-- The kernel's result array. -/
theorem final (c : Dev nD) : (dats m 0 c).arrAt 3 (cfgs 0).N
    = REF (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  frame_out
  exact point m c t y

end Cert.FinalSampleIdeal.Result

end
-- ==== Proof.Gelu.lean ====
/- The GELU of the layer on the extended reals. The reference writes it with a hyperbolic tangent, the kernels with a power of two
   whose exponent is a cubic: the two agree at every extended real. -/
module

public import Idealize.ShloMosaic.Lib.Pointwise

@[expose] public section

noncomputable section

namespace Cert.Gelu

open Idealize.ShloMosaic

/-- The reference's factor before the tangent's argument: the 32-bit number nearest the root of `2 / π`. -/
def outer : ℝ := 6693141 / 8388608

/-- The reference's factor of the cube: the 32-bit number nearest 0.044715. -/
def inner : ℝ := 12003091 / 268435456

/-- The linear coefficient of the kernels' exponent. -/
def lin : ℝ := -((Real.log 2)⁻¹ * (6693141 / 4194304))

/-- The cubic coefficient of the kernels' exponent. -/
def cub : ℝ := -(((Real.log 2)⁻¹ * (6693141 / 4194304)) * (12003091 / 268435456))

/-- The word the reference has for `outer`. -/
theorem word_outer : Ideal.ofBits FTy.f32 0x3F4C422A#32 = (outer : EReal) := by
  unfold outer
  simp [Ideal.ofBits, Ideal.ieee, -EReal.coe_mul]; norm_num

/-- The word the reference has for `inner`. -/
theorem word_inner : Ideal.ofBits FTy.f32 0x3D372713#32 = (inner : EReal) := by
  unfold inner
  simp [Ideal.ofBits, Ideal.ieee, -EReal.coe_mul]; norm_num

/-- The word the reference has for one half. -/
theorem word_half : Ideal.ofBits FTy.f32 0x3F000000#32 = ((1 / 2 : ℝ) : EReal) := by
  simp [Ideal.ofBits, Ideal.ieee, -EReal.coe_mul]; norm_num

/-- GELU as the reference writes it. -/
def gelu (x : EReal) : EReal :=
  x * (Ideal.ofBits FTy.f32 0x3F000000#32 * (1 + Ideal.tanh (Ideal.ofBits FTy.f32 0x3F4C422A#32
    * (x + Ideal.ofBits FTy.f32 0x3D372713#32 * (x * x * x)))))

/-- Element `e` of a row of 128 divided by its root mean square (the square's mean plus a small number) and scaled. -/
def normed (v g : Fin 128 → EReal) (e : Fin 128) : EReal :=
  v e * Ideal.rsqrt (Ideal.div (∑ k, v k * v k) (Ideal.ofBits FTy.f32 0x43000000#32) + Ideal.ofBits FTy.f32 0x358637BD#32) * g e

/-- GELU as the kernels write it. -/
def act (x : EReal) : EReal :=
  Ideal.div x (1 + Ideal.exp2 (x * (x * x * (cub : EReal) + (lin : EReal))))

theorem lin_neg : lin < 0 := by
  have := Real.log_pos (by norm_num : (1 : ℝ) < 2)
  unfold lin
  have h : 0 < (Real.log 2)⁻¹ := by positivity
  linarith

theorem cub_neg : cub < 0 := by
  have := Real.log_pos (by norm_num : (1 : ℝ) < 2)
  unfold cub
  have h : 0 < (Real.log 2)⁻¹ * (6693141 / 4194304) * (12003091 / 268435456) := by positivity
  linarith

/-- The kernels' power of two is the exponential the tangent is made of. -/
theorem power (x : ℝ) : (2 : ℝ) ^ (x * (x * x * cub + lin)) = Real.exp (-(2 * (outer * (x + inner * (x * x * x))))) := by
  have h : Real.log 2 ≠ 0 := (Real.log_pos (by norm_num : (1 : ℝ) < 2)).ne'
  rw [Real.rpow_def_of_pos (by norm_num)]
  congr 1
  unfold cub lin outer inner
  field_simp
  ring

/-- One plus a hyperbolic tangent, halved, is a logistic function. -/
theorem half_one_add_tanh (z : ℝ) : 1 / 2 * (1 + Real.tanh z) = 1 / (1 + Real.exp (-(2 * z))) := by
  have e : Real.exp (-(2 * z)) = Real.exp (-z) / Real.exp z := by
    rw [← Real.exp_sub]; congr 1; ring
  have h0 := Real.exp_pos z
  have h1 := Real.exp_pos (-z)
  rw [e, Real.tanh_eq_sinh_div_cosh, Real.sinh_eq, Real.cosh_eq]
  field_simp
  ring

/-- The kernels' GELU is the reference's. -/
theorem act_eq (x : EReal) : act x = gelu x := by
  unfold act gelu
  rw [word_outer, word_inner, word_half]
  induction x with
  | bot =>
    have h1 : (⊥ : EReal) * ⊥ * (cub : EReal) = ⊥ := by rw [EReal.bot_mul_bot, EReal.top_mul_coe_of_neg cub_neg]
    have h2 : (⊥ : EReal) * ⊥ * ⊥ = ⊥ := by simp
    have h3 : (inner : EReal) * ⊥ = ⊥ := EReal.coe_mul_bot_of_pos (by unfold inner; norm_num)
    have h4 : (outer : EReal) * ⊥ = ⊥ := EReal.coe_mul_bot_of_pos (by unfold outer; norm_num)
    have h6 : (⊥ : EReal) * (⊥ + (lin : EReal)) = ⊤ := by simp
    have h7 : (⊥ : EReal) + ⊥ = ⊥ := by simp
    rw [h1, h2, h3, h6, h7, h4, show Ideal.exp2 ⊤ = ⊤ from rfl, show Ideal.tanh ⊥ = -1 from rfl]
    have h8 : (1 : EReal) + ⊤ = ⊤ := EReal.coe_add_top 1
    have h9 : (1 : EReal) + -1 = 0 := by rw [← EReal.coe_one, ← EReal.coe_neg, ← EReal.coe_add]; norm_num
    rw [h8, h9]
    simp [Ideal.div]
  | top =>
    have h1 : (⊤ : EReal) * ⊤ * (cub : EReal) = ⊥ := by rw [EReal.top_mul_top, EReal.top_mul_coe_of_neg cub_neg]
    have h2 : (⊤ : EReal) * ⊤ * ⊤ = ⊤ := by simp
    have h3 : (inner : EReal) * ⊤ = ⊤ := EReal.coe_mul_top_of_pos (by unfold inner; norm_num)
    have h4 : (outer : EReal) * ⊤ = ⊤ := EReal.coe_mul_top_of_pos (by unfold outer; norm_num)
    rw [h1, h2, h3]
    have h5 : ((1 / 2 : ℝ) : EReal) * (1 + 1) = 1 := by
      rw [← EReal.coe_one, ← EReal.coe_add, ← EReal.coe_mul]; norm_num
    have h6 : (⊤ : EReal) * (⊥ + (lin : EReal)) = ⊥ := by simp
    have h7 : (⊤ : EReal) + ⊤ = ⊤ := by simp
    rw [h6, h7, h4, show Ideal.exp2 ⊥ = 0 from rfl, show Ideal.tanh ⊤ = 1 from rfl, h5]
    simp [Ideal.div]
  | coe x =>
    have e1 : (x : EReal) * ((x : EReal) * x * (cub : EReal) + (lin : EReal)) = ((x * (x * x * cub + lin) : ℝ) : EReal) := by
      push_cast; rfl
    have e2 : (outer : EReal) * ((x : EReal) + (inner : EReal) * ((x : EReal) * x * x))
        = ((outer * (x + inner * (x * x * x)) : ℝ) : EReal) := by
      push_cast; rfl
    rw [e1, e2, Ideal.exp2_coe, Ideal.tanh_coe]
    have e3 : (1 : EReal) + ((Real.rpow 2 (x * (x * x * cub + lin)) : ℝ) : EReal)
        = ((1 + Real.exp (-(2 * (outer * (x + inner * (x * x * x))))) : ℝ) : EReal) := by
      rw [← power]; rfl
    rw [e3, Ideal.div_coe (by positivity)]
    rw [← half_one_add_tanh]
    push_cast; rfl

end Cert.Gelu

end
-- ==== Proof.SguRef.lean ====
/- The reference of the prompt's spatial gating mixer, read at one element. -/
module

public import proofs.«01_k».proof.Proof.Gen.SguRefIdeal.Read
public import Idealize.ShloMosaic.Lib.Pipeline.ValueKit
public import Idealize.ShloMosaic.Lib.Pointwise
public import proofs.«01_k».proof.Proof.Gelu

@[expose] public section

set_option maxRecDepth 16384

noncomputable section

namespace Cert.SguRefIdeal.Result

open Cert.SguRefIdeal Cert.SguRefIdeal.Gen Idealize.ShloMosaic Idealize.ShloMosaic.TcCoe
open Cert.SguRefIdeal.Read Cert.Gelu

variable (x0 : FVec Ideal S8448x5120 .f32) (x1 : FVec Ideal S1x8x128x128 .f32) (x2 x3 : FVec Ideal S1x8x128 .f32)

/-- The activation of the reference at one element. -/
theorem act_at (i : S4x2048x2048.Idx) : val_main_v14 (F := Ideal) x0 i
    = gelu (x0 (ix2 (⟨(i 0 : ℕ) * 2048 + (i 1 : ℕ), by idx_bounds; omega⟩ : Fin 8448) (⟨(i 2 : ℕ), by idx_bounds; omega⟩ : Fin 5120))) := by
  unfold gelu
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1,
    val_main_cst_2]

/-- A normalised value: token `r` of sequence `b`, column `e` of head `h`. -/
theorem unit_at (b : Fin 4) (r : Fin 2048) (h : Fin 8) (e : Fin 128) : val_main_v32 (F := Ideal) x0 x3 (ix4 b r h e)
    = normed (fun k : Fin 128 => gelu (x0 (ix2 (⟨(b : ℕ) * 2048 + (r : ℕ), by omega⟩ : Fin 8448)
        (⟨1024 + ((h : ℕ) * 128 + (k : ℕ)), by omega⟩ : Fin 5120)))) (fun k : Fin 128 => x3 (ix3 0 h k)) e := by
  unfold normed
  pointwise [val_main_v32, val_main_v31, val_main_v30, val_main_v29, val_main_v28, val_main_v27, val_main_v26, val_main_v25, val_main_v24,
    val_main_v23, val_main_v22, val_main_v21, val_main_v20, val_main_v19, val_main_v18, val_main_v16, val_main_cst_3, val_main_cst_4,
    val_main_cst_5, act_at]

/-- The weight `x` of token `s` for token `t` of a chunk: zero when `s` comes after `t`. -/
def masked (t s : Fin 128) (x : EReal) : EReal :=
  Scalar.select (Scalar.select (IntOp.cmpi CmpIPredicate.sge (IntOp.addi (BitVec.ofNat 32 (t : ℕ)) 0#32) (BitVec.ofNat 32 (s : ℕ))) 1#1 0#1)
    x (FloatOps.sitofp (F := Ideal) FTy.f32 0#32)

/-- The masked weights. -/
theorem weight_at (h : Fin 8) (t s : Fin 128) : val_main_v37 (F := Ideal) x1 (ix3 h t s) = masked t s (x1 (ix4 0 h t s)) := by
  unfold masked
  pointwise [val_main_v37, val_main_v36, val_main_v35, val_main_v34, val_main_call1_v2, val_main_call1_v1, val_main_call1_v0,
    val_main_call0_v5, val_main_call0_v4, val_main_call0_v3, val_main_call0_v2, val_main_call0_v1, val_main_call0_v0, val_main_c, val_main_c_6,
    val_main_call0_c, val_main_call0_c_0]

/-- The normalised value of token `r`, column `e` of head `h`. -/
def valueAt (r : Fin 8192) (h : Fin 8) (e : Fin 128) : EReal :=
  normed (fun k : Fin 128 => gelu (x0 (ix2 (⟨(r : ℕ), by omega⟩ : Fin 8448) (⟨1024 + ((h : ℕ) * 128 + (k : ℕ)), by omega⟩ : Fin 5120))))
    (fun k : Fin 128 => x3 (ix3 0 h k)) e

/-- The gated mix of token `r`, column `e` of head `h`: its gate times the masked mix of its chunk's values, plus a bias. -/
def mixAt (r : Fin 8192) (h : Fin 8) (e : Fin 128) : EReal :=
  gelu (x0 (ix2 (⟨(r : ℕ), by omega⟩ : Fin 8448) (⟨(h : ℕ) * 128 + (e : ℕ), by omega⟩ : Fin 5120)))
    * ((∑ s : Fin 128, masked (⟨(r : ℕ) % 128, by omega⟩ : Fin 128) s (x1 (ix4 0 h (⟨(r : ℕ) % 128, by omega⟩ : Fin 128) s))
          * valueAt x0 x3 (⟨(r : ℕ) / 128 * 128 + (s : ℕ), by omega⟩ : Fin 8192) h e)
      + x2 (ix3 0 h (⟨(r : ℕ) % 128, by omega⟩ : Fin 128)))

/-- The gated mix of the reference, by sequence and token. -/
theorem mix_at (b : Fin 4) (r : Fin 2048) (h : Fin 8) (e : Fin 128) : val_main_v46 (F := Ideal) x0 x1 x2 x3 (ix4 b r h e)
    = gelu (x0 (ix2 (⟨(b : ℕ) * 2048 + (r : ℕ), by omega⟩ : Fin 8448) (⟨(h : ℕ) * 128 + (e : ℕ), by omega⟩ : Fin 5120)))
      * ((∑ s : Fin 128, val_main_v32 (F := Ideal) x0 x3 (ix4 b (⟨(r : ℕ) / 128 * 128 + (s : ℕ), by omega⟩ : Fin 2048) h e)
          * val_main_v37 (F := Ideal) x1 (ix3 h (⟨(r : ℕ) % 128, by omega⟩ : Fin 128) s))
        + x2 (ix3 0 h (⟨(r : ℕ) % 128, by omega⟩ : Fin 128))) := by
  pointwise [val_main_v46, val_main_v45, val_main_v44, val_main_v43, val_main_v42, val_main_v41, val_main_v40, val_main_v39, val_main_v38,
    val_main_v33, val_main_v17, val_main_v15, act_at]

/-- A normalised value of the reference is the token's. -/
theorem unit_eq (b : Fin 4) (r : Fin 2048) (h : Fin 8) (e : Fin 128) (q : Fin 8192) (hq : (q : ℕ) = (b : ℕ) * 2048 + (r : ℕ)) :
    val_main_v32 (F := Ideal) x0 x3 (ix4 b r h e) = valueAt x0 x3 q h e := by
  rw [unit_at]
  unfold valueAt
  simp only [hq]

/-- The gated mix of the reference, by token. -/
theorem mix_eq (r : Fin 8192) (h : Fin 8) (e : Fin 128) :
    val_main_v46 (F := Ideal) x0 x1 x2 x3 (ix4 (⟨(r : ℕ) / 2048, by omega⟩ : Fin 4) (⟨(r : ℕ) % 2048, by omega⟩ : Fin 2048) h e)
      = mixAt x0 x1 x2 x3 r h e := by
  have hm : (r : ℕ) % 2048 % 128 = (r : ℕ) % 128 := by omega
  have hd : (r : ℕ) / 2048 * 2048 + (r : ℕ) % 2048 = (r : ℕ) := by omega
  rw [mix_at]
  unfold mixAt
  simp only [hm, hd]
  refine congrArg (fun a : EReal => gelu (x0 (ix2 (⟨(r : ℕ), by omega⟩ : Fin 8448) (⟨(h : ℕ) * 128 + (e : ℕ), by omega⟩ : Fin 5120)))
    * (a + x2 (ix3 0 h (⟨(r : ℕ) % 128, by omega⟩ : Fin 128)))) ?_
  refine Finset.sum_congr rfl fun s _ => ?_
  rw [weight_at, mul_comm]
  refine congrArg (masked _ s _ * ·) (unit_eq x0 x3 _ _ h e _ ?_)
  show (r : ℕ) / 128 * 128 + (s : ℕ) = (r : ℕ) / 2048 * 2048 + ((r : ℕ) % 2048 / 128 * 128 + (s : ℕ))
  omega

/-- The first result on the prompt's rows and the mixer's columns. -/
theorem result_in (i : S8448x2048.Idx) (r : Fin 8192) (h : Fin 8) (e : Fin 128) (h0 : (i 0 : ℕ) = (r : ℕ))
    (h1 : (i 1 : ℕ) = (h : ℕ) * 128 + (e : ℕ)) : val_main_v49 (F := Ideal) x0 x1 x2 x3 i = mixAt x0 x1 x2 x3 r h e := by
  rw [← mix_eq]
  pointwise [val_main_v49, val_main_v47, val_main_call2_v0, val_main_c_7]
  rw [dif_pos (by omega)]
  refine congrArg (val_main_v46 (F := Ideal) x0 x1 x2 x3) ?_
  blk_ext [h0, h1]

/-- The first result elsewhere. -/
theorem result_out (i : S8448x2048.Idx) (hi : ¬((i 0 : ℕ) < 8192 ∧ (i 1 : ℕ) < 1024)) :
    val_main_v49 (F := Ideal) x0 x1 x2 x3 i = (0 : EReal) := by
  pointwise [val_main_v49, val_main_v47, val_main_call2_v0, val_main_c_7]
  rw [dif_neg (by omega)]
  show (((0#32 : BitVec 32).toInt : ℝ) : EReal) = 0
  simp

/-- The second result: the normalised values of the last 128 tokens of a sequence. -/
theorem cache_at (i : S4x128x1024.Idx) (r : Fin 8192) (h : Fin 8) (e : Fin 128) (h0 : (r : ℕ) = (i 0 : ℕ) * 2048 + (1920 + (i 1 : ℕ)))
    (h1 : (i 2 : ℕ) = (h : ℕ) * 128 + (e : ℕ)) : val_main_v50 (F := Ideal) x0 x3 i = valueAt x0 x3 r h e := by
  have hb : (i 1 : ℕ) < 128 := (i 1).isLt
  rw [← unit_eq x0 x3 (i 0) (⟨1920 + (i 1 : ℕ), by omega⟩ : Fin 2048) h e r h0]
  pointwise [val_main_v50, val_main_v48]
  refine congrArg (val_main_v32 (F := Ideal) x0 x3) ?_
  blk_ext [h1]

end Cert.SguRefIdeal.Result

end
-- ==== Proof.SguValue.lean ====
/- The values of the prompt's spatial gating mixer: two chunks of 128 tokens at a grid point, eight heads each; every head tile a
   point stores is the gated mix of that chunk, the columns and rows after them keep the zeros the result array starts with, and the
   open chunk of every sequence is the last one its points write. -/
module

public import proofs.«01_k».proof.Proof.Gen.SguIdeal.Value
public import proofs.«01_k».proof.Proof.Gen.SguRefIdeal.Read
public import Idealize.ShloMosaic.Lib.Pipeline.ValueKit
public import Idealize.ShloMosaic.Lib.Pointwise
public import proofs.«01_k».proof.Proof.SguRef

@[expose] public section

set_option maxRecDepth 16384

noncomputable section

namespace Cert.SguIdeal.Result

open Cert.SguIdeal Cert.SguIdeal.Gen Idealize.ShloMosaic Idealize.ShloMosaic.TcCoe Idealize.SL.Sem
open Idealize.ShloMosaic.Pipeline (Dat)

open Cert.SguRefIdeal.Read
open Cert.Gelu

variable (m : (ℓ : Loc nD τ sig) → Buf (Elt Ideal) ℓ)

/-- The activation as the kernel multiplies it. -/
def kact (x : EReal) : EReal :=
  Ideal.div x (1 + FloatOps.exp2 (F := Ideal) (φ := .f32) (x * (x * x * Named.named (F := Ideal) κ "gelu_cub" (φ := .f32) 0xBDD2D3E8#32
    + Named.named (F := Ideal) κ "gelu_lin" (φ := .f32) 0xC0135761#32)))

/-- The two named constants are the coefficients of the exponent, so the activation is GELU. -/
theorem kact_eq : kact = gelu := by
  funext x
  refine Eq.trans ?_ (act_eq x)
  unfold kact act
  rw [show Named.named (F := Ideal) κ "gelu_cub" (φ := .f32) 0xBDD2D3E8#32 = (cub : EReal) from
      IdealRules.named_const.ideal_named_scalar _ _ _ _ rfl,
    show Named.named (F := Ideal) κ "gelu_lin" (φ := .f32) 0xC0135761#32 = (lin : EReal) from
      IdealRules.named_const.ideal_named_scalar _ _ _ _ rfl]
  rfl

/-- A normalised value of the block: row `r`, column `e` of head `h`. -/
def unitAt (f : EReal → EReal) (v : FVec Ideal S256x1024 .f32) (g : FVec Ideal S1x1024 .f32) (h : Fin 8) (r : Fin 256) (e : Fin 128) : EReal :=
  normed (fun k : Fin 128 => f (v (ix2 r (⟨(h : ℕ) * 128 + (k : ℕ), by omega⟩ : Fin 1024))))
    (fun k : Fin 128 => g (ix2 0 (⟨(h : ℕ) * 128 + (k : ℕ), by omega⟩ : Fin 1024))) e

/-- The gated mix of row `t` of chunk `p` of the block, at column `e` of head `h`. -/
def tile (f : EReal → EReal) (u v : FVec Ideal S256x1024 .f32) (w : FVec Ideal S8x128x128 .bf16) (b : FVec Ideal S128x8 .f32)
    (g : FVec Ideal S1x1024 .f32) (p : Fin 2) (h : Fin 8) (t e : Fin 128) : EReal :=
  f (u (ix2 (⟨(p : ℕ) * 128 + (t : ℕ), by omega⟩ : Fin 256) (⟨(h : ℕ) * 128 + (e : ℕ), by omega⟩ : Fin 1024)))
    * ((∑ s : Fin 128, w (ix3 h t s) * unitAt f v g h (⟨(p : ℕ) * 128 + (s : ℕ), by omega⟩ : Fin 256) e) + b (ix2 t h))

/-- What a point leaves in its block of the first result. -/
theorem stored (c : Dev nD) (t : Fin cfg0.N) (y : S256x1024.Idx) :
    ((outsAt0 m c t).1 y : EReal) = tile kact (iblk m c 0 t) (iblk m c 1 t) (iblk m c 2 t) (iblk m c 3 t) (iblk m c 4 t)
      (⟨(y 0 : ℕ) / 128, by idx_bounds; omega⟩ : Fin 2) (⟨(y 1 : ℕ) / 128, by idx_bounds; omega⟩ : Fin 8)
      (⟨(y 0 : ℕ) % 128, by omega⟩ : Fin 128) (⟨(y 1 : ℕ) % 128, by omega⟩ : Fin 128) := by
  unfold outsAt0
  dsimp only
  generalize iblk m c 0 t = u
  generalize iblk m c 1 t = v
  generalize iblk m c 2 t = w
  generalize iblk m c 3 t = b
  generalize iblk m c 4 t = g
  frame_out
  have htile : ∀ (x : S128x128.Idx) (p : Fin 2) (h : Fin 8), (y 0 : ℕ) = (p : ℕ) * 128 + (x 0 : ℕ) →
      (y 1 : ℕ) = (h : ℕ) * 128 + (x 1 : ℕ) →
      tile kact u v w b g (⟨(y 0 : ℕ) / 128, by idx_bounds; omega⟩ : Fin 2) (⟨(y 1 : ℕ) / 128, by idx_bounds; omega⟩ : Fin 8)
        (⟨(y 0 : ℕ) % 128, by omega⟩ : Fin 128) (⟨(y 1 : ℕ) % 128, by omega⟩ : Fin 128) = tile kact u v w b g p h (x 0) (x 1) := by
    intro x p h h0 h1
    have hx0 : (x 0 : ℕ) < 128 := (x 0).isLt
    have hx1 : (x 1 : ℕ) < 128 := (x 1).isLt
    congr 1 <;> apply Fin.ext
    · show (y 0 : ℕ) / 128 = (p : ℕ)
      omega
    · show (y 1 : ℕ) / 128 = (h : ℕ)
      omega
    · show (y 0 : ℕ) % 128 = (x 0 : ℕ)
      omega
    · show (y 1 : ℕ) % 128 = (x 1 : ℕ)
      omega
  canon_tiles x h
  case piece0 => rw [htile x 1 7 (by simp; omega) (by simp; omega)]; open_payloads; unfold tile unitAt normed kact; pointwise
  case piece1 => rw [htile x 1 6 (by simp; omega) (by simp; omega)]; open_payloads; unfold tile unitAt normed kact; pointwise
  case piece2 => rw [htile x 1 5 (by simp; omega) (by simp; omega)]; open_payloads; unfold tile unitAt normed kact; pointwise
  case piece3 => rw [htile x 1 4 (by simp; omega) (by simp; omega)]; open_payloads; unfold tile unitAt normed kact; pointwise
  case piece4 => rw [htile x 1 3 (by simp; omega) (by simp; omega)]; open_payloads; unfold tile unitAt normed kact; pointwise
  case piece5 => rw [htile x 1 2 (by simp; omega) (by simp; omega)]; open_payloads; unfold tile unitAt normed kact; pointwise
  case piece6 => rw [htile x 1 1 (by simp; omega) (by simp; omega)]; open_payloads; unfold tile unitAt normed kact; pointwise
  case piece7 => rw [htile x 1 0 (by simp; omega) (by simp; omega)]; open_payloads; unfold tile unitAt normed kact; pointwise
  case piece8 => rw [htile x 0 7 (by simp; omega) (by simp; omega)]; open_payloads; unfold tile unitAt normed kact; pointwise
  case piece9 => rw [htile x 0 6 (by simp; omega) (by simp; omega)]; open_payloads; unfold tile unitAt normed kact; pointwise
  case piece10 => rw [htile x 0 5 (by simp; omega) (by simp; omega)]; open_payloads; unfold tile unitAt normed kact; pointwise
  case piece11 => rw [htile x 0 4 (by simp; omega) (by simp; omega)]; open_payloads; unfold tile unitAt normed kact; pointwise
  case piece12 => rw [htile x 0 3 (by simp; omega) (by simp; omega)]; open_payloads; unfold tile unitAt normed kact; pointwise
  case piece13 => rw [htile x 0 2 (by simp; omega) (by simp; omega)]; open_payloads; unfold tile unitAt normed kact; pointwise
  case piece14 => rw [htile x 0 1 (by simp; omega) (by simp; omega)]; open_payloads; unfold tile unitAt normed kact; pointwise
  case piece15 => rw [htile x 0 0 (by simp; omega) (by simp; omega)]; open_payloads; unfold tile unitAt normed kact; pointwise

/-- What a point leaves in its block of the second result: the normalised values of its second chunk. -/
theorem stored_cache (c : Dev nD) (t : Fin cfg0.N) (y : S1x128x1024.Idx) :
    ((outsAt0 m c t).2 y : EReal) = unitAt kact (iblk m c 1 t) (iblk m c 4 t) (⟨(y 2 : ℕ) / 128, by idx_bounds; omega⟩ : Fin 8)
      (⟨128 + (y 1 : ℕ), by idx_bounds; omega⟩ : Fin 256) (⟨(y 2 : ℕ) % 128, by omega⟩ : Fin 128) := by
  unfold outsAt0
  dsimp only
  generalize iblk m c 0 t = u
  generalize iblk m c 1 t = v
  generalize iblk m c 2 t = w
  generalize iblk m c 3 t = b
  generalize iblk m c 4 t = g
  frame_out
  have hunit : ∀ (x : S1x128x128.Idx) (h : Fin 8), (y 1 : ℕ) = (x 1 : ℕ) → (y 2 : ℕ) = (h : ℕ) * 128 + (x 2 : ℕ) →
      unitAt kact v g (⟨(y 2 : ℕ) / 128, by idx_bounds; omega⟩ : Fin 8) (⟨128 + (y 1 : ℕ), by idx_bounds; omega⟩ : Fin 256)
        (⟨(y 2 : ℕ) % 128, by omega⟩ : Fin 128) = unitAt kact v g h (⟨128 + (x 1 : ℕ), by idx_bounds; omega⟩ : Fin 256) (x 2) := by
    intro x h h1 h2
    have hx2 : (x 2 : ℕ) < 128 := (x 2).isLt
    congr 1 <;> apply Fin.ext
    · show (y 2 : ℕ) / 128 = (h : ℕ)
      omega
    · show 128 + (y 1 : ℕ) = 128 + (x 1 : ℕ)
      omega
    · show (y 2 : ℕ) % 128 = (x 2 : ℕ)
      omega
  canon_tiles x h
  case piece0 => rw [hunit x 7 (by simp; omega) (by simp; omega)]; open_payloads; unfold unitAt normed kact; pointwise
  case piece1 => rw [hunit x 6 (by simp; omega) (by simp; omega)]; open_payloads; unfold unitAt normed kact; pointwise
  case piece2 => rw [hunit x 5 (by simp; omega) (by simp; omega)]; open_payloads; unfold unitAt normed kact; pointwise
  case piece3 => rw [hunit x 4 (by simp; omega) (by simp; omega)]; open_payloads; unfold unitAt normed kact; pointwise
  case piece4 => rw [hunit x 3 (by simp; omega) (by simp; omega)]; open_payloads; unfold unitAt normed kact; pointwise
  case piece5 => rw [hunit x 2 (by simp; omega) (by simp; omega)]; open_payloads; unfold unitAt normed kact; pointwise
  case piece6 => rw [hunit x 1 (by simp; omega) (by simp; omega)]; open_payloads; unfold unitAt normed kact; pointwise
  case piece7 => rw [hunit x 0 (by simp; omega) (by simp; omega)]; open_payloads; unfold unitAt normed kact; pointwise

/-- Which block each window takes at a grid point. -/
theorem idx : ∀ t : Fin cfg0.N, win0_0.index t = ![t.val, 0] ∧ win0_1.index t = ![t.val, 1] ∧ win0_2.index t = ![0, 0, 0]
    ∧ win0_3.index t = ![0, 0] ∧ win0_4.index t = ![0, 0] ∧ win0_5.index t = ![t.val, 0] ∧ win0_6.index t = ![t.val / 8, 0, 0] :=
  (by decide +kernel : ∀ t : Fin grid0.N, _)

/-- The grid has 32 points. -/
theorem lt32 (t : Fin cfg0.N) : (t : ℕ) < 32 := lt_of_lt_of_eq t.isLt (by decide +kernel)

/-- A gate input the block holds. -/
theorem gate_at (c : Dev nD) (t : Fin cfg0.N) (r : Fin 256) (k : Fin 1024) : iblk m c 0 t (ix2 r k)
    = m ((c : Thread nD τ).loc main_arg0) (ix2 (⟨(t : ℕ) * 256 + (r : ℕ), by have := lt32 t; omega⟩ : Fin 8448)
        (⟨(k : ℕ), by omega⟩ : Fin 5120)) := by
  blk_point [iblk, V, idx t]

/-- A value input the block holds. -/
theorem value_at (c : Dev nD) (t : Fin cfg0.N) (r : Fin 256) (k : Fin 1024) : iblk m c 1 t (ix2 r k)
    = m ((c : Thread nD τ).loc main_arg0) (ix2 (⟨(t : ℕ) * 256 + (r : ℕ), by have := lt32 t; omega⟩ : Fin 8448)
        (⟨1024 + (k : ℕ), by omega⟩ : Fin 5120)) := by
  blk_point [iblk, V, idx t]

/-- A masked weight at the region's start. -/
theorem weight_entry (c : Dev nD) (i : S8x128x128.Idx) : V m c main_v4 i
    = Cert.SguRefIdeal.Result.masked (i 1) (i 2) (m ((c : Thread nD τ).loc main_arg1) (ix4 0 (i 0) (i 1) (i 2))) := by
  simp only [V, hostOps0, hostOps0_1, hostOps0_2, hostOps0_3, hostOps0_4, List.flatten_cons, List.flatten_nil, List.append_nil, List.cons_append,
    List.nil_append]
  entry_read
  simp -implicitDefEqProofs only [StableHlo.TRef.toBuf, StableHlo.TRef.ofBuf, cast_cast, cast_eq]
  unfold Cert.SguRefIdeal.Result.masked
  pointwise

/-- A bias at the region's start. -/
theorem bias_entry (c : Dev nD) (i : S128x8.Idx) : V m c main_v6 i = m ((c : Thread nD τ).loc main_arg2) (ix3 0 (i 1) (i 0)) := by
  simp only [V, hostOps0, hostOps0_1, hostOps0_2, hostOps0_3, hostOps0_4, List.flatten_cons, List.flatten_nil, List.append_nil, List.cons_append,
    List.nil_append]
  entry_read
  pointwise

/-- A scale at the region's start. -/
theorem scale_entry (c : Dev nD) (i : S1x1024.Idx) : V m c main_v8 i
    = m ((c : Thread nD τ).loc main_arg3) (ix3 0 (⟨(i 1 : ℕ) / 128, by idx_bounds; omega⟩ : Fin 8) (⟨(i 1 : ℕ) % 128, by omega⟩ : Fin 128)) := by
  simp only [V, hostOps0, hostOps0_1, hostOps0_2, hostOps0_3, hostOps0_4, List.flatten_cons, List.flatten_nil, List.append_nil, List.cons_append,
    List.nil_append]
  entry_read
  pointwise

/-- A masked weight the block holds. -/
theorem weight_at (c : Dev nD) (t : Fin cfg0.N) (h : Fin 8) (a s : Fin 128) : iblk m c 2 t (ix3 h a s)
    = Cert.SguRefIdeal.Result.masked a s (m ((c : Thread nD τ).loc main_arg1) (ix4 0 h a s)) := by
  have e : (win0_2.blk t).view.emb (ix3 h a s) = ix3 h a s := by
    blk_ext [idx t]
  exact (weight_entry m c _).trans (by rw [e]; rfl)

/-- A bias the block holds. -/
theorem bias_at (c : Dev nD) (t : Fin cfg0.N) (a : Fin 128) (h : Fin 8) : iblk m c 3 t (ix2 a h)
    = m ((c : Thread nD τ).loc main_arg2) (ix3 0 h a) := by
  have e : (win0_3.blk t).view.emb (ix2 a h) = ix2 a h := by
    blk_ext [idx t]
  exact (bias_entry m c _).trans (by rw [e]; rfl)

/-- A scale the block holds. -/
theorem scale_at (c : Dev nD) (t : Fin cfg0.N) (h : Fin 8) (k : Fin 128) :
    iblk m c 4 t (ix2 0 (⟨(h : ℕ) * 128 + (k : ℕ), by omega⟩ : Fin 1024)) = m ((c : Thread nD τ).loc main_arg3) (ix3 0 h k) := by
  have e : (win0_4.blk t).view.emb (ix2 0 (⟨(h : ℕ) * 128 + (k : ℕ), by omega⟩ : Fin 1024))
      = ix2 0 (⟨(h : ℕ) * 128 + (k : ℕ), by omega⟩ : Fin 1024) := by
    blk_ext [idx t]
  refine (scale_entry m c _).trans ?_
  rw [e]
  refine congrArg (m ((c : Thread nD τ).loc main_arg3)) ?_
  blk_ext

/-- The block's normalised values are the tokens'. -/
theorem unit_eq (c : Dev nD) (t : Fin cfg0.N) (h : Fin 8) (r : Fin 256) (e : Fin 128) (q : Fin 8192)
    (hq : (q : ℕ) = (t : ℕ) * 256 + (r : ℕ)) : unitAt kact (iblk m c 1 t) (iblk m c 4 t) h r e
      = Cert.SguRefIdeal.Result.valueAt (m ((c : Thread nD τ).loc main_arg0)) (m ((c : Thread nD τ).loc main_arg3)) q h e := by
  rw [kact_eq]
  unfold unitAt Cert.SguRefIdeal.Result.valueAt
  refine congr (congr (congrArg normed (funext fun k => ?_)) (funext fun k => ?_)) rfl
  · refine congrArg gelu ((value_at m c t r _).trans ?_)
    simp only [hq]
  · exact scale_at m c t h k

/-- The block's gated mix is the tokens'. -/
theorem tile_eq (c : Dev nD) (t : Fin cfg0.N) (p : Fin 2) (h : Fin 8) (a e : Fin 128) (q : Fin 8192)
    (hq : (q : ℕ) = (t : ℕ) * 256 + ((p : ℕ) * 128 + (a : ℕ))) :
    tile kact (iblk m c 0 t) (iblk m c 1 t) (iblk m c 2 t) (iblk m c 3 t) (iblk m c 4 t) p h a e
      = Cert.SguRefIdeal.Result.mixAt (m ((c : Thread nD τ).loc main_arg0)) (m ((c : Thread nD τ).loc main_arg1))
          (m ((c : Thread nD τ).loc main_arg2)) (m ((c : Thread nD τ).loc main_arg3)) q h e := by
  have ha : (⟨(q : ℕ) % 128, by omega⟩ : Fin 128) = a := Fin.ext (by show (q : ℕ) % 128 = (a : ℕ); omega)
  unfold tile Cert.SguRefIdeal.Result.mixAt
  rw [ha]
  refine congr (congrArg HMul.hMul ?_) (congr (congrArg HAdd.hAdd (Finset.sum_congr rfl fun s _ => ?_)) (bias_at m c t a h))
  · rw [kact_eq]
    refine congrArg gelu ((gate_at m c t _ _).trans ?_)
    simp only [hq]
  · refine congr (congrArg HMul.hMul (weight_at m c t h a s)) (unit_eq m c t h _ e _ ?_)
    show (q : ℕ) / 128 * 128 + (s : ℕ) = (t : ℕ) * 256 + ((p : ℕ) * 128 + (s : ℕ))
    omega

/-- What a point leaves in its block of the first result is the reference's result there. -/
theorem point_mix (c : Dev nD) (t : Fin cfg0.N) (y : S256x1024.Idx) (i : S8448x2048.Idx)
    (h0 : (i 0 : ℕ) = (t : ℕ) * 256 + (y 0 : ℕ)) (h1 : (i 1 : ℕ) = (y 1 : ℕ)) :
    ((outsAt0 m c t).1 y : EReal) = val_main_v49 (F := Ideal) (m ((c : Thread nD τ).loc main_arg0)) (m ((c : Thread nD τ).loc main_arg1))
      (m ((c : Thread nD τ).loc main_arg2)) (m ((c : Thread nD τ).loc main_arg3)) i := by
  have ht := lt32 t
  have hy0 : (y 0 : ℕ) < 256 := (y 0).isLt
  have hy1 : (y 1 : ℕ) < 1024 := (y 1).isLt
  rw [stored]
  refine (tile_eq m c t _ _ _ _ (⟨(t : ℕ) * 256 + (y 0 : ℕ), by omega⟩ : Fin 8192) ?_).trans
    (Cert.SguRefIdeal.Result.result_in _ _ _ _ i _ _ _ h0 ?_).symm
  · show (t : ℕ) * 256 + (y 0 : ℕ) = (t : ℕ) * 256 + ((y 0 : ℕ) / 128 * 128 + (y 0 : ℕ) % 128)
    omega
  · show (i 1 : ℕ) = (y 1 : ℕ) / 128 * 128 + (y 1 : ℕ) % 128
    omega

/-- What the last point of a sequence leaves in its block of the second result is the reference's result there. -/
theorem point_cache (c : Dev nD) (t : Fin cfg0.N) (y : S1x128x1024.Idx) (i : S4x128x1024.Idx) (hl : (t : ℕ) % 8 = 7)
    (h0 : (i 0 : ℕ) = (t : ℕ) / 8) (h1 : (i 1 : ℕ) = (y 1 : ℕ)) (h2 : (i 2 : ℕ) = (y 2 : ℕ)) :
    ((outsAt0 m c t).2 y : EReal)
      = val_main_v50 (F := Ideal) (m ((c : Thread nD τ).loc main_arg0)) (m ((c : Thread nD τ).loc main_arg3)) i := by
  have ht := lt32 t
  have hy1 : (y 1 : ℕ) < 128 := (y 1).isLt
  have hy2 : (y 2 : ℕ) < 1024 := (y 2).isLt
  rw [stored_cache]
  refine (unit_eq m c t _ _ _ (⟨(t : ℕ) * 256 + (128 + (y 1 : ℕ)), by omega⟩ : Fin 8192) rfl).trans
    (Cert.SguRefIdeal.Result.cache_at _ _ i _ _ _ ?_ ?_).symm
  · show (t : ℕ) * 256 + (128 + (y 1 : ℕ)) = (i 0 : ℕ) * 2048 + (1920 + (i 1 : ℕ))
    omega
  · show (i 2 : ℕ) = (y 2 : ℕ) / 128 * 128 + (y 2 : ℕ) % 128
    omega

/-- The first result's array: the gated mix of the prompt's rows, zero elsewhere. -/
theorem final_mix (c : Dev nD) : (dats m 0 c).arrAt 5 (cfgs 0).N
    = val_main_v49 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_coversWhere_of_agree 5 _ (fun β => β 0 < 32 ∧ β 1 < 1) (by decide +kernel) (fun t hf y => ?_)
    (fun j hj => ?_)
  · blk_simp
    rw [after0_5]
    refine point_mix m c t _ _ ?_ ?_
    all_goals (blk_simp [idx t] <;> try omega)
  · blk_simp [Pipeline.Window.cell_apply] at hj
    refine Eq.trans ?_ (Cert.SguRefIdeal.Result.result_out _ _ _ _ j (by omega)).symm
    rw [A_eq]
    show V m c main_v9 _ = (0 : EReal)
    simp only [V, hostOps0, hostOps0_1, hostOps0_2, hostOps0_3, hostOps0_4, List.flatten_cons, List.flatten_nil, List.append_nil,
      List.cons_append, List.nil_append]
    entry_read
    pointwise

/-- The points that write the second result back are the last of every sequence. -/
theorem flush_last : ∀ t : Fin cfg0.N, (cfg0.win 6).flush t = true → (t : ℕ) % 8 = 7 :=
  (by decide +kernel : ∀ t : Fin grid0.N, win0_6.flush t = true → (t : ℕ) % 8 = 7)

/-- The second result's array: the last chunk's normalised values of every sequence. -/
theorem final_cache (c : Dev nD) : (dats m 0 c).arrAt 6 (cfgs 0).N
    = val_main_v50 (F := Ideal) (m ((c : Thread nD τ).loc main_arg0)) (m ((c : Thread nD τ).loc main_arg3)) := by
  refine (dats m 0 c).arrAt_eq_of_covers 6 _ (by decide +kernel) fun t ht y => ?_
  have hl := flush_last t ht
  blk_simp
  rw [after0_6]
  refine point_cache m c t _ _ hl ?_ ?_ ?_
  all_goals (blk_simp [idx t] <;> try omega)

end Cert.SguIdeal.Result

end
-- ==== Proof.Decay.lean ====
/- The decay of the gated linear attention, the gate of its output and the sums its one-token kernel takes. The decay is the sixteenth
   part of a log-sigmoid, exponentiated; the reference takes the log-sigmoid from the host's library, the kernel writes its own, and the
   two agree at every extended real. -/
module

public import Idealize.ShloMosaic.Lib.Pointwise
public import proofs.«01_k».proof.Proof.Gelu

@[expose] public section

noncomputable section

namespace Cert.Decay

open Idealize.ShloMosaic

/-- The query's scale. -/
def scale : EReal := Ideal.ofBits FTy.f32 0x3DB504F3#32

/-- The absolute value. -/
def size (x : EReal) : EReal := FloatOps.absf (F := Ideal) (φ := .f32) x

/-- The decay as the reference computes it. -/
def decay (x : EReal) : EReal :=
  Ideal.exp (Ideal.div (-(max (-x) 0 + Ideal.log1p (Ideal.exp (-size (-x))))) (Ideal.ofBits FTy.f32 0x41800000#32))

/-- The decay as the kernel computes it. -/
def kdecay (x : EReal) : EReal :=
  Ideal.exp ((min x 0 - Ideal.log1p (Ideal.exp (0 - size x))) * Ideal.ofBits FTy.f32 0x3D800000#32)

/-- A gate times its sigmoid. -/
def silu (x : EReal) : EReal := x * Ideal.logistic x

/-- Element `e` of a row of 256 divided by its root mean square (the square's mean plus a small number) and scaled. -/
def wide (v g : Fin 256 → EReal) (e : Fin 256) : EReal :=
  v e * Ideal.rsqrt (Ideal.div (∑ k, v k * v k) (Ideal.ofBits FTy.f32 0x43800000#32) + Ideal.ofBits FTy.f32 0x358637BD#32) * g e

/-- Entry `d` of a row of 128, as the sum over the row of the entries on a diagonal. -/
def column (f : Fin 128 → EReal) (d : Fin 128) : EReal :=
  ∑ j : Fin 128, Scalar.select (IntOp.cmpi CmpIPredicate.eq (BitVec.ofNat 32 (d : ℕ)) (BitVec.ofNat 32 (j : ℕ))) (f j) 0

/-- The word of sixteen. -/
theorem word_sixteen : Ideal.ofBits FTy.f32 0x41800000#32 = ((16 : ℝ) : EReal) := by
  simp [Ideal.ofBits, Ideal.ieee, -EReal.coe_mul]
  norm_num

/-- The word of a sixteenth. -/
theorem word_sixteenth : Ideal.ofBits FTy.f32 0x3D800000#32 = ((1 / 16 : ℝ) : EReal) := by
  simp [Ideal.ofBits, Ideal.ieee, -EReal.coe_mul]
  norm_num

/-- A number and its negation have one absolute value. -/
theorem size_neg (x : EReal) : size (-x) = size x := by
  show max (-x) (-(-x)) = max x (-x)
  rw [neg_neg, max_comm]

/-- The two log-sigmoids agree. -/
theorem log_sigmoid_eq (x : EReal) :
    -(max (-x) 0 + Ideal.log1p (Ideal.exp (-size (-x)))) = min x 0 - Ideal.log1p (Ideal.exp (0 - size x)) := by
  have h0 : max (-x) 0 ≠ ⊥ := ne_of_gt (lt_of_lt_of_le EReal.bot_lt_zero (le_max_right _ _))
  have hm : -(max (-x) 0) = min x 0 := by
    rw [← EReal.min_neg_neg, neg_neg, neg_zero]
  rw [size_neg, zero_sub]
  rw [EReal.neg_add (Or.inl h0) ?_, hm]
  by_cases hx : x = ⊥
  · subst hx
    refine Or.inr ?_
    have hs : size ⊥ = ⊤ := by
      show max ⊥ (-⊥) = (⊤ : EReal)
      simp
    rw [hs, EReal.neg_top, Ideal.exp_bot, Ideal.log1p, add_zero]
    show (if (1 : ℝ) ≤ 0 then (⊥ : EReal) else ((Real.log 1 : ℝ) : EReal)) ≠ ⊥
    rw [if_neg (by norm_num)]
    exact EReal.coe_ne_bot _
  · refine Or.inl (ne_of_lt (max_lt (lt_top_iff_ne_top.mpr fun h => hx ?_) EReal.zero_lt_top))
    rw [← neg_neg x, h, EReal.neg_top]

/-- The two decays agree. -/
theorem kdecay_eq : kdecay = decay := by
  funext x
  unfold kdecay decay
  rw [log_sigmoid_eq, word_sixteen, word_sixteenth, Ideal.div_coe (by norm_num)]

/-- The sum over a diagonal is the entry on it. -/
theorem column_eq (f : Fin 128 → EReal) : column f = f := by
  funext d
  have hb : ∀ j : Fin 128, Scalar.select (IntOp.cmpi CmpIPredicate.eq (BitVec.ofNat 32 (d : ℕ)) (BitVec.ofNat 32 (j : ℕ))) (f j) 0
      = if d = j then f j else 0 := by
    intro j
    by_cases h : d = j
    · subst h
      simp [Scalar.select, IntOp.cmpi]
    · have hv : BitVec.ofNat 32 (d : ℕ) ≠ BitVec.ofNat 32 (j : ℕ) := by
        intro he
        have hn := congrArg BitVec.toNat he
        simp only [BitVec.toNat_ofNat] at hn
        exact h (Fin.ext (by omega))
      have hc : (BitVec.ofNat 32 (d : ℕ) == BitVec.ofNat 32 (j : ℕ)) = false := beq_eq_false_iff_ne.mpr hv
      rw [if_neg h]
      show (if BitVec.ofBool (BitVec.ofNat 32 (d : ℕ) == BitVec.ofNat 32 (j : ℕ)) = 1#1 then f j else 0) = 0
      rw [hc]
      rfl
  unfold column
  rw [Finset.sum_congr rfl fun j _ => hb j, Finset.sum_ite_eq Finset.univ d f, if_pos (Finset.mem_univ d)]

/-- A sum over 128 rows of which only the first 16 are not zero. -/
theorem padded_sum (f : Fin 128 → EReal) (g : Fin 16 → EReal) (hg : ∀ k : Fin 16, f (⟨(k : ℕ), by omega⟩ : Fin 128) = g k)
    (hz : ∀ k : Fin 128, 16 ≤ (k : ℕ) → f k = 0) : ∑ k, f k = ∑ k, g k := by
  rw [show (∑ k : Fin 128, f k) = ∑ k : Fin (16 + 112), f k from rfl, Fin.sum_univ_add,
    Finset.sum_eq_zero (s := Finset.univ) (f := fun k : Fin 112 => f (Fin.natAdd 16 k)) (fun k _ => hz _ (by simp)), add_zero]
  exact Finset.sum_congr rfl fun k _ => hg k

end Cert.Decay

end
-- ==== Proof.SMixRef.lean ====
/- The mixers of the sample tokens as the reference computes them, at one element: the first token of a spatial gating chunk, one step of
   the gated linear attention from each stream's state, and the array of both, zero off the sample tokens' rows. -/
module

public import proofs.«01_k».proof.Proof.Gen.SMixRefIdeal.Read
public import Idealize.ShloMosaic.Lib.Pipeline.ValueKit
public import Idealize.ShloMosaic.Lib.Pointwise
public import proofs.«01_k».proof.Proof.Decay

@[expose] public section

set_option maxRecDepth 100000

noncomputable section

namespace Cert.SMixRefIdeal.Result

open Cert.SMixRefIdeal Cert.SMixRefIdeal.Gen Idealize.ShloMosaic Idealize.ShloMosaic.TcCoe
open Cert.SMixRefIdeal.Read Cert.Gelu Cert.Decay

variable (x0 : FVec Ideal S8448x5120 .f32) (x1 : FVec Ideal S8448x128 .f32) (x2 : FVec Ideal S1x128x4x128x256 .f32)
  (x3 : FVec Ideal S1x16x512 .f32) (x4 : FVec Ideal S1x512 .f32) (x5 : FVec Ideal S1x8x128x128 .f32) (x6 x7 : FVec Ideal S1x8x128 .f32)
  (x8 : FVec Ideal S1x4x256 .f32)

/-- Column `k` of sample token `r`'s projected input. -/
def zAt (r : Fin 128) (k : Fin 5120) : EReal := x0 (ix2 (⟨8192 + (r : ℕ), by omega⟩ : Fin 8448) k)

/-- The normalised value of token `r`, column `e` of head `h`. -/
def valueAt (r : Fin 128) (h : Fin 8) (e : Fin 128) : EReal :=
  normed (fun k : Fin 128 => gelu (zAt x0 r (⟨1024 + ((h : ℕ) * 128 + (k : ℕ)), by omega⟩ : Fin 5120))) (fun k : Fin 128 => x7 (ix3 0 h k)) e

/-- The gated mix of token `r`, column `e` of head `h`, at the start of its chunk. -/
def mixAt (r : Fin 128) (h : Fin 8) (e : Fin 128) : EReal :=
  gelu (zAt x0 r (⟨(h : ℕ) * 128 + (e : ℕ), by omega⟩ : Fin 5120)) * (x5 (ix4 0 h 0 0) * valueAt x0 x7 r h e + x6 (ix3 0 h 0))

/-- The decay of token `r`'s key channel `j`. -/
def decayAt (r : Fin 128) (j : Fin 512) : EReal :=
  decay ((∑ k : Fin 16, x1 (ix2 (⟨8192 + (r : ℕ), by omega⟩ : Fin 8448) (⟨(k : ℕ), by omega⟩ : Fin 128)) * x3 (ix3 0 k j)) + x4 (ix2 0 j))

/-- The state after token `r`: the old one decayed, plus the outer product of key and value. -/
def stateAt (r : Fin 128) (h : Fin 4) (d : Fin 128) (v : Fin 256) : EReal :=
  decayAt x1 x3 x4 r (⟨(h : ℕ) * 128 + (d : ℕ), by omega⟩ : Fin 512) * x2 (ix5 0 r h d v)
    + zAt x0 r (⟨2560 + ((h : ℕ) * 128 + (d : ℕ)), by omega⟩ : Fin 5120) * zAt x0 r (⟨3072 + ((h : ℕ) * 256 + (v : ℕ)), by omega⟩ : Fin 5120)

/-- The query's read of the new state. -/
def readAt (r : Fin 128) (h : Fin 4) (v : Fin 256) : EReal :=
  ∑ d : Fin 128, zAt x0 r (⟨2048 + ((h : ℕ) * 128 + (d : ℕ)), by omega⟩ : Fin 5120) * scale * stateAt x0 x1 x2 x3 x4 r h d v

/-- The attention's output of token `r`, column `v` of head `h`: normalised and gated. -/
def headAt (r : Fin 128) (h : Fin 4) (v : Fin 256) : EReal :=
  silu (zAt x0 r (⟨4096 + ((h : ℕ) * 256 + (v : ℕ)), by omega⟩ : Fin 5120))
    * wide (fun k : Fin 256 => readAt x0 x1 x2 x3 x4 r h k) (fun k : Fin 256 => x8 (ix3 0 h k)) v

/-- The activation of the reference at one element. -/
theorem act_at (i : S128x2048.Idx) : val_main_v18 (F := Ideal) x0 i
    = gelu (zAt x0 (i 0) (⟨(i 1 : ℕ), by idx_bounds; omega⟩ : Fin 5120)) := by
  unfold gelu zAt
  pointwise [val_main_v18, val_main_v17, val_main_v16, val_main_v15, val_main_v14, val_main_v13, val_main_v12, val_main_v11, val_main_v10, val_main_v9, val_main_v8, val_main_v7, val_main_v6, val_main_v1, val_main_v0, val_main_cst, val_main_cst_0, val_main_cst_1, val_main_cst_2]

/-- A normalised value. -/
theorem unit_at (r : Fin 128) (h : Fin 8) (e : Fin 128) : val_main_v36 (F := Ideal) x0 x7 (ix3 r h e) = valueAt x0 x7 r h e := by
  unfold valueAt normed
  pointwise [val_main_v36, val_main_v35, val_main_v34, val_main_v33, val_main_v32, val_main_v31, val_main_v30, val_main_v29, val_main_v28, val_main_v27, val_main_v26, val_main_v25, val_main_v24, val_main_v23, val_main_v22, val_main_v20, val_main_cst_3, val_main_cst_4, val_main_cst_5, act_at]

/-- The gated mix. -/
theorem mix_at (r : Fin 128) (h : Fin 8) (e : Fin 128) : val_main_v47 (F := Ideal) x0 x5 x6 x7 (ix3 r h e) = mixAt x0 x5 x6 x7 r h e := by
  unfold mixAt
  pointwise [val_main_v47, val_main_v46, val_main_v45, val_main_v44, val_main_v43, val_main_v42, val_main_v41, val_main_v40, val_main_v39, val_main_v38, val_main_v37, val_main_v21, val_main_v19, act_at, unit_at]

/-- A decay of the reference. -/
theorem decay_at (r : Fin 128) (h : Fin 4) (d : Fin 128) : val_main_v64 (F := Ideal) x1 x3 x4 (ix3 r h d)
    = decayAt x1 x3 x4 r (⟨(h : ℕ) * 128 + (d : ℕ), by omega⟩ : Fin 512) := by
  unfold decayAt decay
  pointwise [val_main_v64, val_main_v63, val_main_v62, val_main_v61, val_main_v60, val_main_v59, val_main_v58, val_main_v57, val_main_v56, val_main_v55, val_main_v54, val_main_v53, val_main_call0_v0, val_main_call0_v1, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_call0_cst, val_main_cst_7]
  rw [if_neg fun h => h rfl]
  rfl

/-- A state of the reference. -/
theorem state_at (r : Fin 128) (h : Fin 4) (d : Fin 128) (v : Fin 256) : val_main_v74 (F := Ideal) x0 x1 x2 x3 x4 (ix4 r h d v)
    = stateAt x0 x1 x2 x3 x4 r h d v := by
  unfold stateAt zAt
  pointwise [val_main_v74, val_main_v73, val_main_v72, val_main_v71, val_main_v70, val_main_v69, val_main_v68, val_main_v67, val_main_v66, val_main_v65, val_main_v52, val_main_v51, val_main_v4, val_main_v3, val_main_v0, decay_at]

/-- A read of the new state. -/
theorem read_at (r : Fin 128) (h : Fin 4) (v : Fin 256) : val_main_v75 (F := Ideal) x0 x1 x2 x3 x4 (ix3 r h v)
    = readAt x0 x1 x2 x3 x4 r h v := by
  unfold readAt scale zAt
  pointwise [val_main_v75, val_main_v50, val_main_v49, val_main_v48, val_main_v2, val_main_v0, val_main_cst_6, state_at]

/-- An output of the attention. -/
theorem head_at (r : Fin 128) (h : Fin 4) (v : Fin 256) :
    val_main_v92 (F := Ideal) x0 x1 x2 x3 x4 x8 (ix2 r (⟨(h : ℕ) * 256 + (v : ℕ), by omega⟩ : Fin 1024))
      = headAt x0 x1 x2 x3 x4 x8 r h v := by
  unfold headAt silu wide zAt
  pointwise [val_main_v92, val_main_v91, val_main_v90, val_main_v89, val_main_v88, val_main_v87, val_main_v86, val_main_v85, val_main_v84, val_main_v83, val_main_v82, val_main_v81, val_main_v80, val_main_v79, val_main_v78, val_main_v77, val_main_v76, val_main_call1_v0, val_main_call1_v1, val_main_call1_v2, val_main_call1_v3, val_main_call1_v4, val_main_call1_v5, val_main_call1_cst, val_main_call1_cst_0, val_main_cst_8, val_main_cst_9, val_main_cst_10, val_main_v5, val_main_v0, read_at]
  rfl

/-- The first result on the sample tokens' rows, in the spatial gating mixer's columns. -/
theorem result_gate (i : S8448x2048.Idx) (r : Fin 128) (h : Fin 8) (e : Fin 128) (h0 : (i 0 : ℕ) = 8192 + (r : ℕ))
    (h1 : (i 1 : ℕ) = (h : ℕ) * 128 + (e : ℕ)) : val_main_v95 (F := Ideal) x0 x1 x2 x3 x4 x5 x6 x7 x8 i = mixAt x0 x5 x6 x7 r h e := by
  rw [← mix_at]
  pointwise [val_main_v95, val_main_v94, val_main_v93, val_main_call2_v0, val_main_c]
  rw [dif_pos (by omega), dif_pos (by omega)]
  refine congrArg (val_main_v47 (F := Ideal) x0 x5 x6 x7) ?_
  blk_ext [h0, h1]

/-- The first result on the sample tokens' rows, in the attention's columns. -/
theorem result_head (i : S8448x2048.Idx) (r : Fin 128) (h : Fin 4) (v : Fin 256) (h0 : (i 0 : ℕ) = 8192 + (r : ℕ))
    (h1 : (i 1 : ℕ) = 1024 + ((h : ℕ) * 256 + (v : ℕ))) :
    val_main_v95 (F := Ideal) x0 x1 x2 x3 x4 x5 x6 x7 x8 i = headAt x0 x1 x2 x3 x4 x8 r h v := by
  rw [← head_at]
  pointwise [val_main_v95, val_main_v94, val_main_call2_v0, val_main_c]
  rw [dif_pos (by omega), dif_neg (by omega)]
  refine congrArg (val_main_v92 (F := Ideal) x0 x1 x2 x3 x4 x8) ?_
  blk_ext [h0, h1]

/-- The first result elsewhere. -/
theorem result_out (i : S8448x2048.Idx) (hi : ¬(8192 ≤ (i 0 : ℕ) ∧ (i 0 : ℕ) < 8320)) :
    val_main_v95 (F := Ideal) x0 x1 x2 x3 x4 x5 x6 x7 x8 i = (0 : EReal) := by
  pointwise [val_main_v95, val_main_v94, val_main_call2_v0, val_main_c]
  rw [dif_neg (by omega)]
  show (((0#32 : BitVec 32).toInt : ℝ) : EReal) = 0
  simp

/-- The second result: the normalised values. -/
theorem cache_at (i : S128x1024.Idx) (r : Fin 128) (h : Fin 8) (e : Fin 128) (h0 : (i 0 : ℕ) = (r : ℕ))
    (h1 : (i 1 : ℕ) = (h : ℕ) * 128 + (e : ℕ)) : val_main_v96 (F := Ideal) x0 x7 i = valueAt x0 x7 r h e := by
  rw [← unit_at]
  pointwise [val_main_v96]
  refine congrArg (val_main_v36 (F := Ideal) x0 x7) ?_
  blk_ext [h0, h1]

end Cert.SMixRefIdeal.Result

end
-- ==== Proof.SMixTile.lean ====
/- What a grid point of the sample tokens' mixers stores, from the blocks it holds: eight tokens, eight heads of the spatial gating mixer
   and four of the gated linear attention, one tile for each. -/
module

public import proofs.«01_k».proof.Proof.Gen.SMixIdeal.Value
public import Idealize.ShloMosaic.Lib.Pipeline.ValueKit
public import Idealize.ShloMosaic.Lib.Pointwise
public import proofs.«01_k».proof.Proof.Decay

@[expose] public section

set_option maxRecDepth 100000

noncomputable section

namespace Cert.SMixIdeal.Result

open Cert.SMixIdeal Cert.SMixIdeal.Gen Idealize.ShloMosaic Idealize.ShloMosaic.TcCoe Idealize.SL.Sem
open Idealize.ShloMosaic.Pipeline (Dat)
open Cert.Gelu Cert.Decay

variable (m : (ℓ : Loc nD τ sig) → Buf (Elt Ideal) ℓ)

/-- The activation as the kernel multiplies it. -/
def kact (x : EReal) : EReal :=
  Ideal.div x (1 + FloatOps.exp2 (F := Ideal) (φ := .f32) (x * (x * x * Named.named (F := Ideal) κ "gelu_cub" (φ := .f32) 0xBDD2D3E8#32
    + Named.named (F := Ideal) κ "gelu_lin" (φ := .f32) 0xC0135761#32)))

/-- The two named constants are the coefficients of the exponent, so the activation is GELU. -/
theorem kact_eq : kact = gelu := by
  funext x
  refine Eq.trans ?_ (act_eq x)
  unfold kact act
  rw [show Named.named (F := Ideal) κ "gelu_cub" (φ := .f32) 0xBDD2D3E8#32 = (cub : EReal) from
      IdealRules.named_const.ideal_named_scalar _ _ _ _ rfl,
    show Named.named (F := Ideal) κ "gelu_lin" (φ := .f32) 0xC0135761#32 = (lin : EReal) from
      IdealRules.named_const.ideal_named_scalar _ _ _ _ rfl]
  rfl

variable (z : FVec Ideal S8x5120 .f32) (zg : FVec Ideal S8x128 .f32) (st : FVec Ideal S8x4x128x256 .f32) (wa : FVec Ideal S128x512 .bf16)
  (ba : FVec Ideal S1x512 .f32) (gs gg w b : FVec Ideal S1x1024 .f32)

/-- A normalised value of the block: row `r`, column `e` of head `h`. -/
def unitAt (r : Fin 8) (h : Fin 8) (e : Fin 128) : EReal :=
  normed (fun k : Fin 128 => kact (z (ix2 r (⟨1024 + ((h : ℕ) * 128 + (k : ℕ)), by omega⟩ : Fin 5120))))
    (fun k : Fin 128 => gs (ix2 0 (⟨(h : ℕ) * 128 + (k : ℕ), by omega⟩ : Fin 1024))) e

/-- The gated mix of row `r` of the block, at column `e` of head `h`. -/
def gateAt (r : Fin 8) (h : Fin 8) (e : Fin 128) : EReal :=
  kact (z (ix2 r (⟨(h : ℕ) * 128 + (e : ℕ), by omega⟩ : Fin 5120)))
    * (w (ix2 0 (⟨(h : ℕ) * 128 + (e : ℕ), by omega⟩ : Fin 1024)) * unitAt z gs r h e
      + b (ix2 0 (⟨(h : ℕ) * 128 + (e : ℕ), by omega⟩ : Fin 1024)))

/-- The decay of key channel `j` of row `r`. -/
def decayAt (r : Fin 8) (j : Fin 512) : EReal := kdecay ((∑ k : Fin 128, zg (ix2 r k) * wa (ix2 k j)) + ba (ix2 0 j))

/-- The new state of row `r` and head `h`. -/
def stateAt (r : Fin 8) (h : Fin 4) (d : Fin 128) (v : Fin 256) : EReal :=
  column (fun j : Fin 128 => decayAt zg wa ba r (⟨(h : ℕ) * 128 + (j : ℕ), by omega⟩ : Fin 512)) d * st (ix4 r h d v)
    + column (fun j : Fin 128 => z (ix2 r (⟨2560 + ((h : ℕ) * 128 + (j : ℕ)), by omega⟩ : Fin 5120))) d
      * z (ix2 r (⟨3072 + ((h : ℕ) * 256 + (v : ℕ)), by omega⟩ : Fin 5120))

/-- The query's read of the new state. -/
def readAt (r : Fin 8) (h : Fin 4) (v : Fin 256) : EReal :=
  ∑ d : Fin 128, column (fun j : Fin 128 => z (ix2 r (⟨2048 + ((h : ℕ) * 128 + (j : ℕ)), by omega⟩ : Fin 5120))) d * scale
    * stateAt z zg st wa ba r h d v

/-- The attention's output of row `r`, column `v` of head `h`. -/
def headAt (r : Fin 8) (h : Fin 4) (v : Fin 256) : EReal :=
  silu (z (ix2 r (⟨4096 + ((h : ℕ) * 256 + (v : ℕ)), by omega⟩ : Fin 5120)))
    * wide (fun k : Fin 256 => readAt z zg st wa ba r h k) (fun k : Fin 256 => gg (ix2 0 (⟨(h : ℕ) * 256 + (k : ℕ), by omega⟩ : Fin 1024))) v

/-- The block of the first result: the gated mix in its first 1024 columns, the attention's output in the others. -/
def mixAt (y : S8x2048.Idx) : EReal :=
  if (y 1 : ℕ) < 1024 then gateAt z gs w b (y 0) (⟨(y 1 : ℕ) / 128 % 8, by omega⟩ : Fin 8) (⟨(y 1 : ℕ) % 128, by omega⟩ : Fin 128)
  else headAt z zg st wa ba gg (y 0) (⟨((y 1 : ℕ) - 1024) / 256 % 4, by omega⟩ : Fin 4) (⟨((y 1 : ℕ) - 1024) % 256, by omega⟩ : Fin 256)

/-- The block's first 1024 columns. -/
theorem mix_gate (y : S8x2048.Idx) (r : Fin 8) (h : Fin 8) (e : Fin 128) (h0 : (y 0 : ℕ) = (r : ℕ))
    (h1 : (y 1 : ℕ) = (h : ℕ) * 128 + (e : ℕ)) : mixAt z zg st wa ba gs gg w b y = gateAt z gs w b r h e := by
  unfold mixAt
  rw [if_pos (by omega)]
  congr 1 <;> apply Fin.ext
  · exact h0
  · show (y 1 : ℕ) / 128 % 8 = (h : ℕ)
    omega
  · show (y 1 : ℕ) % 128 = (e : ℕ)
    omega

/-- The block's other columns. -/
theorem mix_head (y : S8x2048.Idx) (r : Fin 8) (h : Fin 4) (v : Fin 256) (h0 : (y 0 : ℕ) = (r : ℕ))
    (h1 : (y 1 : ℕ) = 1024 + ((h : ℕ) * 256 + (v : ℕ))) : mixAt z zg st wa ba gs gg w b y = headAt z zg st wa ba gg r h v := by
  unfold mixAt
  rw [if_neg (by omega)]
  congr 1 <;> apply Fin.ext
  · exact h0
  · show ((y 1 : ℕ) - 1024) / 256 % 4 = (h : ℕ)
    omega
  · show ((y 1 : ℕ) - 1024) % 256 = (v : ℕ)
    omega

set_option maxHeartbeats 8000000 in
/-- What a point leaves in its block of the first result. -/
theorem stored_mix (c : Dev nD) (t : Fin cfg0.N) (y : S8x2048.Idx) :
    ((outsAt0 m c t).1 y : EReal) = mixAt (iblk m c 0 t) (iblk m c 1 t) (iblk m c 2 t) (iblk m c 3 t) (iblk m c 4 t) (iblk m c 5 t) (iblk m c 6 t) (iblk m c 7 t) (iblk m c 8 t) y := by
  unfold outsAt0
  dsimp only
  generalize iblk m c 0 t = z
  generalize iblk m c 1 t = zg
  generalize iblk m c 2 t = st
  generalize iblk m c 3 t = wa
  generalize iblk m c 4 t = ba
  generalize iblk m c 5 t = gs
  generalize iblk m c 6 t = gg
  generalize iblk m c 7 t = w
  generalize iblk m c 8 t = b
  frame_out
  canon_tiles x h using (View.cover_of_tiledBy _ ![1, 128] (by sl_kernel_rfl) y)
  case piece0 =>
    rw [mix_head z zg st wa ba gs gg w b y 7 3 (x 1) (by show (y 0 : ℕ) = 7; omega) (by show (y 1 : ℕ) = 1024 + (3 * 256 + (x 1 : ℕ)); omega)]
    open_payloads; unfold headAt silu wide readAt stateAt decayAt kdecay size column scale; pointwise <;> simp only [← Nat.add_assoc, Nat.reduceAdd]
  case piece1 =>
    rw [mix_head z zg st wa ba gs gg w b y 7 2 (x 1) (by show (y 0 : ℕ) = 7; omega) (by show (y 1 : ℕ) = 1024 + (2 * 256 + (x 1 : ℕ)); omega)]
    open_payloads; unfold headAt silu wide readAt stateAt decayAt kdecay size column scale; pointwise <;> simp only [← Nat.add_assoc, Nat.reduceAdd]
  case piece2 =>
    rw [mix_head z zg st wa ba gs gg w b y 7 1 (x 1) (by show (y 0 : ℕ) = 7; omega) (by show (y 1 : ℕ) = 1024 + (1 * 256 + (x 1 : ℕ)); omega)]
    open_payloads; unfold headAt silu wide readAt stateAt decayAt kdecay size column scale; pointwise <;> simp only [← Nat.add_assoc, Nat.reduceAdd]
  case piece3 =>
    rw [mix_head z zg st wa ba gs gg w b y 7 0 (x 1) (by show (y 0 : ℕ) = 7; omega) (by show (y 1 : ℕ) = 1024 + (0 * 256 + (x 1 : ℕ)); omega)]
    open_payloads; unfold headAt silu wide readAt stateAt decayAt kdecay size column scale; pointwise <;> simp only [← Nat.add_assoc, Nat.reduceAdd]
  case piece4 =>
    rw [mix_head z zg st wa ba gs gg w b y 6 3 (x 1) (by show (y 0 : ℕ) = 6; omega) (by show (y 1 : ℕ) = 1024 + (3 * 256 + (x 1 : ℕ)); omega)]
    open_payloads; unfold headAt silu wide readAt stateAt decayAt kdecay size column scale; pointwise <;> simp only [← Nat.add_assoc, Nat.reduceAdd]
  case piece5 =>
    rw [mix_head z zg st wa ba gs gg w b y 6 2 (x 1) (by show (y 0 : ℕ) = 6; omega) (by show (y 1 : ℕ) = 1024 + (2 * 256 + (x 1 : ℕ)); omega)]
    open_payloads; unfold headAt silu wide readAt stateAt decayAt kdecay size column scale; pointwise <;> simp only [← Nat.add_assoc, Nat.reduceAdd]
  case piece6 =>
    rw [mix_head z zg st wa ba gs gg w b y 6 1 (x 1) (by show (y 0 : ℕ) = 6; omega) (by show (y 1 : ℕ) = 1024 + (1 * 256 + (x 1 : ℕ)); omega)]
    open_payloads; unfold headAt silu wide readAt stateAt decayAt kdecay size column scale; pointwise <;> simp only [← Nat.add_assoc, Nat.reduceAdd]
  case piece7 =>
    rw [mix_head z zg st wa ba gs gg w b y 6 0 (x 1) (by show (y 0 : ℕ) = 6; omega) (by show (y 1 : ℕ) = 1024 + (0 * 256 + (x 1 : ℕ)); omega)]
    open_payloads; unfold headAt silu wide readAt stateAt decayAt kdecay size column scale; pointwise <;> simp only [← Nat.add_assoc, Nat.reduceAdd]
  case piece8 =>
    rw [mix_head z zg st wa ba gs gg w b y 5 3 (x 1) (by show (y 0 : ℕ) = 5; omega) (by show (y 1 : ℕ) = 1024 + (3 * 256 + (x 1 : ℕ)); omega)]
    open_payloads; unfold headAt silu wide readAt stateAt decayAt kdecay size column scale; pointwise <;> simp only [← Nat.add_assoc, Nat.reduceAdd]
  case piece9 =>
    rw [mix_head z zg st wa ba gs gg w b y 5 2 (x 1) (by show (y 0 : ℕ) = 5; omega) (by show (y 1 : ℕ) = 1024 + (2 * 256 + (x 1 : ℕ)); omega)]
    open_payloads; unfold headAt silu wide readAt stateAt decayAt kdecay size column scale; pointwise <;> simp only [← Nat.add_assoc, Nat.reduceAdd]
  case piece10 =>
    rw [mix_head z zg st wa ba gs gg w b y 5 1 (x 1) (by show (y 0 : ℕ) = 5; omega) (by show (y 1 : ℕ) = 1024 + (1 * 256 + (x 1 : ℕ)); omega)]
    open_payloads; unfold headAt silu wide readAt stateAt decayAt kdecay size column scale; pointwise <;> simp only [← Nat.add_assoc, Nat.reduceAdd]
  case piece11 =>
    rw [mix_head z zg st wa ba gs gg w b y 5 0 (x 1) (by show (y 0 : ℕ) = 5; omega) (by show (y 1 : ℕ) = 1024 + (0 * 256 + (x 1 : ℕ)); omega)]
    open_payloads; unfold headAt silu wide readAt stateAt decayAt kdecay size column scale; pointwise <;> simp only [← Nat.add_assoc, Nat.reduceAdd]
  case piece12 =>
    rw [mix_head z zg st wa ba gs gg w b y 4 3 (x 1) (by show (y 0 : ℕ) = 4; omega) (by show (y 1 : ℕ) = 1024 + (3 * 256 + (x 1 : ℕ)); omega)]
    open_payloads; unfold headAt silu wide readAt stateAt decayAt kdecay size column scale; pointwise <;> simp only [← Nat.add_assoc, Nat.reduceAdd]
  case piece13 =>
    rw [mix_head z zg st wa ba gs gg w b y 4 2 (x 1) (by show (y 0 : ℕ) = 4; omega) (by show (y 1 : ℕ) = 1024 + (2 * 256 + (x 1 : ℕ)); omega)]
    open_payloads; unfold headAt silu wide readAt stateAt decayAt kdecay size column scale; pointwise <;> simp only [← Nat.add_assoc, Nat.reduceAdd]
  case piece14 =>
    rw [mix_head z zg st wa ba gs gg w b y 4 1 (x 1) (by show (y 0 : ℕ) = 4; omega) (by show (y 1 : ℕ) = 1024 + (1 * 256 + (x 1 : ℕ)); omega)]
    open_payloads; unfold headAt silu wide readAt stateAt decayAt kdecay size column scale; pointwise <;> simp only [← Nat.add_assoc, Nat.reduceAdd]
  case piece15 =>
    rw [mix_head z zg st wa ba gs gg w b y 4 0 (x 1) (by show (y 0 : ℕ) = 4; omega) (by show (y 1 : ℕ) = 1024 + (0 * 256 + (x 1 : ℕ)); omega)]
    open_payloads; unfold headAt silu wide readAt stateAt decayAt kdecay size column scale; pointwise <;> simp only [← Nat.add_assoc, Nat.reduceAdd]
  case piece16 =>
    rw [mix_head z zg st wa ba gs gg w b y 3 3 (x 1) (by show (y 0 : ℕ) = 3; omega) (by show (y 1 : ℕ) = 1024 + (3 * 256 + (x 1 : ℕ)); omega)]
    open_payloads; unfold headAt silu wide readAt stateAt decayAt kdecay size column scale; pointwise <;> simp only [← Nat.add_assoc, Nat.reduceAdd]
  case piece17 =>
    rw [mix_head z zg st wa ba gs gg w b y 3 2 (x 1) (by show (y 0 : ℕ) = 3; omega) (by show (y 1 : ℕ) = 1024 + (2 * 256 + (x 1 : ℕ)); omega)]
    open_payloads; unfold headAt silu wide readAt stateAt decayAt kdecay size column scale; pointwise <;> simp only [← Nat.add_assoc, Nat.reduceAdd]
  case piece18 =>
    rw [mix_head z zg st wa ba gs gg w b y 3 1 (x 1) (by show (y 0 : ℕ) = 3; omega) (by show (y 1 : ℕ) = 1024 + (1 * 256 + (x 1 : ℕ)); omega)]
    open_payloads; unfold headAt silu wide readAt stateAt decayAt kdecay size column scale; pointwise <;> simp only [← Nat.add_assoc, Nat.reduceAdd]
  case piece19 =>
    rw [mix_head z zg st wa ba gs gg w b y 3 0 (x 1) (by show (y 0 : ℕ) = 3; omega) (by show (y 1 : ℕ) = 1024 + (0 * 256 + (x 1 : ℕ)); omega)]
    open_payloads; unfold headAt silu wide readAt stateAt decayAt kdecay size column scale; pointwise <;> simp only [← Nat.add_assoc, Nat.reduceAdd]
  case piece20 =>
    rw [mix_head z zg st wa ba gs gg w b y 2 3 (x 1) (by show (y 0 : ℕ) = 2; omega) (by show (y 1 : ℕ) = 1024 + (3 * 256 + (x 1 : ℕ)); omega)]
    open_payloads; unfold headAt silu wide readAt stateAt decayAt kdecay size column scale; pointwise <;> simp only [← Nat.add_assoc, Nat.reduceAdd]
  case piece21 =>
    rw [mix_head z zg st wa ba gs gg w b y 2 2 (x 1) (by show (y 0 : ℕ) = 2; omega) (by show (y 1 : ℕ) = 1024 + (2 * 256 + (x 1 : ℕ)); omega)]
    open_payloads; unfold headAt silu wide readAt stateAt decayAt kdecay size column scale; pointwise <;> simp only [← Nat.add_assoc, Nat.reduceAdd]
  case piece22 =>
    rw [mix_head z zg st wa ba gs gg w b y 2 1 (x 1) (by show (y 0 : ℕ) = 2; omega) (by show (y 1 : ℕ) = 1024 + (1 * 256 + (x 1 : ℕ)); omega)]
    open_payloads; unfold headAt silu wide readAt stateAt decayAt kdecay size column scale; pointwise <;> simp only [← Nat.add_assoc, Nat.reduceAdd]
  case piece23 =>
    rw [mix_head z zg st wa ba gs gg w b y 2 0 (x 1) (by show (y 0 : ℕ) = 2; omega) (by show (y 1 : ℕ) = 1024 + (0 * 256 + (x 1 : ℕ)); omega)]
    open_payloads; unfold headAt silu wide readAt stateAt decayAt kdecay size column scale; pointwise <;> simp only [← Nat.add_assoc, Nat.reduceAdd]
  case piece24 =>
    rw [mix_head z zg st wa ba gs gg w b y 1 3 (x 1) (by show (y 0 : ℕ) = 1; omega) (by show (y 1 : ℕ) = 1024 + (3 * 256 + (x 1 : ℕ)); omega)]
    open_payloads; unfold headAt silu wide readAt stateAt decayAt kdecay size column scale; pointwise <;> simp only [← Nat.add_assoc, Nat.reduceAdd]
  case piece25 =>
    rw [mix_head z zg st wa ba gs gg w b y 1 2 (x 1) (by show (y 0 : ℕ) = 1; omega) (by show (y 1 : ℕ) = 1024 + (2 * 256 + (x 1 : ℕ)); omega)]
    open_payloads; unfold headAt silu wide readAt stateAt decayAt kdecay size column scale; pointwise <;> simp only [← Nat.add_assoc, Nat.reduceAdd]
  case piece26 =>
    rw [mix_head z zg st wa ba gs gg w b y 1 1 (x 1) (by show (y 0 : ℕ) = 1; omega) (by show (y 1 : ℕ) = 1024 + (1 * 256 + (x 1 : ℕ)); omega)]
    open_payloads; unfold headAt silu wide readAt stateAt decayAt kdecay size column scale; pointwise <;> simp only [← Nat.add_assoc, Nat.reduceAdd]
  case piece27 =>
    rw [mix_head z zg st wa ba gs gg w b y 1 0 (x 1) (by show (y 0 : ℕ) = 1; omega) (by show (y 1 : ℕ) = 1024 + (0 * 256 + (x 1 : ℕ)); omega)]
    open_payloads; unfold headAt silu wide readAt stateAt decayAt kdecay size column scale; pointwise <;> simp only [← Nat.add_assoc, Nat.reduceAdd]
  case piece28 =>
    rw [mix_head z zg st wa ba gs gg w b y 0 3 (x 1) (by show (y 0 : ℕ) = 0; omega) (by show (y 1 : ℕ) = 1024 + (3 * 256 + (x 1 : ℕ)); omega)]
    open_payloads; unfold headAt silu wide readAt stateAt decayAt kdecay size column scale; pointwise <;> simp only [← Nat.add_assoc, Nat.reduceAdd]
  case piece29 =>
    rw [mix_head z zg st wa ba gs gg w b y 0 2 (x 1) (by show (y 0 : ℕ) = 0; omega) (by show (y 1 : ℕ) = 1024 + (2 * 256 + (x 1 : ℕ)); omega)]
    open_payloads; unfold headAt silu wide readAt stateAt decayAt kdecay size column scale; pointwise <;> simp only [← Nat.add_assoc, Nat.reduceAdd]
  case piece30 =>
    rw [mix_head z zg st wa ba gs gg w b y 0 1 (x 1) (by show (y 0 : ℕ) = 0; omega) (by show (y 1 : ℕ) = 1024 + (1 * 256 + (x 1 : ℕ)); omega)]
    open_payloads; unfold headAt silu wide readAt stateAt decayAt kdecay size column scale; pointwise <;> simp only [← Nat.add_assoc, Nat.reduceAdd]
  case piece31 =>
    rw [mix_head z zg st wa ba gs gg w b y 0 0 (x 1) (by show (y 0 : ℕ) = 0; omega) (by show (y 1 : ℕ) = 1024 + (0 * 256 + (x 1 : ℕ)); omega)]
    open_payloads; unfold headAt silu wide readAt stateAt decayAt kdecay size column scale; pointwise <;> simp only [← Nat.add_assoc, Nat.reduceAdd]
  case piece32 =>
    rw [mix_gate z zg st wa ba gs gg w b y (x 0) 7 (x 1) h0 (by show (y 1 : ℕ) = 7 * 128 + (x 1 : ℕ); omega)]
    open_payloads; unfold gateAt unitAt normed kact; pointwise <;> simp only [← Nat.add_assoc, Nat.reduceAdd]
  case piece33 =>
    rw [mix_gate z zg st wa ba gs gg w b y (x 0) 6 (x 1) h0 (by show (y 1 : ℕ) = 6 * 128 + (x 1 : ℕ); omega)]
    open_payloads; unfold gateAt unitAt normed kact; pointwise <;> simp only [← Nat.add_assoc, Nat.reduceAdd]
  case piece34 =>
    rw [mix_gate z zg st wa ba gs gg w b y (x 0) 5 (x 1) h0 (by show (y 1 : ℕ) = 5 * 128 + (x 1 : ℕ); omega)]
    open_payloads; unfold gateAt unitAt normed kact; pointwise <;> simp only [← Nat.add_assoc, Nat.reduceAdd]
  case piece35 =>
    rw [mix_gate z zg st wa ba gs gg w b y (x 0) 4 (x 1) h0 (by show (y 1 : ℕ) = 4 * 128 + (x 1 : ℕ); omega)]
    open_payloads; unfold gateAt unitAt normed kact; pointwise <;> simp only [← Nat.add_assoc, Nat.reduceAdd]
  case piece36 =>
    rw [mix_gate z zg st wa ba gs gg w b y (x 0) 3 (x 1) h0 (by show (y 1 : ℕ) = 3 * 128 + (x 1 : ℕ); omega)]
    open_payloads; unfold gateAt unitAt normed kact; pointwise <;> simp only [← Nat.add_assoc, Nat.reduceAdd]
  case piece37 =>
    rw [mix_gate z zg st wa ba gs gg w b y (x 0) 2 (x 1) h0 (by show (y 1 : ℕ) = 2 * 128 + (x 1 : ℕ); omega)]
    open_payloads; unfold gateAt unitAt normed kact; pointwise <;> simp only [← Nat.add_assoc, Nat.reduceAdd]
  case piece38 =>
    rw [mix_gate z zg st wa ba gs gg w b y (x 0) 1 (x 1) h0 (by show (y 1 : ℕ) = 1 * 128 + (x 1 : ℕ); omega)]
    open_payloads; unfold gateAt unitAt normed kact; pointwise <;> simp only [← Nat.add_assoc, Nat.reduceAdd]
  case piece39 =>
    rw [mix_gate z zg st wa ba gs gg w b y (x 0) 0 (x 1) h0 (by show (y 1 : ℕ) = 0 * 128 + (x 1 : ℕ); omega)]
    open_payloads; unfold gateAt unitAt normed kact; pointwise <;> simp only [← Nat.add_assoc, Nat.reduceAdd]

/-- A normalised value of the block by its column in the second result. -/
theorem unit_col (y : S8x1024.Idx) (r : Fin 8) (h : Fin 8) (e : Fin 128) (h0 : (y 0 : ℕ) = (r : ℕ))
    (h1 : (y 1 : ℕ) = (h : ℕ) * 128 + (e : ℕ)) : unitAt z gs (y 0) (⟨(y 1 : ℕ) / 128, by idx_bounds; omega⟩ : Fin 8)
      (⟨(y 1 : ℕ) % 128, by omega⟩ : Fin 128) = unitAt z gs r h e := by
  congr 1 <;> apply Fin.ext
  · exact h0
  · show (y 1 : ℕ) / 128 = (h : ℕ)
    omega
  · show (y 1 : ℕ) % 128 = (e : ℕ)
    omega

set_option maxHeartbeats 2000000 in
/-- What a point leaves in its block of the second result: the normalised values. -/
theorem stored_value (c : Dev nD) (t : Fin cfg0.N) (y : S8x1024.Idx) :
    ((outsAt0 m c t).2.1 y : EReal) = unitAt (iblk m c 0 t) (iblk m c 5 t) (y 0) (⟨(y 1 : ℕ) / 128, by idx_bounds; omega⟩ : Fin 8)
      (⟨(y 1 : ℕ) % 128, by omega⟩ : Fin 128) := by
  unfold outsAt0
  dsimp only
  generalize iblk m c 0 t = z
  generalize iblk m c 1 t = zg
  generalize iblk m c 2 t = st
  generalize iblk m c 3 t = wa
  generalize iblk m c 4 t = ba
  generalize iblk m c 5 t = gs
  generalize iblk m c 6 t = gg
  generalize iblk m c 7 t = w
  generalize iblk m c 8 t = b
  frame_out
  canon_tiles x h
  case piece0 =>
    rw [unit_col z gs y (x 0) 7 (x 1) h0 (by show (y 1 : ℕ) = 7 * 128 + (x 1 : ℕ); omega)]
    open_payloads; unfold unitAt normed kact; pointwise <;> simp only [← Nat.add_assoc, Nat.reduceAdd]
  case piece1 =>
    rw [unit_col z gs y (x 0) 6 (x 1) h0 (by show (y 1 : ℕ) = 6 * 128 + (x 1 : ℕ); omega)]
    open_payloads; unfold unitAt normed kact; pointwise <;> simp only [← Nat.add_assoc, Nat.reduceAdd]
  case piece2 =>
    rw [unit_col z gs y (x 0) 5 (x 1) h0 (by show (y 1 : ℕ) = 5 * 128 + (x 1 : ℕ); omega)]
    open_payloads; unfold unitAt normed kact; pointwise <;> simp only [← Nat.add_assoc, Nat.reduceAdd]
  case piece3 =>
    rw [unit_col z gs y (x 0) 4 (x 1) h0 (by show (y 1 : ℕ) = 4 * 128 + (x 1 : ℕ); omega)]
    open_payloads; unfold unitAt normed kact; pointwise <;> simp only [← Nat.add_assoc, Nat.reduceAdd]
  case piece4 =>
    rw [unit_col z gs y (x 0) 3 (x 1) h0 (by show (y 1 : ℕ) = 3 * 128 + (x 1 : ℕ); omega)]
    open_payloads; unfold unitAt normed kact; pointwise <;> simp only [← Nat.add_assoc, Nat.reduceAdd]
  case piece5 =>
    rw [unit_col z gs y (x 0) 2 (x 1) h0 (by show (y 1 : ℕ) = 2 * 128 + (x 1 : ℕ); omega)]
    open_payloads; unfold unitAt normed kact; pointwise <;> simp only [← Nat.add_assoc, Nat.reduceAdd]
  case piece6 =>
    rw [unit_col z gs y (x 0) 1 (x 1) h0 (by show (y 1 : ℕ) = 1 * 128 + (x 1 : ℕ); omega)]
    open_payloads; unfold unitAt normed kact; pointwise <;> simp only [← Nat.add_assoc, Nat.reduceAdd]
  case piece7 =>
    rw [unit_col z gs y (x 0) 0 (x 1) h0 (by show (y 1 : ℕ) = 0 * 128 + (x 1 : ℕ); omega)]
    open_payloads; unfold unitAt normed kact; pointwise <;> simp only [← Nat.add_assoc, Nat.reduceAdd]

/-- A state of the block by the coordinates of a tile. -/
theorem state_tile (y : S8x4x128x256.Idx) (r : Fin 8) (h : Fin 4) (d : Fin 128) (v : Fin 256) (h0 : (y 0 : ℕ) = (r : ℕ))
    (h1 : (y 1 : ℕ) = (h : ℕ)) (h2 : (y 2 : ℕ) = (d : ℕ)) (h3 : (y 3 : ℕ) = (v : ℕ)) :
    stateAt z zg st wa ba (y 0) (y 1) (y 2) (y 3) = stateAt z zg st wa ba r h d v := by
  congr 1 <;> apply Fin.ext
  · exact h0
  · exact h1
  · exact h2
  · exact h3

set_option maxHeartbeats 4000000 in
/-- What a point leaves in its block of the third result: the new states. -/
theorem stored_state (c : Dev nD) (t : Fin cfg0.N) (y : S8x4x128x256.Idx) :
    ((outsAt0 m c t).2.2 y : EReal) = stateAt (iblk m c 0 t) (iblk m c 1 t) (iblk m c 2 t) (iblk m c 3 t) (iblk m c 4 t) (y 0) (y 1) (y 2) (y 3) := by
  unfold outsAt0
  dsimp only
  generalize iblk m c 0 t = z
  generalize iblk m c 1 t = zg
  generalize iblk m c 2 t = st
  generalize iblk m c 3 t = wa
  generalize iblk m c 4 t = ba
  generalize iblk m c 5 t = gs
  generalize iblk m c 6 t = gg
  generalize iblk m c 7 t = w
  generalize iblk m c 8 t = b
  frame_out
  canon_tiles x h
  case piece0 =>
    rw [state_tile z zg st wa ba y 7 3 (x 2) (x 3) (by show (y 0 : ℕ) = 7; omega) (by show (y 1 : ℕ) = 3; omega) h2 h3]
    open_payloads; unfold stateAt decayAt kdecay size column; pointwise <;> simp only [← Nat.add_assoc, Nat.reduceAdd]
  case piece1 =>
    rw [state_tile z zg st wa ba y 7 2 (x 2) (x 3) (by show (y 0 : ℕ) = 7; omega) (by show (y 1 : ℕ) = 2; omega) h2 h3]
    open_payloads; unfold stateAt decayAt kdecay size column; pointwise <;> simp only [← Nat.add_assoc, Nat.reduceAdd]
  case piece2 =>
    rw [state_tile z zg st wa ba y 7 1 (x 2) (x 3) (by show (y 0 : ℕ) = 7; omega) (by show (y 1 : ℕ) = 1; omega) h2 h3]
    open_payloads; unfold stateAt decayAt kdecay size column; pointwise <;> simp only [← Nat.add_assoc, Nat.reduceAdd]
  case piece3 =>
    rw [state_tile z zg st wa ba y 7 0 (x 2) (x 3) (by show (y 0 : ℕ) = 7; omega) (by show (y 1 : ℕ) = 0; omega) h2 h3]
    open_payloads; unfold stateAt decayAt kdecay size column; pointwise <;> simp only [← Nat.add_assoc, Nat.reduceAdd]
  case piece4 =>
    rw [state_tile z zg st wa ba y 6 3 (x 2) (x 3) (by show (y 0 : ℕ) = 6; omega) (by show (y 1 : ℕ) = 3; omega) h2 h3]
    open_payloads; unfold stateAt decayAt kdecay size column; pointwise <;> simp only [← Nat.add_assoc, Nat.reduceAdd]
  case piece5 =>
    rw [state_tile z zg st wa ba y 6 2 (x 2) (x 3) (by show (y 0 : ℕ) = 6; omega) (by show (y 1 : ℕ) = 2; omega) h2 h3]
    open_payloads; unfold stateAt decayAt kdecay size column; pointwise <;> simp only [← Nat.add_assoc, Nat.reduceAdd]
  case piece6 =>
    rw [state_tile z zg st wa ba y 6 1 (x 2) (x 3) (by show (y 0 : ℕ) = 6; omega) (by show (y 1 : ℕ) = 1; omega) h2 h3]
    open_payloads; unfold stateAt decayAt kdecay size column; pointwise <;> simp only [← Nat.add_assoc, Nat.reduceAdd]
  case piece7 =>
    rw [state_tile z zg st wa ba y 6 0 (x 2) (x 3) (by show (y 0 : ℕ) = 6; omega) (by show (y 1 : ℕ) = 0; omega) h2 h3]
    open_payloads; unfold stateAt decayAt kdecay size column; pointwise <;> simp only [← Nat.add_assoc, Nat.reduceAdd]
  case piece8 =>
    rw [state_tile z zg st wa ba y 5 3 (x 2) (x 3) (by show (y 0 : ℕ) = 5; omega) (by show (y 1 : ℕ) = 3; omega) h2 h3]
    open_payloads; unfold stateAt decayAt kdecay size column; pointwise <;> simp only [← Nat.add_assoc, Nat.reduceAdd]
  case piece9 =>
    rw [state_tile z zg st wa ba y 5 2 (x 2) (x 3) (by show (y 0 : ℕ) = 5; omega) (by show (y 1 : ℕ) = 2; omega) h2 h3]
    open_payloads; unfold stateAt decayAt kdecay size column; pointwise <;> simp only [← Nat.add_assoc, Nat.reduceAdd]
  case piece10 =>
    rw [state_tile z zg st wa ba y 5 1 (x 2) (x 3) (by show (y 0 : ℕ) = 5; omega) (by show (y 1 : ℕ) = 1; omega) h2 h3]
    open_payloads; unfold stateAt decayAt kdecay size column; pointwise <;> simp only [← Nat.add_assoc, Nat.reduceAdd]
  case piece11 =>
    rw [state_tile z zg st wa ba y 5 0 (x 2) (x 3) (by show (y 0 : ℕ) = 5; omega) (by show (y 1 : ℕ) = 0; omega) h2 h3]
    open_payloads; unfold stateAt decayAt kdecay size column; pointwise <;> simp only [← Nat.add_assoc, Nat.reduceAdd]
  case piece12 =>
    rw [state_tile z zg st wa ba y 4 3 (x 2) (x 3) (by show (y 0 : ℕ) = 4; omega) (by show (y 1 : ℕ) = 3; omega) h2 h3]
    open_payloads; unfold stateAt decayAt kdecay size column; pointwise <;> simp only [← Nat.add_assoc, Nat.reduceAdd]
  case piece13 =>
    rw [state_tile z zg st wa ba y 4 2 (x 2) (x 3) (by show (y 0 : ℕ) = 4; omega) (by show (y 1 : ℕ) = 2; omega) h2 h3]
    open_payloads; unfold stateAt decayAt kdecay size column; pointwise <;> simp only [← Nat.add_assoc, Nat.reduceAdd]
  case piece14 =>
    rw [state_tile z zg st wa ba y 4 1 (x 2) (x 3) (by show (y 0 : ℕ) = 4; omega) (by show (y 1 : ℕ) = 1; omega) h2 h3]
    open_payloads; unfold stateAt decayAt kdecay size column; pointwise <;> simp only [← Nat.add_assoc, Nat.reduceAdd]
  case piece15 =>
    rw [state_tile z zg st wa ba y 4 0 (x 2) (x 3) (by show (y 0 : ℕ) = 4; omega) (by show (y 1 : ℕ) = 0; omega) h2 h3]
    open_payloads; unfold stateAt decayAt kdecay size column; pointwise <;> simp only [← Nat.add_assoc, Nat.reduceAdd]
  case piece16 =>
    rw [state_tile z zg st wa ba y 3 3 (x 2) (x 3) (by show (y 0 : ℕ) = 3; omega) (by show (y 1 : ℕ) = 3; omega) h2 h3]
    open_payloads; unfold stateAt decayAt kdecay size column; pointwise <;> simp only [← Nat.add_assoc, Nat.reduceAdd]
  case piece17 =>
    rw [state_tile z zg st wa ba y 3 2 (x 2) (x 3) (by show (y 0 : ℕ) = 3; omega) (by show (y 1 : ℕ) = 2; omega) h2 h3]
    open_payloads; unfold stateAt decayAt kdecay size column; pointwise <;> simp only [← Nat.add_assoc, Nat.reduceAdd]
  case piece18 =>
    rw [state_tile z zg st wa ba y 3 1 (x 2) (x 3) (by show (y 0 : ℕ) = 3; omega) (by show (y 1 : ℕ) = 1; omega) h2 h3]
    open_payloads; unfold stateAt decayAt kdecay size column; pointwise <;> simp only [← Nat.add_assoc, Nat.reduceAdd]
  case piece19 =>
    rw [state_tile z zg st wa ba y 3 0 (x 2) (x 3) (by show (y 0 : ℕ) = 3; omega) (by show (y 1 : ℕ) = 0; omega) h2 h3]
    open_payloads; unfold stateAt decayAt kdecay size column; pointwise <;> simp only [← Nat.add_assoc, Nat.reduceAdd]
  case piece20 =>
    rw [state_tile z zg st wa ba y 2 3 (x 2) (x 3) (by show (y 0 : ℕ) = 2; omega) (by show (y 1 : ℕ) = 3; omega) h2 h3]
    open_payloads; unfold stateAt decayAt kdecay size column; pointwise <;> simp only [← Nat.add_assoc, Nat.reduceAdd]
  case piece21 =>
    rw [state_tile z zg st wa ba y 2 2 (x 2) (x 3) (by show (y 0 : ℕ) = 2; omega) (by show (y 1 : ℕ) = 2; omega) h2 h3]
    open_payloads; unfold stateAt decayAt kdecay size column; pointwise <;> simp only [← Nat.add_assoc, Nat.reduceAdd]
  case piece22 =>
    rw [state_tile z zg st wa ba y 2 1 (x 2) (x 3) (by show (y 0 : ℕ) = 2; omega) (by show (y 1 : ℕ) = 1; omega) h2 h3]
    open_payloads; unfold stateAt decayAt kdecay size column; pointwise <;> simp only [← Nat.add_assoc, Nat.reduceAdd]
  case piece23 =>
    rw [state_tile z zg st wa ba y 2 0 (x 2) (x 3) (by show (y 0 : ℕ) = 2; omega) (by show (y 1 : ℕ) = 0; omega) h2 h3]
    open_payloads; unfold stateAt decayAt kdecay size column; pointwise <;> simp only [← Nat.add_assoc, Nat.reduceAdd]
  case piece24 =>
    rw [state_tile z zg st wa ba y 1 3 (x 2) (x 3) (by show (y 0 : ℕ) = 1; omega) (by show (y 1 : ℕ) = 3; omega) h2 h3]
    open_payloads; unfold stateAt decayAt kdecay size column; pointwise <;> simp only [← Nat.add_assoc, Nat.reduceAdd]
  case piece25 =>
    rw [state_tile z zg st wa ba y 1 2 (x 2) (x 3) (by show (y 0 : ℕ) = 1; omega) (by show (y 1 : ℕ) = 2; omega) h2 h3]
    open_payloads; unfold stateAt decayAt kdecay size column; pointwise <;> simp only [← Nat.add_assoc, Nat.reduceAdd]
  case piece26 =>
    rw [state_tile z zg st wa ba y 1 1 (x 2) (x 3) (by show (y 0 : ℕ) = 1; omega) (by show (y 1 : ℕ) = 1; omega) h2 h3]
    open_payloads; unfold stateAt decayAt kdecay size column; pointwise <;> simp only [← Nat.add_assoc, Nat.reduceAdd]
  case piece27 =>
    rw [state_tile z zg st wa ba y 1 0 (x 2) (x 3) (by show (y 0 : ℕ) = 1; omega) (by show (y 1 : ℕ) = 0; omega) h2 h3]
    open_payloads; unfold stateAt decayAt kdecay size column; pointwise <;> simp only [← Nat.add_assoc, Nat.reduceAdd]
  case piece28 =>
    rw [state_tile z zg st wa ba y 0 3 (x 2) (x 3) (by show (y 0 : ℕ) = 0; omega) (by show (y 1 : ℕ) = 3; omega) h2 h3]
    open_payloads; unfold stateAt decayAt kdecay size column; pointwise <;> simp only [← Nat.add_assoc, Nat.reduceAdd]
  case piece29 =>
    rw [state_tile z zg st wa ba y 0 2 (x 2) (x 3) (by show (y 0 : ℕ) = 0; omega) (by show (y 1 : ℕ) = 2; omega) h2 h3]
    open_payloads; unfold stateAt decayAt kdecay size column; pointwise <;> simp only [← Nat.add_assoc, Nat.reduceAdd]
  case piece30 =>
    rw [state_tile z zg st wa ba y 0 1 (x 2) (x 3) (by show (y 0 : ℕ) = 0; omega) (by show (y 1 : ℕ) = 1; omega) h2 h3]
    open_payloads; unfold stateAt decayAt kdecay size column; pointwise <;> simp only [← Nat.add_assoc, Nat.reduceAdd]
  case piece31 =>
    rw [state_tile z zg st wa ba y 0 0 (x 2) (x 3) (by show (y 0 : ℕ) = 0; omega) (by show (y 1 : ℕ) = 0; omega) h2 h3]
    open_payloads; unfold stateAt decayAt kdecay size column; pointwise <;> simp only [← Nat.add_assoc, Nat.reduceAdd]

end Cert.SMixIdeal.Result

end
-- ==== Proof.SMixValue.lean ====
/- The values of the sample tokens' mixers: eight tokens at a grid point, eight heads of the spatial gating mixer and four of the gated
   linear attention. Every tile a point stores is the value of that token and head; the rows off the sample tokens keep the zeros the
   result array starts with. -/
module

public import proofs.«01_k».proof.Proof.Gen.SMixIdeal.Value
public import proofs.«01_k».proof.Proof.Gen.SMixRefIdeal.Read
public import Idealize.ShloMosaic.Lib.Pipeline.ValueKit
public import Idealize.ShloMosaic.Lib.Pointwise
public import proofs.«01_k».proof.Proof.SMixRef
public import proofs.«01_k».proof.Proof.SMixTile

@[expose] public section

set_option maxRecDepth 100000

noncomputable section

namespace Cert.SMixIdeal.Result

open Cert.SMixIdeal Cert.SMixIdeal.Gen Idealize.ShloMosaic Idealize.ShloMosaic.TcCoe Idealize.SL.Sem
open Idealize.ShloMosaic.Pipeline (Dat)
open Cert.SMixRefIdeal.Read
open Cert.Gelu Cert.Decay

variable (m : (ℓ : Loc nD τ sig) → Buf (Elt Ideal) ℓ)

/-- Which block each window takes at a grid point. -/
theorem idx : ∀ t : Fin cfg0.N, win0_0.index t = ![1024 + t.val, 0] ∧ win0_1.index t = ![1024 + t.val, 0] ∧ win0_2.index t = ![t.val, 0, 0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![1024 + t.val, 0] ∧ win0_10.index t = ![t.val, 0]
    ∧ win0_11.index t = ![t.val, 0, 0, 0] :=
  (by decide +kernel : ∀ t : Fin grid0.N, _)

/-- The grid has 16 points. -/
theorem lt16 (t : Fin cfg0.N) : (t : ℕ) < 16 := lt_of_lt_of_eq t.isLt (by decide +kernel)

/-- A projected input the block holds. -/
theorem z_at (c : Dev nD) (t : Fin cfg0.N) (r : Fin 8) (k : Fin 5120) : iblk m c 0 t (ix2 r k)
    = m ((c : Thread nD τ).loc main_arg0) (ix2 (⟨8192 + ((t : ℕ) * 8 + (r : ℕ)), by have := lt16 t; omega⟩ : Fin 8448) k) := by
  blk_point [iblk, V, idx t]

/-- A gate's low-rank input the block holds. -/
theorem zg_at (c : Dev nD) (t : Fin cfg0.N) (r : Fin 8) (k : Fin 128) : iblk m c 1 t (ix2 r k)
    = m ((c : Thread nD τ).loc main_arg1) (ix2 (⟨8192 + ((t : ℕ) * 8 + (r : ℕ)), by have := lt16 t; omega⟩ : Fin 8448) k) := by
  blk_point [iblk, V, idx t]

/-- A state at the region's start. -/
theorem state_entry (c : Dev nD) (i : S128x4x128x256.Idx) : V m c main_v19 i = m ((c : Thread nD τ).loc main_arg2) (ix5 0 (i 0) (i 1) (i 2) (i 3)) := by
  simp only [V, hostOps0, hostOps0_1, hostOps0_2, List.flatten_cons, List.flatten_nil, List.append_nil, List.cons_append,
    List.nil_append]
  entry_read
  pointwise

/-- A weight of the decay at the region's start, in the first 16 rows. -/
theorem weight_entry (c : Dev nD) (i : S128x512.Idx) (hi : (i 0 : ℕ) < 16) : V m c main_v2 i = m ((c : Thread nD τ).loc main_arg3) (ix3 0 (⟨(i 0 : ℕ), hi⟩ : Fin 16) (i 1)) := by
  simp only [V, hostOps0, hostOps0_1, hostOps0_2, List.flatten_cons, List.flatten_nil, List.append_nil, List.cons_append,
    List.nil_append]
  entry_read
  simp -implicitDefEqProofs only [StableHlo.TRef.toBuf, StableHlo.TRef.ofBuf, cast_cast, cast_eq]
  pointwise
  rw [dif_pos (by omega)]

/-- The rows of the weight after the first 16 are zero. -/
theorem weight_zero (c : Dev nD) (i : S128x512.Idx) (hi : 16 ≤ (i 0 : ℕ)) : V m c main_v2 i = (0 : EReal) := by
  simp only [V, hostOps0, hostOps0_1, hostOps0_2, List.flatten_cons, List.flatten_nil, List.append_nil, List.cons_append,
    List.nil_append]
  entry_read
  simp -implicitDefEqProofs only [StableHlo.TRef.toBuf, StableHlo.TRef.ofBuf, cast_cast, cast_eq]
  pointwise
  rw [dif_neg (by omega)]
  show (((0#32 : BitVec 32).toInt : ℝ) : EReal) = 0
  simp

/-- A bias of the decay at the region's start. -/
theorem bias_entry (c : Dev nD) (i : S1x512.Idx) : V m c main_v4 i = m ((c : Thread nD τ).loc main_arg4) (ix2 0 (i 1)) := by
  simp only [V, hostOps0, hostOps0_1, hostOps0_2, List.flatten_cons, List.flatten_nil, List.append_nil, List.cons_append,
    List.nil_append]
  entry_read
  pointwise
  exact congrArg (m ((c : Thread nD τ).loc main_arg4)) (by idx_bounds; blk_ext)

/-- A scale of the gating mixer at the region's start. -/
theorem scale_entry (c : Dev nD) (i : S1x1024.Idx) : V m c main_v6 i = m ((c : Thread nD τ).loc main_arg7) (ix3 0 (⟨(i 1 : ℕ) / 128, by idx_bounds; omega⟩ : Fin 8) (⟨(i 1 : ℕ) % 128, by omega⟩ : Fin 128)) := by
  simp only [V, hostOps0, hostOps0_1, hostOps0_2, List.flatten_cons, List.flatten_nil, List.append_nil, List.cons_append,
    List.nil_append]
  entry_read
  pointwise

/-- A scale of the attention at the region's start. -/
theorem wide_entry (c : Dev nD) (i : S1x1024.Idx) : V m c main_v8 i = m ((c : Thread nD τ).loc main_arg8) (ix3 0 (⟨(i 1 : ℕ) / 256, by idx_bounds; omega⟩ : Fin 4) (⟨(i 1 : ℕ) % 256, by omega⟩ : Fin 256)) := by
  simp only [V, hostOps0, hostOps0_1, hostOps0_2, List.flatten_cons, List.flatten_nil, List.append_nil, List.cons_append,
    List.nil_append]
  entry_read
  pointwise

/-- A weight of the gating mixer at the region's start: each head's, at the start of a chunk. -/
theorem first_entry (c : Dev nD) (i : S1x1024.Idx) : V m c main_v13 i = m ((c : Thread nD τ).loc main_arg5) (ix4 0 (⟨(i 1 : ℕ) / 128, by idx_bounds; omega⟩ : Fin 8) 0 0) := by
  simp only [V, hostOps0, hostOps0_1, hostOps0_2, List.flatten_cons, List.flatten_nil, List.append_nil, List.cons_append,
    List.nil_append]
  entry_read
  pointwise

/-- A bias of the gating mixer at the region's start: each head's, at the start of a chunk. -/
theorem shift_entry (c : Dev nD) (i : S1x1024.Idx) : V m c main_v18 i = m ((c : Thread nD τ).loc main_arg6) (ix3 0 (⟨(i 1 : ℕ) / 128, by idx_bounds; omega⟩ : Fin 8) 0) := by
  simp only [V, hostOps0, hostOps0_1, hostOps0_2, List.flatten_cons, List.flatten_nil, List.append_nil, List.cons_append,
    List.nil_append]
  entry_read
  pointwise

/-- A state the block holds. -/
theorem state_at (c : Dev nD) (t : Fin cfg0.N) (r : Fin 8) (h : Fin 4) (d : Fin 128) (v : Fin 256) : iblk m c 2 t (ix4 r h d v)
    = m ((c : Thread nD τ).loc main_arg2) (ix5 0 (⟨(t : ℕ) * 8 + (r : ℕ), by have := lt16 t; omega⟩ : Fin 128) h d v) := by
  have e : (win0_2.blk t).view.emb (ix4 r h d v) = ix4 (⟨(t : ℕ) * 8 + (r : ℕ), by have := lt16 t; omega⟩ : Fin 128) h d v := by
    blk_ext [idx t]
  exact (state_entry m c _).trans (by rw [e]; rfl)

/-- A weight of the decay the block holds, in the first 16 rows. -/
theorem weight_at (c : Dev nD) (t : Fin cfg0.N) (k : Fin 16) (j : Fin 512) : iblk m c 3 t (ix2 (⟨(k : ℕ), by omega⟩ : Fin 128) j)
    = m ((c : Thread nD τ).loc main_arg3) (ix3 0 k j) := by
  have e : (win0_3.blk t).view.emb (ix2 (⟨(k : ℕ), by omega⟩ : Fin 128) j) = ix2 (⟨(k : ℕ), by omega⟩ : Fin 128) j := by
    blk_ext [idx t]
  exact (congrArg (V m c main_v2) e).trans (weight_entry m c _ k.isLt)

/-- A weight of the decay the block holds, in the other rows. -/
theorem weight_zero_at (c : Dev nD) (t : Fin cfg0.N) (k : Fin 128) (j : Fin 512) (hk : 16 ≤ (k : ℕ)) : iblk m c 3 t (ix2 k j)
    = (0 : EReal) := by
  have e : (win0_3.blk t).view.emb (ix2 k j) = ix2 k j := by
    blk_ext [idx t]
  exact (congrArg (V m c main_v2) e).trans (weight_zero m c _ hk)

/-- A bias of the decay the block holds. -/
theorem bias_at (c : Dev nD) (t : Fin cfg0.N) (j : Fin 512) : iblk m c 4 t (ix2 0 j) = m ((c : Thread nD τ).loc main_arg4) (ix2 0 j) := by
  have e : (win0_4.blk t).view.emb (ix2 0 j) = ix2 0 j := by
    blk_ext [idx t]
  exact (bias_entry m c _).trans (by rw [e]; rfl)

/-- A scale of the gating mixer the block holds. -/
theorem scale_at (c : Dev nD) (t : Fin cfg0.N) (h : Fin 8) (k : Fin 128) :
    iblk m c 5 t (ix2 0 (⟨(h : ℕ) * 128 + (k : ℕ), by omega⟩ : Fin 1024)) = m ((c : Thread nD τ).loc main_arg7) (ix3 0 h k) := by
  have e : (win0_5.blk t).view.emb (ix2 0 (⟨(h : ℕ) * 128 + (k : ℕ), by omega⟩ : Fin 1024))
      = ix2 0 (⟨(h : ℕ) * 128 + (k : ℕ), by omega⟩ : Fin 1024) := by
    blk_ext [idx t]
  refine (scale_entry m c _).trans ?_
  rw [e]
  refine congrArg (m ((c : Thread nD τ).loc main_arg7)) ?_
  blk_ext

/-- A scale of the attention the block holds. -/
theorem wide_at (c : Dev nD) (t : Fin cfg0.N) (h : Fin 4) (k : Fin 256) :
    iblk m c 6 t (ix2 0 (⟨(h : ℕ) * 256 + (k : ℕ), by omega⟩ : Fin 1024)) = m ((c : Thread nD τ).loc main_arg8) (ix3 0 h k) := by
  have e : (win0_6.blk t).view.emb (ix2 0 (⟨(h : ℕ) * 256 + (k : ℕ), by omega⟩ : Fin 1024))
      = ix2 0 (⟨(h : ℕ) * 256 + (k : ℕ), by omega⟩ : Fin 1024) := by
    blk_ext [idx t]
  refine (wide_entry m c _).trans ?_
  rw [e]
  refine congrArg (m ((c : Thread nD τ).loc main_arg8)) ?_
  blk_ext

/-- A weight of the gating mixer the block holds. -/
theorem first_at (c : Dev nD) (t : Fin cfg0.N) (h : Fin 8) (k : Fin 128) :
    iblk m c 7 t (ix2 0 (⟨(h : ℕ) * 128 + (k : ℕ), by omega⟩ : Fin 1024)) = m ((c : Thread nD τ).loc main_arg5) (ix4 0 h 0 0) := by
  have e : (win0_7.blk t).view.emb (ix2 0 (⟨(h : ℕ) * 128 + (k : ℕ), by omega⟩ : Fin 1024))
      = ix2 0 (⟨(h : ℕ) * 128 + (k : ℕ), by omega⟩ : Fin 1024) := by
    blk_ext [idx t]
  refine (first_entry m c _).trans ?_
  rw [e]
  refine congrArg (m ((c : Thread nD τ).loc main_arg5)) ?_
  blk_ext

/-- A bias of the gating mixer the block holds. -/
theorem shift_at (c : Dev nD) (t : Fin cfg0.N) (h : Fin 8) (k : Fin 128) :
    iblk m c 8 t (ix2 0 (⟨(h : ℕ) * 128 + (k : ℕ), by omega⟩ : Fin 1024)) = m ((c : Thread nD τ).loc main_arg6) (ix3 0 h 0) := by
  have e : (win0_8.blk t).view.emb (ix2 0 (⟨(h : ℕ) * 128 + (k : ℕ), by omega⟩ : Fin 1024))
      = ix2 0 (⟨(h : ℕ) * 128 + (k : ℕ), by omega⟩ : Fin 1024) := by
    blk_ext [idx t]
  refine (shift_entry m c _).trans ?_
  rw [e]
  refine congrArg (m ((c : Thread nD τ).loc main_arg6)) ?_
  blk_ext

/-- The block's projected input is the token's. -/
theorem z_eq (c : Dev nD) (t : Fin cfg0.N) (r : Fin 8) (k : Fin 5120) (q : Fin 128) (hq : (q : ℕ) = (t : ℕ) * 8 + (r : ℕ)) :
    iblk m c 0 t (ix2 r k) = Cert.SMixRefIdeal.Result.zAt (m ((c : Thread nD τ).loc main_arg0)) q k := by
  refine (z_at m c t r k).trans ?_
  unfold Cert.SMixRefIdeal.Result.zAt
  simp only [hq]

/-- The block's normalised values are the tokens'. -/
theorem unit_eq (c : Dev nD) (t : Fin cfg0.N) (r : Fin 8) (h : Fin 8) (e : Fin 128) (q : Fin 128) (hq : (q : ℕ) = (t : ℕ) * 8 + (r : ℕ)) :
    unitAt (iblk m c 0 t) (iblk m c 5 t) r h e = Cert.SMixRefIdeal.Result.valueAt (m ((c : Thread nD τ).loc main_arg0)) (m ((c : Thread nD τ).loc main_arg7)) q h e := by
  unfold unitAt Cert.SMixRefIdeal.Result.valueAt
  rw [kact_eq]
  exact congr (congr (congrArg normed (funext fun k => congrArg gelu (z_eq m c t r _ q hq))) (funext fun k => scale_at m c t h k)) rfl

/-- The block's gated mix is the tokens'. -/
theorem gate_eq (c : Dev nD) (t : Fin cfg0.N) (r : Fin 8) (h : Fin 8) (e : Fin 128) (q : Fin 128) (hq : (q : ℕ) = (t : ℕ) * 8 + (r : ℕ)) :
    gateAt (iblk m c 0 t) (iblk m c 5 t) (iblk m c 7 t) (iblk m c 8 t) r h e = Cert.SMixRefIdeal.Result.mixAt (m ((c : Thread nD τ).loc main_arg0)) (m ((c : Thread nD τ).loc main_arg5)) (m ((c : Thread nD τ).loc main_arg6)) (m ((c : Thread nD τ).loc main_arg7)) q h e := by
  unfold gateAt Cert.SMixRefIdeal.Result.mixAt
  rw [unit_eq m c t r h e q hq, kact_eq]
  exact congr (congrArg HMul.hMul (congrArg gelu (z_eq m c t r _ q hq)))
    (congr (congrArg HAdd.hAdd (congrArg (· * _) (first_at m c t h e))) (shift_at m c t h e))

/-- The block's decays are the tokens'. -/
theorem decay_eq (c : Dev nD) (t : Fin cfg0.N) (r : Fin 8) (j : Fin 512) (q : Fin 128) (hq : (q : ℕ) = (t : ℕ) * 8 + (r : ℕ)) :
    decayAt (iblk m c 1 t) (iblk m c 3 t) (iblk m c 4 t) r j = Cert.SMixRefIdeal.Result.decayAt (m ((c : Thread nD τ).loc main_arg1)) (m ((c : Thread nD τ).loc main_arg3)) (m ((c : Thread nD τ).loc main_arg4)) q j := by
  unfold decayAt Cert.SMixRefIdeal.Result.decayAt
  rw [kdecay_eq]
  refine congrArg decay (congr (congrArg HAdd.hAdd (padded_sum _ _ (fun k => ?_) fun k hk => ?_)) (bias_at m c t j))
  · refine congr (congrArg HMul.hMul ((zg_at m c t r _).trans ?_)) (weight_at m c t k j)
    simp only [hq]
  · exact mul_eq_zero_of_right (M₀ := EReal) _ (weight_zero_at m c t k j hk)

/-- The block's states are the tokens'. -/
theorem state_eq (c : Dev nD) (t : Fin cfg0.N) (r : Fin 8) (h : Fin 4) (d : Fin 128) (v : Fin 256) (q : Fin 128)
    (hq : (q : ℕ) = (t : ℕ) * 8 + (r : ℕ)) :
    stateAt (iblk m c 0 t) (iblk m c 1 t) (iblk m c 2 t) (iblk m c 3 t) (iblk m c 4 t) r h d v = Cert.SMixRefIdeal.Result.stateAt (m ((c : Thread nD τ).loc main_arg0)) (m ((c : Thread nD τ).loc main_arg1)) (m ((c : Thread nD τ).loc main_arg2)) (m ((c : Thread nD τ).loc main_arg3)) (m ((c : Thread nD τ).loc main_arg4)) q h d v := by
  unfold stateAt Cert.SMixRefIdeal.Result.stateAt
  rw [column_eq, column_eq]
  refine congr (congrArg HAdd.hAdd (congr (congrArg HMul.hMul (decay_eq m c t r _ q hq)) ((state_at m c t r h d v).trans ?_)))
    (congr (congrArg HMul.hMul (z_eq m c t r _ q hq)) (z_eq m c t r _ q hq))
  exact congrArg (fun p : Fin 128 => m ((c : Thread nD τ).loc main_arg2) (ix5 0 p h d v)) (Fin.ext hq.symm)

/-- The block's reads of the states are the tokens'. -/
theorem read_eq (c : Dev nD) (t : Fin cfg0.N) (r : Fin 8) (h : Fin 4) (v : Fin 256) (q : Fin 128) (hq : (q : ℕ) = (t : ℕ) * 8 + (r : ℕ)) :
    readAt (iblk m c 0 t) (iblk m c 1 t) (iblk m c 2 t) (iblk m c 3 t) (iblk m c 4 t) r h v = Cert.SMixRefIdeal.Result.readAt (m ((c : Thread nD τ).loc main_arg0)) (m ((c : Thread nD τ).loc main_arg1)) (m ((c : Thread nD τ).loc main_arg2)) (m ((c : Thread nD τ).loc main_arg3)) (m ((c : Thread nD τ).loc main_arg4)) q h v := by
  unfold readAt Cert.SMixRefIdeal.Result.readAt
  rw [column_eq]
  exact Finset.sum_congr rfl fun d _ => congr (congrArg HMul.hMul (congrArg (· * scale) (z_eq m c t r _ q hq))) (state_eq m c t r h d v q hq)

/-- The block's outputs of the attention are the tokens'. -/
theorem head_eq (c : Dev nD) (t : Fin cfg0.N) (r : Fin 8) (h : Fin 4) (v : Fin 256) (q : Fin 128) (hq : (q : ℕ) = (t : ℕ) * 8 + (r : ℕ)) :
    headAt (iblk m c 0 t) (iblk m c 1 t) (iblk m c 2 t) (iblk m c 3 t) (iblk m c 4 t) (iblk m c 6 t) r h v = Cert.SMixRefIdeal.Result.headAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) q h v := by
  unfold headAt Cert.SMixRefIdeal.Result.headAt
  exact congr (congrArg HMul.hMul (congrArg silu (z_eq m c t r _ q hq)))
    (congr (congr (congrArg wide (funext fun k => read_eq m c t r h k q hq)) (funext fun k => wide_at m c t h k)) rfl)

/-- What a point leaves in its block of the first result is the reference's result there. -/
theorem point_mix (c : Dev nD) (t : Fin cfg0.N) (y : S8x2048.Idx) (i : S8448x2048.Idx)
    (h0 : (i 0 : ℕ) = 8192 + ((t : ℕ) * 8 + (y 0 : ℕ))) (h1 : (i 1 : ℕ) = (y 1 : ℕ)) :
    ((outsAt0 m c t).1 y : EReal) = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) i := by
  have ht := lt16 t
  have hy0 : (y 0 : ℕ) < 8 := (y 0).isLt
  have hy1 : (y 1 : ℕ) < 2048 := (y 1).isLt
  rw [stored_mix]
  by_cases hc : (y 1 : ℕ) < 1024
  · refine (mix_gate _ _ _ _ _ _ _ _ _ y (y 0) (⟨(y 1 : ℕ) / 128, by omega⟩ : Fin 8) (⟨(y 1 : ℕ) % 128, by omega⟩ : Fin 128) rfl ?_).trans
      ((gate_eq m c t _ _ _ (⟨(t : ℕ) * 8 + (y 0 : ℕ), by omega⟩ : Fin 128) rfl).trans (Cert.SMixRefIdeal.Result.result_gate _ _ _ _ _ _ _ _ _ i _ _ _ h0 ?_).symm)
    · show (y 1 : ℕ) = (y 1 : ℕ) / 128 * 128 + (y 1 : ℕ) % 128
      omega
    · show (i 1 : ℕ) = (y 1 : ℕ) / 128 * 128 + (y 1 : ℕ) % 128
      omega
  · refine (mix_head _ _ _ _ _ _ _ _ _ y (y 0) (⟨((y 1 : ℕ) - 1024) / 256, by omega⟩ : Fin 4)
      (⟨((y 1 : ℕ) - 1024) % 256, by omega⟩ : Fin 256) rfl ?_).trans
      ((head_eq m c t _ _ _ (⟨(t : ℕ) * 8 + (y 0 : ℕ), by omega⟩ : Fin 128) rfl).trans (Cert.SMixRefIdeal.Result.result_head _ _ _ _ _ _ _ _ _ i _ _ _ h0 ?_).symm)
    · show (y 1 : ℕ) = 1024 + (((y 1 : ℕ) - 1024) / 256 * 256 + ((y 1 : ℕ) - 1024) % 256)
      omega
    · show (i 1 : ℕ) = 1024 + (((y 1 : ℕ) - 1024) / 256 * 256 + ((y 1 : ℕ) - 1024) % 256)
      omega

/-- What a point leaves in its block of the second result is the reference's result there. -/
theorem point_value (c : Dev nD) (t : Fin cfg0.N) (y : S8x1024.Idx) (i : S128x1024.Idx) (h0 : (i 0 : ℕ) = (t : ℕ) * 8 + (y 0 : ℕ))
    (h1 : (i 1 : ℕ) = (y 1 : ℕ)) : ((outsAt0 m c t).2.1 y : EReal) = val_main_v96 (F := Ideal) (m ((c : Thread nD τ).loc main_arg0)) (m ((c : Thread nD τ).loc main_arg7)) i := by
  have ht := lt16 t
  have hy0 : (y 0 : ℕ) < 8 := (y 0).isLt
  have hy1 : (y 1 : ℕ) < 1024 := (y 1).isLt
  rw [stored_value]
  refine (unit_eq m c t _ _ _ (⟨(t : ℕ) * 8 + (y 0 : ℕ), by omega⟩ : Fin 128) rfl).trans (Cert.SMixRefIdeal.Result.cache_at _ _ i _ _ _ h0 ?_).symm
  show (i 1 : ℕ) = (y 1 : ℕ) / 128 * 128 + (y 1 : ℕ) % 128
  omega

/-- What a point leaves in its block of the third result is the reference's result there. -/
theorem point_state (c : Dev nD) (t : Fin cfg0.N) (y : S8x4x128x256.Idx) (i : S128x4x128x256.Idx)
    (h0 : (i 0 : ℕ) = (t : ℕ) * 8 + (y 0 : ℕ)) (h1 : (i 1 : ℕ) = (y 1 : ℕ)) (h2 : (i 2 : ℕ) = (y 2 : ℕ)) (h3 : (i 3 : ℕ) = (y 3 : ℕ)) :
    ((outsAt0 m c t).2.2 y : EReal) = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i := by
  have ht := lt16 t
  have hy0 : (y 0 : ℕ) < 8 := (y 0).isLt
  have hi : i = ix4 (⟨(t : ℕ) * 8 + (y 0 : ℕ), by omega⟩ : Fin 128) (y 1) (y 2) (y 3) := by
    blk_ext [h0, h1, h2, h3]
  rw [stored_state, hi]
  exact (state_eq m c t _ _ _ _ _ rfl).trans (Cert.SMixRefIdeal.Result.state_at _ _ _ _ _ _ _ _ _).symm

/-- The first result's array: both mixers on the sample tokens' rows, zero elsewhere. -/
theorem final_mix (c : Dev nD) : (dats m 0 c).arrAt 9 (cfgs 0).N
    = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_coversWhere_of_agree 9 _ (fun β => 1024 ≤ β 0 ∧ β 0 < 1040 ∧ β 1 < 1) (by decide +kernel)
    (fun t hf y => ?_) (fun j hj => ?_)
  · blk_simp
    rw [after0_9]
    refine point_mix m c t _ _ ?_ ?_
    all_goals (blk_simp [idx t] <;> try omega)
  · blk_simp [Pipeline.Window.cell_apply] at hj
    have hj1 : (j 1 : ℕ) < 2048 := (j 1).isLt
    refine Eq.trans ?_ (Cert.SMixRefIdeal.Result.result_out _ _ _ _ _ _ _ _ _ j (by omega)).symm
    rw [A_eq]
    show V m c main_v21_0 _ = (0 : EReal)
    simp only [V, hostOps0, hostOps0_1, hostOps0_2, List.flatten_cons, List.flatten_nil, List.append_nil, List.cons_append,
      List.nil_append]
    entry_read
    pointwise

/-- The second result's array: the sample tokens' normalised values. -/
theorem final_value (c : Dev nD) : (dats m 0 c).arrAt 10 (cfgs 0).N = val_main_v96 (F := Ideal) (m ((c : Thread nD τ).loc main_arg0)) (m ((c : Thread nD τ).loc main_arg7)) := by
  refine (dats m 0 c).arrAt_eq_of_covers 10 _ (by decide +kernel) fun t ht y => ?_
  blk_simp
  rw [after0_10]
  refine point_value m c t _ _ ?_ ?_
  all_goals (blk_simp [idx t] <;> try omega)

/-- The third result's array: the sample tokens' new states. -/
theorem final_state (c : Dev nD) : (dats m 0 c).arrAt 11 (cfgs 0).N = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 11 _ (by decide +kernel) fun t ht y => ?_
  blk_simp
  rw [after0_11]
  refine point_state m c t _ _ ?_ ?_ ?_ ?_
  all_goals (blk_simp [idx t] <;> try omega)

end Cert.SMixIdeal.Result

end
-- ==== Proof.Prefix.lean ====
/- The running sum of 64 numbers, read off the two ways it is computed: the host's window sum, a window of 64 over the rows padded low by
   63, and the product with the triangle of ones, taken of a number and of what is left of it after itself has been taken away. -/
module

public import Idealize.ShloMosaic.Lib.Pointwise

@[expose] public section

noncomputable section

namespace Cert.Prefix

open Idealize.ShloMosaic

/-- The sum of the first `s + 1` of 64 numbers. -/
def upto (f : Fin 64 → EReal) (s : Fin 64) : EReal := ∑ r : Fin 64, if (r : ℕ) ≤ s then f r else 0

/-- The shape of the chunk's rows: prompt, head, token, key. -/
abbrev Rows : Shape := ⟨4, ![4, 4, 64, 128]⟩

/-- The window's shape. -/
abbrev Win : Shape := ⟨4, ![1, 1, 64, 1]⟩

/-- Position `n` of the window is `n` tokens on. -/
theorem win_at (n : Fin 64) : ∀ a, ((Win.rowMajor.symm (n.cast (by decide)) a : Fin _) : ℕ) = (![0, 0, (n : ℕ), 0] : Fin 4 → ℕ) a := by
  revert n
  decide +kernel

/-- A fold that adds is the start plus the sum. -/
theorem fold_add {n : ℕ} (g : Fin n → EReal) (v : EReal) : (List.finRange n).foldl (fun r k => r + g k) v = v + ∑ k, g k := by
  have h : ∀ (l : List (Fin n)) (v : EReal), l.foldl (fun r k => r + g k) v = v + (l.map g).sum := by
    intro l
    induction l with
    | nil => intro v; simp
    | cons a l ih => intro v; rw [List.foldl_cons, ih, List.map_cons, List.sum_cons, add_assoc]
  rw [h]
  exact congrArg (v + ·) (List.sum_ofFn (f := g) ▸ by rw [List.ofFn_eq_map])

/-- The window's positions that lie on a token, counted from the first token. -/
theorem slide (f : Fin 64 → EReal) (s : Fin 64) :
    (∑ n : Fin 64, if h : 63 ≤ (s : ℕ) + n then f (⟨(s : ℕ) + n - 63, by omega⟩ : Fin 64) else 0) = upto f s := by
  unfold upto
  rw [← Finset.sum_filter, Finset.sum_dite, Finset.sum_const_zero, add_zero]
  refine Finset.sum_bij (fun n _ => (⟨(s : ℕ) + (n : Fin 64) - 63, by omega⟩ : Fin 64)) ?_ ?_ ?_ ?_
  · intro n _
    simp only [Finset.mem_filter, Finset.mem_univ, true_and]
    omega
  · intro n _ n' _ he
    have hn := (Finset.mem_filter.mp n.2).2
    have hn' := (Finset.mem_filter.mp n'.2).2
    have hv : (s : ℕ) + (n : Fin 64) - 63 = (s : ℕ) + (n' : Fin 64) - 63 := congrArg Fin.val he
    exact Subtype.ext (Fin.ext (by omega))
  · intro r hr
    have hle := (Finset.mem_filter.mp hr).2
    refine ⟨⟨(⟨(r : ℕ) + 63 - s, by omega⟩ : Fin 64), by simp only [Finset.mem_filter, Finset.mem_univ, true_and]; omega⟩, Finset.mem_attach _ _, ?_⟩
    exact Fin.ext (show (s : ℕ) + ((r : ℕ) + 63 - s) - 63 = r by omega)
  · intro n _
    rfl

/-- The host's window sum of a chunk's rows is the running sum over the tokens. -/
theorem window_sum (x : Rows.Idx → EReal) (init : (⟨0, ![]⟩ : Shape).Idx → EReal) (hi : ∀ i, init i = 0)
    (h : Rows.ReduceWindows ![1, 1, 64, 1] ![1, 1, 1, 1] ![0, 0, 63, 0] ![0, 0, 0, 0] Rows)
    (hu : 0 < (⟨0, ![]⟩ : Shape).numel) (j : Rows.Idx) (f : Fin 64 → EReal)
    (hx : ∀ (i : Rows.Idx) (r : Fin 64), (i 0 : ℕ) = j 0 → (i 1 : ℕ) = j 1 → (i 2 : ℕ) = r → (i 3 : ℕ) = j 3 → x i = f r) :
    Host.reduceWindow (· + ·) ![1, 1, 64, 1] ![1, 1, 1, 1] ![0, 0, 63, 0] ![0, 0, 0, 0] x init h hu j = upto f (j 2) := by
  unfold Host.reduceWindow
  refine (fold_add _ _).trans ?_
  rw [hi, zero_add]
  refine Eq.trans ?_ (slide _ _)
  refine Fintype.sum_equiv (finCongr (by decide)) _ _ fun n => ?_
  have hw := win_at (n.cast (by decide))
  have hw' : ∀ a, ((Win.rowMajor.symm n a : Fin _) : ℕ) = (![0, 0, (n : ℕ), 0] : Fin 4 → ℕ) a := hw
  have hj2 : (j 2 : ℕ) < 64 := (j 2).isLt
  have hn : (n : ℕ) < 64 := n.isLt
  dsimp only
  split
  · next hin =>
    have h2 := (hin 2).1
    change 63 ≤ (j 2 : ℕ) * 1 + (Win.rowMajor.symm n 2 : ℕ) at h2
    rw [hw' 2] at h2
    change 63 ≤ (j 2 : ℕ) * 1 + (n : ℕ) at h2
    rw [dif_pos (show 63 ≤ (j 2 : ℕ) + ((finCongr (by decide) n : Fin 64) : ℕ) by show 63 ≤ (j 2 : ℕ) + n; omega)]
    refine hx _ _ ?_ ?_ ?_ ?_
    · show (j 0 : ℕ) * 1 + (Win.rowMajor.symm n 0 : ℕ) - 0 = j 0
      rw [hw' 0]
      show (j 0 : ℕ) * 1 + 0 - 0 = j 0
      omega
    · show (j 1 : ℕ) * 1 + (Win.rowMajor.symm n 1 : ℕ) - 0 = j 1
      rw [hw' 1]
      show (j 1 : ℕ) * 1 + 0 - 0 = j 1
      omega
    · show (j 2 : ℕ) * 1 + (Win.rowMajor.symm n 2 : ℕ) - 63 = (j 2 : ℕ) + n - 63
      rw [hw' 2]
      show (j 2 : ℕ) * 1 + (n : ℕ) - 63 = (j 2 : ℕ) + n - 63
      omega
    · show (j 3 : ℕ) * 1 + (Win.rowMajor.symm n 3 : ℕ) - 0 = j 3
      rw [hw' 3]
      show (j 3 : ℕ) * 1 + 0 - 0 = j 3
      omega
  · next hin =>
    rw [dif_neg]
    intro hle
    change 63 ≤ (j 2 : ℕ) + n at hle
    refine hin fun a => ?_
    match a with
    | ⟨0, _⟩ =>
      have h0 : (j 0 : ℕ) < 4 := (j 0).isLt
      show 0 ≤ (j 0 : ℕ) * 1 + (Win.rowMajor.symm n 0 : ℕ) ∧ (j 0 : ℕ) * 1 + (Win.rowMajor.symm n 0 : ℕ) - 0 < 4
      rw [hw' 0]
      show 0 ≤ (j 0 : ℕ) * 1 + 0 ∧ (j 0 : ℕ) * 1 + 0 - 0 < 4
      omega
    | ⟨1, _⟩ =>
      have h0 : (j 1 : ℕ) < 4 := (j 1).isLt
      show 0 ≤ (j 1 : ℕ) * 1 + (Win.rowMajor.symm n 1 : ℕ) ∧ (j 1 : ℕ) * 1 + (Win.rowMajor.symm n 1 : ℕ) - 0 < 4
      rw [hw' 1]
      show 0 ≤ (j 1 : ℕ) * 1 + 0 ∧ (j 1 : ℕ) * 1 + 0 - 0 < 4
      omega
    | ⟨2, _⟩ =>
      show 63 ≤ (j 2 : ℕ) * 1 + (Win.rowMajor.symm n 2 : ℕ) ∧ (j 2 : ℕ) * 1 + (Win.rowMajor.symm n 2 : ℕ) - 63 < 64
      rw [hw' 2]
      show 63 ≤ (j 2 : ℕ) * 1 + (n : ℕ) ∧ (j 2 : ℕ) * 1 + (n : ℕ) - 63 < 64
      omega
    | ⟨3, _⟩ =>
      have h0 : (j 3 : ℕ) < 128 := (j 3).isLt
      show 0 ≤ (j 3 : ℕ) * 1 + (Win.rowMajor.symm n 3 : ℕ) ∧ (j 3 : ℕ) * 1 + (Win.rowMajor.symm n 3 : ℕ) - 0 < 128
      rw [hw' 3]
      show 0 ≤ (j 3 : ℕ) * 1 + 0 ∧ (j 3 : ℕ) * 1 + 0 - 0 < 128
      omega

/-- A sum that is the bottom element at one of its terms. -/
theorem upto_bot (f : Fin 64 → EReal) (s r : Fin 64) (hr : (r : ℕ) ≤ s) (hf : f r = ⊥) : upto f s = ⊥ := by
  unfold upto
  rw [← Finset.add_sum_erase Finset.univ _ (Finset.mem_univ r), if_pos hr, hf, EReal.bot_add]

/-- The triangle's product with numbers none of which is the top element, with what is left of each after itself, and with what is
    left of that: the running sum. -/
theorem triangle (f : Fin 64 → EReal) (hf : ∀ r, f r ≠ ⊤) (s : Fin 64) :
    upto f s + upto (fun r => f r - f r) s + upto (fun r => (f r - f r) - (f r - f r)) s = upto f s := by
  by_cases hb : ∃ r : Fin 64, (r : ℕ) ≤ s ∧ f r = ⊥
  · obtain ⟨r, hr, h⟩ := hb
    rw [upto_bot f s r hr h, EReal.bot_add, EReal.bot_add]
  · have hz : ∀ r : Fin 64, (r : ℕ) ≤ s → f r - f r = 0 := fun r hr =>
      EReal.sub_self (hf r) fun h => hb ⟨r, hr, h⟩
    have h1 : upto (fun r => f r - f r) s = 0 := Finset.sum_eq_zero fun r _ => by
      by_cases hr : (r : ℕ) ≤ s
      · rw [if_pos hr]
        exact hz r hr
      · rw [if_neg hr]
    have h2 : upto (fun r => (f r - f r) - (f r - f r)) s = 0 := Finset.sum_eq_zero fun r _ => by
      by_cases hr : (r : ℕ) ≤ s
      · rw [if_pos hr]
        show (f r - f r) - (f r - f r) = 0
        rw [hz r hr, sub_zero]
      · rw [if_neg hr]
    rw [h1, h2, add_zero, add_zero]

end Cert.Prefix

end
-- ==== Proof.Chunk.lean ====
/- The gated linear attention's state, chunk by chunk: one chunk of 64 tokens decays the state by the exponential of the chunk's whole
   log-decay and adds each token's key times its value, decayed from the token to the chunk's end. The log-decay is the sixteenth part of
   a log-sigmoid. -/
module

public import proofs.«01_k».proof.Proof.Decay
public import proofs.«01_k».proof.Proof.Prefix

@[expose] public section

noncomputable section

namespace Cert.Chunk

open Idealize.ShloMosaic Cert.Decay Cert.Prefix

/-- The log-decay as the reference computes it. -/
def lgate (x : EReal) : EReal :=
  Ideal.div (-(max (-x) 0 + Ideal.log1p (Ideal.exp (-size (-x))))) (Ideal.ofBits FTy.f32 0x41800000#32)

/-- The log-decay as the kernel computes it. -/
def klgate (x : EReal) : EReal :=
  (min x 0 - Ideal.log1p (Ideal.exp (0 - size x))) * Ideal.ofBits FTy.f32 0x3D800000#32

/-- The two log-decays agree. -/
theorem klgate_eq : klgate = lgate := by
  funext x
  unfold klgate lgate
  rw [log_sigmoid_eq, word_sixteen, word_sixteenth, Ideal.div_coe (by norm_num)]

/-- The logarithm of one more than an exponential is not the bottom element. -/
theorem log1p_exp (y : EReal) : Ideal.log1p (Ideal.exp y) ≠ ⊥ := by
  induction y using EReal.rec with
  | bot =>
    rw [Ideal.exp_bot, Ideal.log1p, add_zero]
    show (if (1 : ℝ) ≤ 0 then (⊥ : EReal) else ((Real.log 1 : ℝ) : EReal)) ≠ ⊥
    rw [if_neg (by norm_num)]
    exact EReal.coe_ne_bot _
  | top =>
    show Ideal.log (1 + ⊤) ≠ ⊥
    rw [show (1 : EReal) + ⊤ = ⊤ from EReal.coe_add_top 1]
    exact top_ne_bot
  | coe r =>
    show Ideal.log (((1 : ℝ) : EReal) + ((Real.exp r : ℝ) : EReal)) ≠ ⊥
    rw [← EReal.coe_add]
    show (if 1 + Real.exp r ≤ 0 then (⊥ : EReal) else ((Real.log (1 + Real.exp r) : ℝ) : EReal)) ≠ ⊥
    rw [if_neg (by have := Real.exp_pos r; linarith)]
    exact EReal.coe_ne_bot _

/-- A log-decay is not the top element. -/
theorem klgate_ne_top (x : EReal) : klgate x ≠ ⊤ := by
  unfold klgate
  have hd : min x 0 - Ideal.log1p (Ideal.exp (0 - size x)) ≠ ⊤ := by
    rw [sub_eq_add_neg]
    refine EReal.add_ne_top (ne_of_lt (lt_of_le_of_lt (min_le_right _ _) EReal.zero_lt_top)) fun h => log1p_exp (0 - size x) ?_
    rw [← neg_neg (Ideal.log1p _), h, EReal.neg_top]
  rw [word_sixteenth]
  generalize min x 0 - Ideal.log1p (Ideal.exp (0 - size x)) = y at hd
  induction y using EReal.rec with
  | bot => rw [EReal.bot_mul_coe_of_pos (by norm_num)]; exact bot_ne_top
  | top => exact absurd rfl hd
  | coe r => rw [← EReal.coe_mul]; exact EReal.coe_ne_top _

/-- The state an entry has after one more chunk. -/
def step (k v lg : Fin 64 → EReal) (s : EReal) : EReal :=
  Ideal.exp (upto lg 63) * s + ∑ r, k r * Ideal.exp (upto lg 63 - upto lg r) * v r

/-- The row of token `r` of chunk `n` of prompt `b`. -/
def row (b : Fin 4) (n : ℕ) (r : Fin 64) : Fin 8448 := ⟨2048 * (b : ℕ) + 64 * (n % 32) + (r : ℕ), by omega⟩

/-- A token's log-decay on a key. -/
def gate (zg : (⟨2, ![8448, 128]⟩ : Shape).Idx → EReal) (wa : (⟨3, ![1, 16, 512]⟩ : Shape).Idx → EReal)
    (ba : (⟨2, ![1, 512]⟩ : Shape).Idx → EReal) (q : Fin 8448) (j : Fin 512) : EReal :=
  lgate ((∑ k : Fin 16, zg (ix2 q (⟨(k : ℕ), by omega⟩ : Fin 128)) * wa (ix3 0 k j)) + ba (ix2 0 j))

/-- A head's key column. -/
def keyCol (h : Fin 4) (d : Fin 128) : Fin 5120 := ⟨2560 + 128 * (h : ℕ) + (d : ℕ), by omega⟩

/-- A head's value column. -/
def valCol (h : Fin 4) (e : Fin 256) : Fin 5120 := ⟨3072 + 256 * (h : ℕ) + (e : ℕ), by omega⟩

/-- A head's log-decay column. -/
def gateCol (h : Fin 4) (d : Fin 128) : Fin 512 := ⟨128 * (h : ℕ) + (d : ℕ), by omega⟩

/-- An entry of a prompt's state after `n` chunks. -/
def state (z : (⟨2, ![8448, 5120]⟩ : Shape).Idx → EReal) (zg : (⟨2, ![8448, 128]⟩ : Shape).Idx → EReal)
    (wa : (⟨3, ![1, 16, 512]⟩ : Shape).Idx → EReal) (ba : (⟨2, ![1, 512]⟩ : Shape).Idx → EReal) (b h : Fin 4) (d : Fin 128) (e : Fin 256) :
    ℕ → EReal
  | 0 => 0
  | n + 1 => step (fun r => z (ix2 (row b n r) (keyCol h d))) (fun r => z (ix2 (row b n r) (valCol h e)))
      (fun r => gate zg wa ba (row b n r) (gateCol h d)) (state z zg wa ba b h d e n)

end Cert.Chunk

end
-- ==== Proof.GlaRef.lean ====
/- The reference of the gated linear attention's state: its loop over the chunks, read. The carried keys, values and log-decays are the
   arguments' rows in chunks; the carried state after `n` trips is the state after `n` chunks. -/
module

public import Idealize.ShloMosaic.Lib.Pointwise
public import Idealize.ShloMosaic.Lib.LayoutAt
public import Idealize.ShloMosaic.Lib.DynamicIndex
public import Idealize.ShloMosaic.Lib.Pipeline.ValueKit
public import proofs.«01_k».proof.Proof.Gen.GlaRefIdeal.Run
public import proofs.«01_k».proof.Proof.Chunk

@[expose] public section

noncomputable section

namespace Cert.GlaRefIdeal.Result

open Idealize.ShloMosaic Idealize.ShloMosaic.TcCoe Idealize.ShloMosaic.StableHlo
open Cert.GlaRefIdeal Cert.GlaRefIdeal.Gen Cert.GlaRefIdeal.Value
open Cert.Chunk Cert.Prefix Cert.Decay

variable (m : (ℓ : Loc nD τ sig) → Buf (Elt Ideal) ℓ)

/-- A chunk of 128 columns cut out of all of them. -/
theorem narrow (n : ℕ) (hn : n < 32) (x : S32x4x4x64x128.Idx → EReal) (start : Fin 5 → ℤ) (hs : ∀ a, start a = ((![n, 0, 0, 0, 0] : Fin 5 → ℕ) a : ℤ))
    (i : S4x4x64x128.Idx) : shapeCast S4x4x64x128 (Host.dynamicSlice S1x4x4x64x128 x start sliceFits_S32x4x4x64x128_S1x4x4x64x128) shapeCasts_S1x4x4x64x128_S4x4x64x128 i
      = x (ix5 (⟨n, hn⟩ : Fin 32) (i 0) (i 1) (i 2) (i 3)) := by
  have hoff : S32x4x4x64x128.Slices ![n, 0, 0, 0, 0] S1x4x4x64x128 := ⟨rfl, fun a => by
    fin_cases a
    · show n + 1 ≤ 32
      omega
    all_goals exact le_refl _⟩
  rw [Host.dynamicSlice_eq_extractStridedSlice _ _ _ ![n, 0, 0, 0, 0] _ hoff hs]
  pointwise

/-- A chunk of 256 columns cut out of all of them. -/
theorem broad (n : ℕ) (hn : n < 32) (x : S32x4x4x64x256.Idx → EReal) (start : Fin 5 → ℤ) (hs : ∀ a, start a = ((![n, 0, 0, 0, 0] : Fin 5 → ℕ) a : ℤ))
    (i : S4x4x64x256.Idx) : shapeCast S4x4x64x256 (Host.dynamicSlice S1x4x4x64x256 x start sliceFits_S32x4x4x64x256_S1x4x4x64x256) shapeCasts_S1x4x4x64x256_S4x4x64x256 i
      = x (ix5 (⟨n, hn⟩ : Fin 32) (i 0) (i 1) (i 2) (i 3)) := by
  have hoff : S32x4x4x64x256.Slices ![n, 0, 0, 0, 0] S1x4x4x64x256 := ⟨rfl, fun a => by
    fin_cases a
    · show n + 1 ≤ 32
      omega
    all_goals exact le_refl _⟩
  rw [Host.dynamicSlice_eq_extractStridedSlice _ _ _ ![n, 0, 0, 0, 0] _ hoff hs]
  pointwise

/-- Where a trip's chunk starts. -/
theorem start_at (V0 : Valuation τ sig (Elt Ideal)) (n : ℕ) (hn : n < 32) (hc : V0 (Proc.devRef .tc main_v22_3) = fun _ => BitVec.ofNat 32 n)
    (a : Fin 5) : (((![V0 (Proc.devRef .tc main_v22_3), constantI S_ 32 0#32, constantI S_ 32 0#32, constantI S_ 32 0#32, constantI S_ 32 0#32] :
      Fin 5 → (⟨S_, .i32⟩ : BufTy).Contents (Elt Ideal))) a (Shape.Idx.first h_S_)).toInt = ((![n, 0, 0, 0, 0] : Fin 5 → ℕ) a : ℤ) := by
  fin_cases a
  · show (V0 (Proc.devRef .tc main_v22_3) (Shape.Idx.first h_S_)).toInt = (n : ℤ)
    rw [hc]
    exact toInt_ofNat_of_lt (by omega)
  all_goals rfl

/-- The log-decays summed up to a token of a chunk. -/
theorem prefix_at (V0 : Valuation τ sig (Elt Ideal)) (n : ℕ) (hn : n < 32) (hc : V0 (Proc.devRef .tc main_v22_3) = fun _ => BitVec.ofNat 32 n)
    (j : S4x4x64x128.Idx) : res_main_while0b_v26 V0 j
      = upto (fun r => (V0 (Proc.devRef .tc main_v22_2) : S32x4x4x64x128.Idx → EReal) (ix5 (⟨n, hn⟩ : Fin 32) (j 0) (j 1) r (j 3))) (j 2) := by
  unfold res_main_while0b_v26
  refine window_sum _ (fun _ => Ideal.ofBits FTy.f32 0x00000000#32) (fun _ => Ideal.ofBits_zero_f32)
    reduceWindows_S4x4x64x128_S4x4x64x128_w1s1p0_0_w1s1p0_0_w64s1p63_0_w1s1p0_0 (by decide) j _ fun i r h0 h1 h2 h3 => ?_
  refine (narrow n hn _ _ (start_at V0 n hn hc) i).trans ?_
  rw [show i 0 = j 0 from Fin.ext h0, show i 1 = j 1 from Fin.ext h1, show i 2 = r from Fin.ext h2, show i 3 = j 3 from Fin.ext h3]

set_option maxHeartbeats 2000000 in
/-- One trip's state. -/
theorem trip_at (V0 : Valuation τ sig (Elt Ideal)) (n : ℕ) (hn : n < 32) (hc : V0 (Proc.devRef .tc main_v22_3) = fun _ => BitVec.ofNat 32 n)
    (b h : Fin 4) (d : Fin 128) (e : Fin 256) : step_main_v22_4 V0 (ix4 b h d e)
      = step (fun r => (V0 (Proc.devRef .tc main_v22_0) : S32x4x4x64x128.Idx → EReal) (ix5 (⟨n, hn⟩ : Fin 32) b h r d))
          (fun r => (V0 (Proc.devRef .tc main_v22_1) : S32x4x4x64x256.Idx → EReal) (ix5 (⟨n, hn⟩ : Fin 32) b h r e))
          (fun r => (V0 (Proc.devRef .tc main_v22_2) : S32x4x4x64x128.Idx → EReal) (ix5 (⟨n, hn⟩ : Fin 32) b h r d))
          ((V0 (Proc.devRef .tc main_v22_4) : S4x4x128x256.Idx → EReal) (ix4 b h d e)) := by
  have hp := prefix_at V0 n hn hc
  have hk := narrow n hn (V0 (Proc.devRef .tc main_v22_0)) _ (start_at V0 n hn hc)
  have hv := broad n hn (V0 (Proc.devRef .tc main_v22_1)) _ (start_at V0 n hn hc)
  unfold step_main_v22_4 step res_main_while0b_v27
  generalize res_main_while0b_v26 V0 = P at hp ⊢
  generalize shapeCast S4x4x64x128 (Host.dynamicSlice S1x4x4x64x128 (V0 (Proc.devRef .tc main_v22_0)) _ _) _ = K at hk ⊢
  generalize shapeCast S4x4x64x256 (Host.dynamicSlice S1x4x4x64x256 (V0 (Proc.devRef .tc main_v22_1)) _ _) _ = W at hv ⊢
  show _ + _ = _
  pointwise
  simp only [hp, hk, hv]
  rfl

/-- Where a chunk's key comes from. -/
theorem narrow_src (n : Fin 32) (b h : Fin 4) (r : Fin 64) (d : Fin 128) :
    transposes_S4x32x64x4x128_S32x4x4x64x128_1_0_3_2_4.src (ix5 n b h r d) = ix5 b n r h d := by
  funext a
  fin_cases a <;> rfl

/-- Where a chunk's value comes from. -/
theorem broad_src (n : Fin 32) (b h : Fin 4) (r : Fin 64) (e : Fin 256) :
    transposes_S4x32x64x4x256_S32x4x4x64x256_1_0_3_2_4.src (ix5 n b h r e) = ix5 b n r h e := by
  funext a
  fin_cases a <;> rfl

/-- Rows of 512 columns in chunks. -/
theorem chunked (x : S8192x512.Idx → EReal) (n : Fin 32) (b h : Fin 4) (r : Fin 64) (d : Fin 128) :
    transpose S32x4x4x64x128 [1, 0, 3, 2, 4] (shapeCast S4x32x64x4x128 (shapeCast S4x2048x4x128 x shapeCasts_S8192x512_S4x2048x4x128)
      shapeCasts_S4x2048x4x128_S4x32x64x4x128) transposes_S4x32x64x4x128_S32x4x4x64x128_1_0_3_2_4 (ix5 n b h r d)
      = x (ix2 (⟨2048 * (b : ℕ) + 64 * (n % 32) + (r : ℕ), by omega⟩ : Fin 8192) (gateCol h d)) := by
  pointwise [gateCol, narrow_src]
  refine congrArg x ?_
  idx_bounds
  blk_ext

/-- Rows of 1024 columns in chunks. -/
theorem chunked_wide (x : S8192x1024.Idx → EReal) (n : Fin 32) (b h : Fin 4) (r : Fin 64) (e : Fin 256) :
    transpose S32x4x4x64x256 [1, 0, 3, 2, 4] (shapeCast S4x32x64x4x256 (shapeCast S4x2048x4x256 x shapeCasts_S8192x1024_S4x2048x4x256)
      shapeCasts_S4x2048x4x256_S4x32x64x4x256) transposes_S4x32x64x4x256_S32x4x4x64x256_1_0_3_2_4 (ix5 n b h r e)
      = x (ix2 (⟨2048 * (b : ℕ) + 64 * (n % 32) + (r : ℕ), by omega⟩ : Fin 8192) (⟨256 * (h : ℕ) + (e : ℕ), by omega⟩ : Fin 1024)) := by
  pointwise [broad_src]
  refine congrArg x ?_
  idx_bounds
  blk_ext

/-- A carried key before the first trip. -/
theorem key_entry (c : Dev nD) (n : Fin 32) (b h : Fin 4) (r : Fin 64) (d : Fin 128) :
    (entryContents preI m c (Proc.devRef .tc main_v22_0) : S32x4x4x64x128.Idx → EReal) (ix5 n b h r d)
      = (m ((c.tc : Thread nD τ).loc main_arg0) : S8448x5120.Idx → EReal) (ix2 (row b n r) (keyCol h d)) := by
  simp only [entryContents, afterL_cons, afterL_nil]
  after_reads_simp
  refine (chunked _ n b h r d).trans ?_
  pointwise [row, keyCol, gateCol]
  refine congrArg (m ((c.tc : Thread nD τ).loc main_arg0)) ?_
  idx_bounds
  blk_ext

/-- A carried value before the first trip. -/
theorem value_entry (c : Dev nD) (n : Fin 32) (b h : Fin 4) (r : Fin 64) (e : Fin 256) :
    (entryContents preI m c (Proc.devRef .tc main_v22_1) : S32x4x4x64x256.Idx → EReal) (ix5 n b h r e)
      = (m ((c.tc : Thread nD τ).loc main_arg0) : S8448x5120.Idx → EReal) (ix2 (row b n r) (valCol h e)) := by
  simp only [entryContents, afterL_cons, afterL_nil]
  after_reads_simp
  refine (chunked_wide _ n b h r e).trans ?_
  pointwise [row, valCol, gateCol]
  refine congrArg (m ((c.tc : Thread nD τ).loc main_arg0)) ?_
  idx_bounds
  blk_ext

set_option maxHeartbeats 2000000 in
/-- A carried log-decay before the first trip. -/
theorem gate_entry (c : Dev nD) (n : Fin 32) (b h : Fin 4) (r : Fin 64) (d : Fin 128) :
    (entryContents preI m c (Proc.devRef .tc main_v22_2) : S32x4x4x64x128.Idx → EReal) (ix5 n b h r d)
      = gate (m ((c.tc : Thread nD τ).loc main_arg1)) (m ((c.tc : Thread nD τ).loc main_arg2)) (m ((c.tc : Thread nD τ).loc main_arg3))
          (row b n r) (gateCol h d) := by
  simp only [entryContents, afterL_cons, afterL_nil]
  after_reads_simp
  simp -implicitDefEqProofs only [StableHlo.TRef.toBuf, StableHlo.TRef.ofBuf, cast_cast, cast_eq]
  refine (chunked _ n b h r d).trans ?_
  pointwise [row, gateCol, gate, lgate, size]
  simp only [ne_eq, not_true_eq_false, if_false]

/-- The carried state before the first trip. -/
theorem state_entry (c : Dev nD) (i : S4x4x128x256.Idx) :
    (entryContents preI m c (Proc.devRef .tc main_v22_4) : S4x4x128x256.Idx → EReal) i = (0 : EReal) := by
  simp only [entryContents, afterL_cons, afterL_nil]
  after_reads_simp
  exact Ideal.ofBits_zero_f32

/-- What the loop carries after `n` trips. -/
theorem after_trips (c : Dev nD) (n : ℕ) (hn : n ≤ 32) :
    (STEP^[n] (entryContents preI m c)) (Proc.devRef .tc main_v22_0) = entryContents preI m c (Proc.devRef .tc main_v22_0)
    ∧ (STEP^[n] (entryContents preI m c)) (Proc.devRef .tc main_v22_1) = entryContents preI m c (Proc.devRef .tc main_v22_1)
    ∧ (STEP^[n] (entryContents preI m c)) (Proc.devRef .tc main_v22_2) = entryContents preI m c (Proc.devRef .tc main_v22_2)
    ∧ (STEP^[n] (entryContents preI m c)) (Proc.devRef .tc main_v22_3) = (fun _ => BitVec.ofNat 32 n)
    ∧ ∀ (b h : Fin 4) (d : Fin 128) (e : Fin 256),
      ((STEP^[n] (entryContents preI m c)) (Proc.devRef .tc main_v22_4) : S4x4x128x256.Idx → EReal) (ix4 b h d e)
        = state (m ((c.tc : Thread nD τ).loc main_arg0)) (m ((c.tc : Thread nD τ).loc main_arg1)) (m ((c.tc : Thread nD τ).loc main_arg2))
            (m ((c.tc : Thread nD τ).loc main_arg3)) b h d e n := by
  induction n with
  | zero => exact ⟨rfl, rfl, rfl, ctr_entry m c, fun b h d e => state_entry m c _⟩
  | succ n ih =>
    obtain ⟨h0, h1, h2, h3, h4⟩ := ih (by omega)
    rw [Function.iterate_succ_apply']
    refine ⟨(STEP_main_v22_0 _).trans h0, (STEP_main_v22_1 _).trans h1, (STEP_main_v22_2 _).trans h2, (STEP_main_v22_3 _).trans ?_, fun b h d e => ?_⟩
    · unfold step_main_v22_3
      rw [h3]
      funext _
      exact (BitVec.ofNat_add n 1).symm
    · rw [STEP_main_v22_4, trip_at _ n (by omega) h3, h0, h1, h2, h4]
      exact congrFun (congr (congr (congrArg step (funext fun r => key_entry m c ⟨n, by omega⟩ b h r d)) (funext fun r => value_entry m c ⟨n, by omega⟩ b h r e))
        (funext fun r => gate_entry m c ⟨n, by omega⟩ b h r d)) _

/-- The reference's result. -/
theorem result_at (c : Dev nD) (b h : Fin 4) (d : Fin 128) (e : Fin 256) :
    ((STEP^[32] (entryContents preI m c)) (Proc.devRef .tc main_v22_4) : S4x4x128x256.Idx → EReal) (ix4 b h d e)
      = state (m ((c.tc : Thread nD τ).loc main_arg0)) (m ((c.tc : Thread nD τ).loc main_arg1)) (m ((c.tc : Thread nD τ).loc main_arg2))
          (m ((c.tc : Thread nD τ).loc main_arg3)) b h d e 32 :=
  (after_trips m c 32 (le_refl _)).2.2.2.2 b h d e

/-- The reference's result, whole. -/
theorem result_eq (c : Dev nD) : (STEP^[32] (entryContents preI m c)) (Proc.devRef .tc main_v22_4)
    = (fun i => state (m ((c.tc : Thread nD τ).loc main_arg0)) (m ((c.tc : Thread nD τ).loc main_arg1)) (m ((c.tc : Thread nD τ).loc main_arg2))
        (m ((c.tc : Thread nD τ).loc main_arg3)) (i 0) (i 1) (i 2) (i 3) 32 : S4x4x128x256.Idx → EReal) := by
  funext i
  have hi : (i : S4x4x128x256.Idx) = ix4 (i 0) (i 1) (i 2) (i 3) := by
    funext a
    fin_cases a <;> rfl
  exact (congrArg ((STEP^[32] (entryContents preI m c)) (Proc.devRef .tc main_v22_4)) hi).trans (result_at m c _ _ _ _)

end Cert.GlaRefIdeal.Result

end
-- ==== Proof.GlaTile.lean ====
/- What a grid point of the prompts' gated linear attention leaves in the state it carries: two chunks of 64 tokens, four heads. -/
module

public import proofs.«01_k».proof.Proof.Gen.GlaIdeal.Value
public import Idealize.ShloMosaic.Lib.Pipeline.ValueKit
public import Idealize.ShloMosaic.Lib.Pointwise
public import Idealize.ShloMosaic.Lib.Pipeline.ReadBack
public import proofs.«01_k».proof.Proof.Chunk

@[expose] public section

set_option maxRecDepth 100000

noncomputable section

namespace Cert.GlaIdeal.Result

open Cert.GlaIdeal Cert.GlaIdeal.Gen Idealize.ShloMosaic Idealize.ShloMosaic.TcCoe Idealize.SL.Sem
open Idealize.ShloMosaic.Pipeline (Dat)
open Cert.Chunk Cert.Prefix Cert.Decay

/-- One chunk's update of an entry of the state, from the running sums `g` of the log-decays: the decay is read off a diagonal. -/
def updAt (k : FVec Ideal S128x512 .f32) (v : FVec Ideal S128x1024 .f32) (g : FVec Ideal S1x64x512 .f32) (o : ℕ) (ho : o ≤ 64) (h : Fin 4)
    (d : Fin 128) (e : Fin 256) (s : EReal) : EReal :=
  column (fun j : Fin 128 => Ideal.exp (g (ix3 0 63 (⟨(h : ℕ) * 128 + (j : ℕ), by omega⟩ : Fin 512)))) d * s
    + ∑ r : Fin 64, k (ix2 (⟨o + (r : ℕ), by omega⟩ : Fin 128) (⟨(h : ℕ) * 128 + (d : ℕ), by omega⟩ : Fin 512))
      * Ideal.exp (g (ix3 0 63 (⟨(h : ℕ) * 128 + (d : ℕ), by omega⟩ : Fin 512)) - g (ix3 0 r (⟨(h : ℕ) * 128 + (d : ℕ), by omega⟩ : Fin 512)))
      * v (ix2 (⟨o + (r : ℕ), by omega⟩ : Fin 128) (⟨(h : ℕ) * 256 + (e : ℕ), by omega⟩ : Fin 1024))

variable (m : (ℓ : Loc nD τ sig) → Buf (Elt Ideal) ℓ)

/-- A load of part of the last store's rectangle reads that store's payload there. -/
theorem inner {sig : RefSig} {κ : Kind} {sp : Space} (v : View sig κ sp S2x64x512 .f32) (o i j a b : ℕ)
    (inb : ∀ x, (![o, 0, 0] : Fin 3 → ℕ) x + (![1, 64, 512] : Fin 3 → ℕ) x ≤ S2x64x512.size x)
    (inb' : ∀ x, (![o, i, j] : Fin 3 → ℕ) x + (![1, a, b] : Fin 3 → ℕ) x ≤ S2x64x512.size x)
    (h : ∀ x, (![0, i, j] : Fin 3 → ℕ) x + (![1, a, b] : Fin 3 → ℕ) x ≤ S1x64x512.size x)
    (w : FVec Ideal S1x64x512 .f32) (L : List (View.Piece (Elt Ideal) S2x64x512 .f32)) :
    v.readCov (⟨Rect.unit ![o, 0, 0] ![1, 64, 512] inb, w⟩ :: L) (Rect.unit ![o, i, j] ![1, a, b] inb').toLoadRect
      = View.ld w (Rect.unit (s := S1x64x512) ![0, i, j] ![1, a, b] h) := by
  rw [View.readCov_eq_canon']
  funext x
  have e := View.canon_cons_emb (Rect.unit (s := S2x64x512) ![o, 0, 0] ![1, 64, 512] inb) w L
  refine Eq.trans ?_ (e ((Rect.unit (s := S1x64x512) ![0, i, j] ![1, a, b] h).idx x))
  refine congrArg (View.canon _) ?_
  funext y
  apply Fin.ext
  fin_cases y
  · show o + 1 * (x 0 : ℕ) = o + 1 * (0 + 1 * (x 0 : ℕ))
    omega
  · show i + 1 * (x 1 : ℕ) = 0 + 1 * (i + 1 * (x 1 : ℕ))
    omega
  · show j + 1 * (x 2 : ℕ) = 0 + 1 * (j + 1 * (x 2 : ℕ))
    omega

set_option maxHeartbeats 4000000 in
/-- A load of a head's block after a fill of the whole reads the fill. -/
theorem fill {sig : RefSig} {κ : Kind} {sp : Space} (v : View sig κ sp S4x128x256 .f32) (o : ℕ)
    (inb : ∀ x, (![0, 0, 0] : Fin 3 → ℕ) x + (![4, 128, 256] : Fin 3 → ℕ) x ≤ S4x128x256.size x)
    (inb' : ∀ x, (![o, 0, 0] : Fin 3 → ℕ) x + (![1, 128, 256] : Fin 3 → ℕ) x ≤ S4x128x256.size x)
    (w : FVec Ideal S4x128x256 .f32) (L : List (View.Piece (Elt Ideal) S4x128x256 .f32)) :
    v.readCov (⟨Rect.unit ![0, 0, 0] ![4, 128, 256] inb, w⟩ :: L) (Rect.unit ![o, 0, 0] ![1, 128, 256] inb').toLoadRect
      = View.ld (Val := Elt Ideal) (e' := .f32) w (Rect.unit (s := S4x128x256) ![o, 0, 0] ![1, 128, 256] inb') := by
  rw [View.readCov_eq_canon']
  funext x
  have e := View.canon_cons_emb (Rect.unit (s := S4x128x256) ![0, 0, 0] ![4, 128, 256] inb) w L
  refine Eq.trans ?_ (e ((Rect.unit (s := S4x128x256) ![o, 0, 0] ![1, 128, 256] inb').idx x))
  refine congrArg (View.canon _) ?_
  funext y
  apply Fin.ext
  fin_cases y
  · show o + 1 * (x 0 : ℕ) = 0 + 1 * (o + 1 * (x 0 : ℕ))
    omega
  · show 0 + 1 * (x 1 : ℕ) = 0 + 1 * (0 + 1 * (x 1 : ℕ))
    omega
  · show 0 + 1 * (x 2 : ℕ) = 0 + 1 * (0 + 1 * (x 2 : ℕ))
    omega

set_option maxHeartbeats 4000000 in
/-- A load of one head's block passes over a store of another's. -/
theorem skip {sig : RefSig} {κ : Kind} {sp : Space} (v : View sig κ sp S4x128x256 .f32) (o o' : ℕ)
    (inb : ∀ x, (![o, 0, 0] : Fin 3 → ℕ) x + (![1, 128, 256] : Fin 3 → ℕ) x ≤ S4x128x256.size x)
    (inb' : ∀ x, (![o', 0, 0] : Fin 3 → ℕ) x + (![1, 128, 256] : Fin 3 → ℕ) x ≤ S4x128x256.size x)
    (w : FVec Ideal S1x128x256 .f32) (L : List (View.Piece (Elt Ideal) S4x128x256 .f32)) (h : o ≠ o') :
    v.readCov (⟨Rect.unit ![o, 0, 0] ![1, 128, 256] inb, w⟩ :: L) (Rect.unit ![o', 0, 0] ![1, 128, 256] inb').toLoadRect
      = v.readCov L (Rect.unit ![o', 0, 0] ![1, 128, 256] inb').toLoadRect := by
  rw [View.readCov_eq_canon', View.readCov_eq_canon']
  funext x
  refine View.canon_cons_of_not_mem ⟨Rect.unit (s := S4x128x256) ![o, 0, 0] ![1, 128, 256] inb, w⟩ L fun hm => h ?_
  obtain ⟨i, hi, he⟩ := (Rect.unit (s := S4x128x256) ![o, 0, 0] ![1, 128, 256] inb).mem_set.mp hm 0
  have hi' : i < 1 := hi
  have hx : (x 0 : ℕ) < 1 := (x 0).isLt
  have he' : o' + 1 * (x 0 : ℕ) = o + 1 * i := he
  omega

/-- What the stores leave at an index of a head's block is what a load of the block reads there. -/
theorem at_head (o : ℕ) (inb : ∀ x, (![o, 0, 0] : Fin 3 → ℕ) x + (![1, 128, 256] : Fin 3 → ℕ) x ≤ S4x128x256.size x)
    (L : List (View.Piece (Elt Ideal) S4x128x256 .f32)) (y : S4x128x256.Idx) (h0 : (y 0 : ℕ) = o) :
    View.canon L y
      = ((View.whole cc0_scratch0).readCov L (Rect.unit (s := S4x128x256) ![o, 0, 0] ![1, 128, 256] inb).toLoadRect : S1x128x256.Idx → EReal)
        (ix3 0 (y 1) (y 2)) := by
  rw [View.readCov_eq_canon']
  refine congrArg (View.canon L) ?_
  funext a
  apply Fin.ext
  fin_cases a
  · show (y 0 : ℕ) = o + 1 * 0
    omega
  · show (y 1 : ℕ) = 0 + 1 * (y 1 : ℕ)
    omega
  · show (y 2 : ℕ) = 0 + 1 * (y 2 : ℕ)
    omega

/-- The triangle's entries multiply as a choice. -/
theorem tri_mul (r s : Fin 64) (x : EReal) :
    FloatOps.sitofp (F := Ideal) FTy.f32 (BitVec.setWidth 32 (IntOp.cmpi CmpIPredicate.sle (BitVec.ofNat 32 (r : ℕ)) (BitVec.ofNat 32 (s : ℕ)))) * x
      = if (r : ℕ) ≤ (s : ℕ) then x else 0 := by
  have hb : ∀ r s : Fin 64, BitVec.setWidth 32 (IntOp.cmpi CmpIPredicate.sle (BitVec.ofNat 32 (r : ℕ)) (BitVec.ofNat 32 (s : ℕ)))
      = if (r : ℕ) ≤ (s : ℕ) then 1#32 else 0#32 := by decide +kernel
  rw [hb r s]
  split
  · refine Eq.trans (congrArg (· * x) ?_) (one_mul (M := EReal) x)
    show (((1#32 : BitVec 32).toInt : ℝ) : EReal) = 1
    norm_num
  · refine Eq.trans (congrArg (· * x) ?_) (zero_mul (M₀ := EReal) x)
    show (((0#32 : BitVec 32).toInt : ℝ) : EReal) = 0
    norm_num

variable (zg : FVec Ideal S128x128 .f32) (wa : FVec Ideal S128x512 .bf16) (ba : FVec Ideal S1x512 .f32)

/-- A row's log-decay, in the block. -/
def gateAt (r : Fin 128) (j : Fin 512) : EReal := klgate ((∑ k : Fin 128, zg (ix2 r k) * wa (ix2 k j)) + ba (ix2 0 j))

/-- The block's first 64 rows, and the others. -/
def rowsFirst : FVec Ideal S64x128 .f32 := View.ld (Val := Elt Ideal) (e' := .f32) zg (Rect.unit (s := S128x128) ![0, 0] ![64, 128] inb_S128x128_S64x128_0_0)
def rowsSecond : FVec Ideal S64x128 .f32 := View.ld (Val := Elt Ideal) (e' := .f32) zg (Rect.unit (s := S128x128) ![64, 0] ![64, 128] inb_S128x128_S64x128_64_0)

/-- The running sums of the log-decays over the first chunk. -/
def sumsFirst : FVec Ideal S1x64x512 .f32 := k0_pay6 (F := Ideal) (k0_pay5 (rowsFirst zg) wa ba)

/-- The running sums of the log-decays over the second chunk. -/
def sumsSecond : FVec Ideal S1x64x512 .f32 := k0_pay660 (F := Ideal) (k0_pay658 (rowsSecond zg) wa ba) k0_pay659

/-- They are running sums. -/
theorem sums_first (s : Fin 64) (j : Fin 512) :
    (sumsFirst zg wa ba (ix3 0 s j) : EReal) = upto (fun r => gateAt zg wa ba (⟨0 + (r : ℕ), by omega⟩ : Fin 128) j) s := by
  refine Eq.trans ?_ (triangle (fun r => gateAt zg wa ba (⟨0 + (r : ℕ), by omega⟩ : Fin 128) j) (fun r => klgate_ne_top _) s)
  unfold sumsFirst rowsFirst
  open_payloads; unfold upto gateAt klgate size; pointwise
  simp only [tri_mul]

theorem sums_second (s : Fin 64) (j : Fin 512) :
    (sumsSecond zg wa ba (ix3 0 s j) : EReal) = upto (fun r => gateAt zg wa ba (⟨64 + (r : ℕ), by omega⟩ : Fin 128) j) s := by
  refine Eq.trans ?_ (triangle (fun r => gateAt zg wa ba (⟨64 + (r : ℕ), by omega⟩ : Fin 128) j) (fun r => klgate_ne_top _) s)
  unfold sumsSecond rowsSecond
  open_payloads; unfold upto gateAt klgate size; pointwise
  simp only [tri_mul]

variable (k : FVec Ideal S128x512 .f32) (v : FVec Ideal S128x1024 .f32)

/-- The two updates of a point. -/
def twice (h : Fin 4) (d : Fin 128) (e : Fin 256) (s : EReal) : EReal :=
  updAt k v (sumsSecond zg wa ba) 64 (by omega) h d e (updAt k v (sumsFirst zg wa ba) 0 (by omega) h d e s)

set_option maxHeartbeats 8000000 in
/-- What a middle point leaves: its two updates of what it was given. -/
theorem left_b (c : Dev nD) (t : Fin cfg0.N) (h0 : ¬t.val % 16 = 0) (h1 : ¬t.val % 16 = 15) (s0 : FVec Ideal S4x128x256 .f32) (h : Fin 4) (d : Fin 128) (e : Fin 256) :
    (sout0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      (ms0_8 t) (hs0_8 t) (ms0_9 t) (hs0_9 t) scM0_0 (Memref.isWhole_whole _) scM0_1 (Memref.isWhole_whole _) (fun h => h0 ((hcond0_0 t).mp h)) (fun h => h1 ((hcond0_1 t).mp h))
      (iblk m c 0 t) (iblk m c 1 t) (iblk m c 2 t) (iblk m c 3 t) (iblk m c 4 t) (iblk m c 5 t) (iblk m c 6 t) (iblk m c 7 t) s0 (ix3 h d e) : EReal)
      = twice (iblk m c 4 t) (iblk m c 5 t) (iblk m c 6 t) (iblk m c 1 t) (iblk m c 2 t) h d e (s0 (ix3 h d e)) := by
  unfold sout0_B_0 twice sumsFirst sumsSecond rowsFirst rowsSecond
  generalize iblk m c 0 t = q
  generalize iblk m c 1 t = k
  generalize iblk m c 2 t = v
  generalize iblk m c 3 t = r
  generalize iblk m c 4 t = zg
  generalize iblk m c 5 t = wa
  generalize iblk m c 6 t = ba
  generalize iblk m c 7 t = gg
  frame_out
  generalize k0_pay6 (k0_pay5 _ wa ba) = g0
  generalize k0_pay660 (k0_pay658 _ wa ba) k0_pay659 = g1
  fin_cases h
  on_goal 1 => refine (at_head 0 inb_S4x128x256_S1x128x256_0_0_0 _ _ rfl).trans ?_
  on_goal 2 => refine (at_head 1 inb_S4x128x256_S1x128x256_1_0_0 _ _ rfl).trans ?_
  on_goal 3 => refine (at_head 2 inb_S4x128x256_S1x128x256_2_0_0 _ _ rfl).trans ?_
  on_goal 4 => refine (at_head 3 inb_S4x128x256_S1x128x256_3_0_0 _ _ rfl).trans ?_
  all_goals
    simp (disch := decide) only [↓skip, View.readCov_cons_toLoadRect, inner, read_unread_whole]
    unfold updAt column; open_payloads; pointwise <;> simp only [← Nat.add_assoc, Nat.reduceAdd]

set_option maxHeartbeats 8000000 in
/-- The last point of a prompt leaves the same. -/
theorem left_c (c : Dev nD) (t : Fin cfg0.N) (h0 : ¬t.val % 16 = 0) (h1 : t.val % 16 = 15) (s0 : FVec Ideal S4x128x256 .f32) (h : Fin 4) (d : Fin 128) (e : Fin 256) :
    (sout0_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      (ms0_8 t) (hs0_8 t) (ms0_9 t) (hs0_9 t) scM0_0 (Memref.isWhole_whole _) scM0_1 (Memref.isWhole_whole _) (fun h => h0 ((hcond0_0 t).mp h)) ((hcond0_1 t).mpr h1)
      (iblk m c 0 t) (iblk m c 1 t) (iblk m c 2 t) (iblk m c 3 t) (iblk m c 4 t) (iblk m c 5 t) (iblk m c 6 t) (iblk m c 7 t) s0 (ix3 h d e) : EReal)
      = twice (iblk m c 4 t) (iblk m c 5 t) (iblk m c 6 t) (iblk m c 1 t) (iblk m c 2 t) h d e (s0 (ix3 h d e)) := by
  unfold sout0_C_0 twice sumsFirst sumsSecond rowsFirst rowsSecond
  generalize iblk m c 0 t = q
  generalize iblk m c 1 t = k
  generalize iblk m c 2 t = v
  generalize iblk m c 3 t = r
  generalize iblk m c 4 t = zg
  generalize iblk m c 5 t = wa
  generalize iblk m c 6 t = ba
  generalize iblk m c 7 t = gg
  frame_out
  generalize k0_pay6 (k0_pay5 _ wa ba) = g0
  generalize k0_pay660 (k0_pay658 _ wa ba) k0_pay659 = g1
  fin_cases h
  on_goal 1 => refine (at_head 0 inb_S4x128x256_S1x128x256_0_0_0 _ _ rfl).trans ?_
  on_goal 2 => refine (at_head 1 inb_S4x128x256_S1x128x256_1_0_0 _ _ rfl).trans ?_
  on_goal 3 => refine (at_head 2 inb_S4x128x256_S1x128x256_2_0_0 _ _ rfl).trans ?_
  on_goal 4 => refine (at_head 3 inb_S4x128x256_S1x128x256_3_0_0 _ _ rfl).trans ?_
  all_goals
    simp (disch := decide) only [↓skip, View.readCov_cons_toLoadRect, inner, read_unread_whole]
    unfold updAt column; open_payloads; pointwise <;> simp only [← Nat.add_assoc, Nat.reduceAdd]

set_option maxHeartbeats 8000000 in
/-- The first point of a prompt starts from nothing. -/
theorem left_a (c : Dev nD) (t : Fin cfg0.N) (h0 : t.val % 16 = 0) (h1 : ¬t.val % 16 = 15) (h : Fin 4) (d : Fin 128) (e : Fin 256) :
    (sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      (ms0_8 t) (hs0_8 t) (ms0_9 t) (hs0_9 t) scM0_0 (Memref.isWhole_whole _) scM0_1 (Memref.isWhole_whole _) ((hcond0_0 t).mpr h0) (fun h => h1 ((hcond0_1 t).mp h))
      (iblk m c 0 t) (iblk m c 1 t) (iblk m c 2 t) (iblk m c 3 t) (iblk m c 4 t) (iblk m c 5 t) (iblk m c 6 t) (iblk m c 7 t) (ix3 h d e) : EReal)
      = twice (iblk m c 4 t) (iblk m c 5 t) (iblk m c 6 t) (iblk m c 1 t) (iblk m c 2 t) h d e (k0_pay4 (F := Ideal) (ix3 h d e)) := by
  unfold sout0_A_0 twice sumsFirst sumsSecond rowsFirst rowsSecond
  generalize iblk m c 0 t = q
  generalize iblk m c 1 t = k
  generalize iblk m c 2 t = v
  generalize iblk m c 3 t = r
  generalize iblk m c 4 t = zg
  generalize iblk m c 5 t = wa
  generalize iblk m c 6 t = ba
  generalize iblk m c 7 t = gg
  frame_out
  generalize k0_pay6 (k0_pay5 _ wa ba) = g0
  generalize k0_pay660 (k0_pay658 _ wa ba) k0_pay659 = g1
  fin_cases h
  on_goal 1 => refine (at_head 0 inb_S4x128x256_S1x128x256_0_0_0 _ _ rfl).trans ?_
  on_goal 2 => refine (at_head 1 inb_S4x128x256_S1x128x256_1_0_0 _ _ rfl).trans ?_
  on_goal 3 => refine (at_head 2 inb_S4x128x256_S1x128x256_2_0_0 _ _ rfl).trans ?_
  on_goal 4 => refine (at_head 3 inb_S4x128x256_S1x128x256_3_0_0 _ _ rfl).trans ?_
  all_goals
    simp (disch := decide) only [↓skip, View.readCov_cons_toLoadRect, inner, fill]
    unfold updAt column; open_payloads; pointwise <;> simp only [← Nat.add_assoc, Nat.reduceAdd]

end Cert.GlaIdeal.Result

end
-- ==== Proof.GlaValue.lean ====
/- The states the prompts' gated linear attention ends with: a grid point takes two chunks of one prompt, and the last point of a prompt
   writes the state it carries. -/
module

public import proofs.«01_k».proof.Proof.Gen.GlaIdeal.Value
public import Idealize.ShloMosaic.Lib.Pipeline.ValueKit
public import Idealize.ShloMosaic.Lib.Pointwise
public import proofs.«01_k».proof.Proof.GlaRef
public import proofs.«01_k».proof.Proof.GlaTile

@[expose] public section

set_option maxRecDepth 100000

noncomputable section

namespace Cert.GlaIdeal.Result

open Cert.GlaIdeal Cert.GlaIdeal.Gen Idealize.ShloMosaic Idealize.ShloMosaic.TcCoe Idealize.SL.Sem
open Idealize.ShloMosaic.Pipeline (Dat)
open Cert.Chunk Cert.Prefix Cert.Decay

variable (m : (ℓ : Loc nD τ sig) → Buf (Elt Ideal) ℓ)

/-- Which block each window of the state takes at a grid point. -/
theorem idx : ∀ t : Fin cfg0.N, win0_1.index t = ![t.val, 5] ∧ win0_2.index t = ![t.val, 3] ∧ win0_4.index t = ![t.val, 0]
    ∧ win0_5.index t = ![0, 0] ∧ win0_6.index t = ![0, 0] ∧ win0_9.index t = ![t.val / 16, 0, 0, 0] :=
  (by decide +kernel : ∀ t : Fin grid0.N, _)

/-- The state is written at a prompt's last point. -/
theorem last : ∀ t : Fin cfg0.N, (cfg0.win 9).flush t = true → t.val % 16 = 15 :=
  (by decide +kernel : ∀ t : Fin grid0.N, _)

/-- The grid has 64 points. -/
theorem lt64 (t : Fin cfg0.N) : (t : ℕ) < 64 := lt_of_lt_of_eq t.isLt (by decide +kernel)

/-- The prompt a point works on. -/
def prompt (t : Fin cfg0.N) : Fin 4 := ⟨(t : ℕ) / 16, by have := lt64 t; omega⟩

/-- A key the block holds. -/
theorem key_at (c : Dev nD) (t : Fin cfg0.N) (r : Fin 128) (j : Fin 512) : iblk m c 1 t (ix2 r j)
    = m ((c : Thread nD τ).loc main_arg0) (ix2 (⟨(t : ℕ) * 128 + (r : ℕ), by have := lt64 t; omega⟩ : Fin 8448) (⟨2560 + (j : ℕ), by omega⟩ : Fin 5120)) := by
  blk_point [iblk, V, idx t]

/-- A value the block holds. -/
theorem value_at (c : Dev nD) (t : Fin cfg0.N) (r : Fin 128) (j : Fin 1024) : iblk m c 2 t (ix2 r j)
    = m ((c : Thread nD τ).loc main_arg0) (ix2 (⟨(t : ℕ) * 128 + (r : ℕ), by have := lt64 t; omega⟩ : Fin 8448) (⟨3072 + (j : ℕ), by omega⟩ : Fin 5120)) := by
  blk_point [iblk, V, idx t]

/-- A gate's low-rank input the block holds. -/
theorem low_at (c : Dev nD) (t : Fin cfg0.N) (r : Fin 128) (k : Fin 128) : iblk m c 4 t (ix2 r k)
    = m ((c : Thread nD τ).loc main_arg1) (ix2 (⟨(t : ℕ) * 128 + (r : ℕ), by have := lt64 t; omega⟩ : Fin 8448) k) := by
  blk_point [iblk, V, idx t]

/-- A gate's weight at the region's start, in the first 16 rows. -/
theorem gate_entry (c : Dev nD) (i : S128x512.Idx) (hi : (i 0 : ℕ) < 16) :
    V m c main_v2 i = m ((c : Thread nD τ).loc main_arg2) (ix3 0 (⟨(i 0 : ℕ), hi⟩ : Fin 16) (i 1)) := by
  simp only [V, hostOps0, hostOps0_1, hostOps0_2, List.flatten_cons, List.flatten_nil, List.append_nil, List.cons_append,
    List.nil_append]
  entry_read
  simp -implicitDefEqProofs only [StableHlo.TRef.toBuf, StableHlo.TRef.ofBuf, cast_cast, cast_eq]
  pointwise
  rw [dif_pos (by omega)]

/-- The other rows are zero. -/
theorem gate_zero (c : Dev nD) (i : S128x512.Idx) (hi : 16 ≤ (i 0 : ℕ)) : V m c main_v2 i = (0 : EReal) := by
  simp only [V, hostOps0, hostOps0_1, hostOps0_2, List.flatten_cons, List.flatten_nil, List.append_nil, List.cons_append,
    List.nil_append]
  entry_read
  simp -implicitDefEqProofs only [StableHlo.TRef.toBuf, StableHlo.TRef.ofBuf, cast_cast, cast_eq]
  pointwise
  rw [dif_neg (by omega)]
  show (((0#32 : BitVec 32).toInt : ℝ) : EReal) = 0
  simp

/-- A gate's bias at the region's start. -/
theorem bias_entry (c : Dev nD) (i : S1x512.Idx) : V m c main_v4 i = m ((c : Thread nD τ).loc main_arg3) (ix2 0 (i 1)) := by
  simp only [V, hostOps0, hostOps0_1, hostOps0_2, List.flatten_cons, List.flatten_nil, List.append_nil, List.cons_append,
    List.nil_append]
  entry_read
  pointwise
  exact congrArg (m ((c : Thread nD τ).loc main_arg3)) (by idx_bounds; blk_ext)

/-- A weight the block holds, in the first 16 rows. -/
theorem gate_at (c : Dev nD) (t : Fin cfg0.N) (k : Fin 16) (j : Fin 512) : iblk m c 5 t (ix2 (⟨(k : ℕ), by omega⟩ : Fin 128) j)
    = m ((c : Thread nD τ).loc main_arg2) (ix3 0 k j) := by
  have e : (win0_5.blk t).view.emb (ix2 (⟨(k : ℕ), by omega⟩ : Fin 128) j) = ix2 (⟨(k : ℕ), by omega⟩ : Fin 128) j := by
    blk_ext [idx t]
  exact (congrArg (V m c main_v2) e).trans (gate_entry m c _ k.isLt)

/-- A weight the block holds, in the other rows. -/
theorem gate_zero_at (c : Dev nD) (t : Fin cfg0.N) (k : Fin 128) (j : Fin 512) (hk : 16 ≤ (k : ℕ)) : iblk m c 5 t (ix2 k j) = (0 : EReal) := by
  have e : (win0_5.blk t).view.emb (ix2 k j) = ix2 k j := by
    blk_ext [idx t]
  exact (congrArg (V m c main_v2) e).trans (gate_zero m c _ hk)

/-- A bias the block holds. -/
theorem bias_at (c : Dev nD) (t : Fin cfg0.N) (j : Fin 512) : iblk m c 6 t (ix2 0 j) = m ((c : Thread nD τ).loc main_arg3) (ix2 0 j) := by
  have e : (win0_6.blk t).view.emb (ix2 0 j) = ix2 0 j := by
    blk_ext [idx t]
  exact (bias_entry m c _).trans (by rw [e]; rfl)

/-- The block's log-decays are the tokens'. -/
theorem gate_eq (c : Dev nD) (t : Fin cfg0.N) (r : Fin 128) (j j' : Fin 512) (q : Fin 8448) (hq : (q : ℕ) = (t : ℕ) * 128 + (r : ℕ)) (hj : j = j') :
    gateAt (iblk m c 4 t) (iblk m c 5 t) (iblk m c 6 t) r j
      = gate (m ((c : Thread nD τ).loc main_arg1)) (m ((c : Thread nD τ).loc main_arg2)) (m ((c : Thread nD τ).loc main_arg3)) q j' := by
  subst hj
  unfold gateAt gate
  rw [klgate_eq]
  refine congrArg lgate (congr (congrArg HAdd.hAdd (padded_sum _ _ (fun k => ?_) fun k hk => ?_)) (bias_at m c t j))
  · refine congr (congrArg HMul.hMul ((low_at m c t r _).trans ?_)) (gate_at m c t k j)
    simp only [← hq]
  · exact mul_eq_zero_of_right (M₀ := EReal) _ (gate_zero_at m c t k j hk)

/-- One chunk's update in the block is the chunk's step. -/
theorem update_eq (c : Dev nD) (t : Fin cfg0.N) (g : FVec Ideal S1x64x512 .f32) (o : ℕ) (ho : o ≤ 64) (n : ℕ)
    (hn : o + 128 * ((t : ℕ) % 16) = 64 * (n % 32))
    (hg : ∀ (s : Fin 64) (j : Fin 512), (g (ix3 0 s j) : EReal)
      = upto (fun r => gateAt (iblk m c 4 t) (iblk m c 5 t) (iblk m c 6 t) (⟨o + (r : ℕ), by omega⟩ : Fin 128) j) s)
    (h : Fin 4) (d : Fin 128) (e : Fin 256) (s : EReal) :
    updAt (iblk m c 1 t) (iblk m c 2 t) g o ho h d e s
      = step (fun r => m ((c : Thread nD τ).loc main_arg0) (ix2 (row (prompt t) n r) (keyCol h d)))
        (fun r => m ((c : Thread nD τ).loc main_arg0) (ix2 (row (prompt t) n r) (valCol h e)))
        (fun r => gate (m ((c : Thread nD τ).loc main_arg1)) (m ((c : Thread nD τ).loc main_arg2)) (m ((c : Thread nD τ).loc main_arg3))
          (row (prompt t) n r) (gateCol h d)) s := by
  have hrow : ∀ r : Fin 64, ((row (prompt t) n r : Fin 8448) : ℕ) = (t : ℕ) * 128 + (o + (r : ℕ)) := fun r => by
    show 2048 * ((t : ℕ) / 16) + 64 * (n % 32) + (r : ℕ) = (t : ℕ) * 128 + (o + (r : ℕ))
    omega
  have hsum : ∀ s : Fin 64, (g (ix3 0 s (⟨(h : ℕ) * 128 + (d : ℕ), by omega⟩ : Fin 512)) : EReal)
      = upto (fun r => gate (m ((c : Thread nD τ).loc main_arg1)) (m ((c : Thread nD τ).loc main_arg2)) (m ((c : Thread nD τ).loc main_arg3))
          (row (prompt t) n r) (gateCol h d)) s := fun s =>
    (hg s _).trans (congrArg (fun f => upto f s) (funext fun r => gate_eq m c t _ _ _ _ (hrow r) (Fin.ext (by
      show (h : ℕ) * 128 + (d : ℕ) = 128 * (h : ℕ) + (d : ℕ)
      omega))))
  unfold updAt step
  rw [column_eq]
  refine congr (congrArg HAdd.hAdd (congrArg (fun x => Ideal.exp x * s) (hsum 63))) (Finset.sum_congr rfl fun r _ => ?_)
  refine congr (congrArg HMul.hMul (congr (congrArg HMul.hMul ?_) (congrArg Ideal.exp (congr (congrArg HSub.hSub (hsum 63)) (hsum r))))) ?_
  · refine (key_at m c t _ _).trans (congrArg (m ((c : Thread nD τ).loc main_arg0)) ?_)
    refine congr (congrArg ix2 (Fin.ext (hrow r).symm)) (Fin.ext ?_)
    show 2560 + ((h : ℕ) * 128 + (d : ℕ)) = 2560 + 128 * (h : ℕ) + (d : ℕ)
    omega
  · refine (value_at m c t _ _).trans (congrArg (m ((c : Thread nD τ).loc main_arg0)) ?_)
    refine congr (congrArg ix2 (Fin.ext (hrow r).symm)) (Fin.ext ?_)
    show 3072 + ((h : ℕ) * 256 + (e : ℕ)) = 3072 + 256 * (h : ℕ) + (e : ℕ)
    omega

/-- The prompt's state after a number of chunks, of the arguments. -/
def after (c : Dev nD) (b h : Fin 4) (d : Fin 128) (e : Fin 256) (n : ℕ) : EReal :=
  state (m ((c : Thread nD τ).loc main_arg0)) (m ((c : Thread nD τ).loc main_arg1)) (m ((c : Thread nD τ).loc main_arg2))
    (m ((c : Thread nD τ).loc main_arg3)) b h d e n

/-- A point's two updates are two chunks of its prompt. -/
theorem twice_eq (c : Dev nD) (t : Fin cfg0.N) (h : Fin 4) (d : Fin 128) (e : Fin 256) (s : EReal)
    (hs : s = after m c (prompt t) h d e (2 * ((t : ℕ) % 16))) :
    twice (iblk m c 4 t) (iblk m c 5 t) (iblk m c 6 t) (iblk m c 1 t) (iblk m c 2 t) h d e s
      = after m c (prompt t) h d e (2 * ((t : ℕ) % 16) + 2) := by
  unfold twice
  rw [update_eq m c t _ 0 _ (2 * ((t : ℕ) % 16)) (by omega) (sums_first _ _ _),
    update_eq m c t _ 64 _ (2 * ((t : ℕ) % 16) + 1) (by omega) (sums_second _ _ _), hs]
  rfl

/-- The scratch is filled with zeros at a prompt's start. -/
theorem start (i : S4x128x256.Idx) : (k0_pay4 (F := Ideal) i : EReal) = 0 := by
  unfold k0_pay4
  pointwise

set_option maxHeartbeats 2000000 in
/-- What a point leaves in the scratch, from what the point before left. -/
theorem carry (c : Dev nD) (t : Fin cfg0.N) (h : Fin 4) (d : Fin 128) (e : Fin 256)
    (ih : ¬t.val % 16 = 0 → ((outsAt0 m c (t.val - 1) (Nat.lt_of_le_of_lt (Nat.sub_le _ _) t.isLt)).2.2 (ix3 h d e) : EReal)
      = after m c (prompt t) h d e (2 * ((t : ℕ) % 16))) :
    ((outsAt0 m c t.val t.isLt).2.2 (ix3 h d e) : EReal) = after m c (prompt t) h d e (2 * ((t : ℕ) % 16) + 2) := by
  by_cases h0 : t.val % 16 = 0
  · have h1 : ¬t.val % 16 = 15 := by omega
    rw [outsAt0_A m c t h0 h1]
    dsimp only
    rw [left_a m c t h0 h1 h d e, start]
    refine twice_eq m c t h d e 0 ?_
    rw [h0]
    rfl
  · by_cases h1 : t.val % 16 = 15
    · rw [outsAt0_C m c t h0 h1]
      dsimp only
      rw [left_c m c t h0 h1 _ h d e]
      exact twice_eq m c t h d e _ (ih h0)
    · rw [outsAt0_B m c t h0 h1]
      dsimp only
      rw [left_b m c t h0 h1 _ h d e]
      exact twice_eq m c t h d e _ (ih h0)

/-- What the scratch holds after any point: the prompt's state after the point's chunks. -/
theorem carried (c : Dev nD) (h : Fin 4) (d : Fin 128) (e : Fin 256) : ∀ (n : ℕ) (hn : n < cfg0.N),
    ((outsAt0 m c n hn).2.2 (ix3 h d e) : EReal) = after m c (prompt ⟨n, hn⟩) h d e (2 * (n % 16) + 2) := by
  intro n
  induction n with
  | zero => exact fun hn => carry m c ⟨0, hn⟩ h d e fun h0 => absurd rfl h0
  | succ n ih =>
    intro hn
    refine carry m c ⟨n + 1, hn⟩ h d e fun h0 => (ih (by omega)).trans ?_
    have h0' : ¬(n + 1) % 16 = 0 := h0
    have hp : prompt ⟨n, by omega⟩ = prompt ⟨n + 1, hn⟩ := Fin.ext (show n / 16 = (n + 1) / 16 by omega)
    rw [hp]
    refine congrArg (after m c _ h d e) ?_
    show 2 * (n % 16) + 2 = 2 * ((n + 1) % 16)
    omega

/-- The block of the states is the scratch, read whole. -/
theorem whole_read {sig : RefSig} {κ : Kind} {sp : Space} (v : View sig κ sp S4x128x256 .f32)
    (inb : ∀ x, (![0, 0, 0] : Fin 3 → ℕ) x + (![4, 128, 256] : Fin 3 → ℕ) x ≤ S4x128x256.size x)
    (L : List (View.Piece (Elt Ideal) S4x128x256 .f32)) (h : Fin 4) (d : Fin 128) (e : Fin 256) :
    (k0_pay3 (F := Ideal) (v.readCov L (Rect.unit (s := S4x128x256) ![0, 0, 0] ![4, 128, 256] inb).toLoadRect) (ix4 0 h d e) : EReal)
      = View.canon L (ix3 h d e) := by
  rw [View.readCov_eq_canon']
  unfold k0_pay3
  pointwise

set_option maxHeartbeats 8000000 in
/-- The last point of a prompt writes the scratch it leaves. -/
theorem written (c : Dev nD) (t : Fin cfg0.N) (h0 : ¬t.val % 16 = 0) (h1 : t.val % 16 = 15) (h : Fin 4) (d : Fin 128) (e : Fin 256) :
    ((outsAt0 m c t.val t.isLt).2.1 (ix4 0 h d e) : EReal) = (outsAt0 m c t.val t.isLt).2.2 (ix3 h d e) := by
  rw [outsAt0_C m c t h0 h1]
  dsimp only
  unfold out0_C_9 sout0_C_0
  frame_out
  exact whole_read _ _ _ h d e

/-- What a prompt's last point leaves in its block of the states. -/
theorem point_state (c : Dev nD) (t : Fin cfg0.N) (y : S1x4x128x256.Idx) (i : S4x4x128x256.Idx) (ht : t.val % 16 = 15)
    (h0 : (i 0 : ℕ) = (t : ℕ) / 16) (h1 : (i 1 : ℕ) = (y 1 : ℕ)) (h2 : (i 2 : ℕ) = (y 2 : ℕ)) (h3 : (i 3 : ℕ) = (y 3 : ℕ)) :
    ((outsAt0 m c t.val t.isLt).2.1 y : EReal) = after m c (i 0) (i 1) (i 2) (i 3) 32 := by
  have hy : y = ix4 0 (y 1) (y 2) (y 3) := by
    have hy0 : (y 0 : ℕ) < 1 := (y 0).isLt
    blk_ext
  refine (congrArg (outsAt0 m c t.val t.isLt).2.1 hy).trans ((written m c t (by omega) ht (y 1) (y 2) (y 3)).trans
    ((carried m c (y 1) (y 2) (y 3) t.val t.isLt).trans ?_))
  have e0 : i 0 = prompt t := Fin.ext h0
  have e1 : i 1 = y 1 := Fin.ext h1
  have e2 : i 2 = y 2 := Fin.ext h2
  have e3 : i 3 = y 3 := Fin.ext h3
  rw [e0, e1, e2, e3, ht]

/-- The result's array: every prompt's state after its 32 chunks. -/
theorem final_state (c : Dev nD) : (dats m 0 c).arrAt 9 (cfgs 0).N
    = (fun i => after m c (i 0) (i 1) (i 2) (i 3) 32 : S4x4x128x256.Idx → EReal) := by
  refine (dats m 0 c).arrAt_eq_of_covers 9 _ (by decide +kernel) fun t ht y => ?_
  have hl := last t ht
  blk_simp
  rw [after0_9]
  refine point_state m c t _ _ hl ?_ ?_ ?_ ?_
  all_goals (blk_simp [idx t] <;> try omega)

end Cert.GlaIdeal.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.XOut
public import proofs.«01_k».proof.Proof.Gen.XOut.Skeleton
public import proofs.«01_k».proof.Proof.Gen.XOut.Launch
public import proofs.«01_k».proof.Proof.Gen.XOut.Points
public import proofs.«01_k».proof.Proof.Gen.XOut.Frame
public import proofs.«01_k».proof.Proof.Gen.XOutIdeal
public import proofs.«01_k».proof.Proof.Gen.XOutIdeal.Skeleton
public import proofs.«01_k».proof.Proof.Gen.XOutIdeal.Launch
public import proofs.«01_k».proof.Proof.Gen.XOutIdeal.Points
public import proofs.«01_k».proof.Proof.Gen.XOutIdeal.Frame
public import proofs.«01_k».proof.Proof.Gen.XOutRefIdeal
public import proofs.«01_k».proof.Proof.Gen.XQuery
public import proofs.«01_k».proof.Proof.Gen.XQuery.Skeleton
public import proofs.«01_k».proof.Proof.Gen.XQuery.Launch
public import proofs.«01_k».proof.Proof.Gen.XQuery.Points
public import proofs.«01_k».proof.Proof.Gen.XQuery.Frame
public import proofs.«01_k».proof.Proof.Gen.XQueryIdeal
public import proofs.«01_k».proof.Proof.Gen.XQueryIdeal.Skeleton
public import proofs.«01_k».proof.Proof.Gen.XQueryIdeal.Launch
public import proofs.«01_k».proof.Proof.Gen.XQueryIdeal.Points
public import proofs.«01_k».proof.Proof.Gen.XQueryIdeal.Frame
public import proofs.«01_k».proof.Proof.Gen.XQueryRefIdeal
public import proofs.«01_k».proof.Proof.Gen.PQuery
public import proofs.«01_k».proof.Proof.Gen.PQuery.Skeleton
public import proofs.«01_k».proof.Proof.Gen.PQuery.Launch
public import proofs.«01_k».proof.Proof.Gen.PQuery.Points
public import proofs.«01_k».proof.Proof.Gen.PQuery.Frame
public import proofs.«01_k».proof.Proof.Gen.PQueryIdeal
public import proofs.«01_k».proof.Proof.Gen.PQueryIdeal.Skeleton
public import proofs.«01_k».proof.Proof.Gen.PQueryIdeal.Launch
public import proofs.«01_k».proof.Proof.Gen.PQueryIdeal.Points
public import proofs.«01_k».proof.Proof.Gen.PQueryIdeal.Frame
public import proofs.«01_k».proof.Proof.Gen.PQueryRefIdeal
public import proofs.«01_k».proof.Proof.Gen.MemKV
public import proofs.«01_k».proof.Proof.Gen.MemKV.Skeleton
public import proofs.«01_k».proof.Proof.Gen.MemKV.Launch
public import proofs.«01_k».proof.Proof.Gen.MemKV.Points
public import proofs.«01_k».proof.Proof.Gen.MemKV.Frame
public import proofs.«01_k».proof.Proof.Gen.MemKVIdeal
public import proofs.«01_k».proof.Proof.Gen.MemKVIdeal.Skeleton
public import proofs.«01_k».proof.Proof.Gen.MemKVIdeal.Launch
public import proofs.«01_k».proof.Proof.Gen.MemKVIdeal.Points
public import proofs.«01_k».proof.Proof.Gen.MemKVIdeal.Frame
public import proofs.«01_k».proof.Proof.Gen.MemKVRefIdeal
public import proofs.«01_k».proof.Proof.Gen.AttnSample
public import proofs.«01_k».proof.Proof.Gen.AttnSample.Skeleton
public import proofs.«01_k».proof.Proof.Gen.AttnSample.Launch
public import proofs.«01_k».proof.Proof.Gen.AttnSample.Points
public import proofs.«01_k».proof.Proof.Gen.AttnSample.Frame
public import proofs.«01_k».proof.Proof.Gen.AttnSampleIdeal
public import proofs.«01_k».proof.Proof.Gen.AttnSampleIdeal.Skeleton
public import proofs.«01_k».proof.Proof.Gen.AttnSampleIdeal.Launch
public import proofs.«01_k».proof.Proof.Gen.AttnSampleIdeal.Points
public import proofs.«01_k».proof.Proof.Gen.AttnSampleIdeal.Frame
public import proofs.«01_k».proof.Proof.Gen.AttnSampleRefIdeal
public import proofs.«01_k».proof.Proof.Gen.FinalPrompt
public import proofs.«01_k».proof.Proof.Gen.FinalPrompt.Skeleton
public import proofs.«01_k».proof.Proof.Gen.FinalPrompt.Launch
public import proofs.«01_k».proof.Proof.Gen.FinalPrompt.Points
public import proofs.«01_k».proof.Proof.Gen.FinalPrompt.Frame
public import proofs.«01_k».proof.Proof.Gen.FinalPromptIdeal
public import proofs.«01_k».proof.Proof.Gen.FinalPromptIdeal.Skeleton
public import proofs.«01_k».proof.Proof.Gen.FinalPromptIdeal.Launch
public import proofs.«01_k».proof.Proof.Gen.FinalPromptIdeal.Points
public import proofs.«01_k».proof.Proof.Gen.FinalPromptIdeal.Frame
public import proofs.«01_k».proof.Proof.Gen.FinalPromptRefIdeal
public import proofs.«01_k».proof.Proof.Gen.FinalSample
public import proofs.«01_k».proof.Proof.Gen.FinalSample.Skeleton
public import proofs.«01_k».proof.Proof.Gen.FinalSample.Launch
public import proofs.«01_k».proof.Proof.Gen.FinalSample.Points
public import proofs.«01_k».proof.Proof.Gen.FinalSample.Frame
public import proofs.«01_k».proof.Proof.Gen.FinalSampleIdeal
public import proofs.«01_k».proof.Proof.Gen.FinalSampleIdeal.Skeleton
public import proofs.«01_k».proof.Proof.Gen.FinalSampleIdeal.Launch
public import proofs.«01_k».proof.Proof.Gen.FinalSampleIdeal.Points
public import proofs.«01_k».proof.Proof.Gen.FinalSampleIdeal.Frame
public import proofs.«01_k».proof.Proof.Gen.FinalSampleRefIdeal
public import proofs.«01_k».proof.Proof.Gen.Sgu
public import proofs.«01_k».proof.Proof.Gen.Sgu.Skeleton
public import proofs.«01_k».proof.Proof.Gen.Sgu.Launch
public import proofs.«01_k».proof.Proof.Gen.Sgu.Points
public import proofs.«01_k».proof.Proof.Gen.Sgu.Frame
public import proofs.«01_k».proof.Proof.Gen.SguIdeal
public import proofs.«01_k».proof.Proof.Gen.SguIdeal.Skeleton
public import proofs.«01_k».proof.Proof.Gen.SguIdeal.Launch
public import proofs.«01_k».proof.Proof.Gen.SguIdeal.Points
public import proofs.«01_k».proof.Proof.Gen.SguIdeal.Frame
public import proofs.«01_k».proof.Proof.Gen.SguRefIdeal
public import proofs.«01_k».proof.Proof.Gen.SMix
public import proofs.«01_k».proof.Proof.Gen.SMix.Skeleton
public import proofs.«01_k».proof.Proof.Gen.SMix.Launch
public import proofs.«01_k».proof.Proof.Gen.SMix.Points
public import proofs.«01_k».proof.Proof.Gen.SMix.Frame
public import proofs.«01_k».proof.Proof.Gen.SMixIdeal
public import proofs.«01_k».proof.Proof.Gen.SMixIdeal.Skeleton
public import proofs.«01_k».proof.Proof.Gen.SMixIdeal.Launch
public import proofs.«01_k».proof.Proof.Gen.SMixIdeal.Points
public import proofs.«01_k».proof.Proof.Gen.SMixIdeal.Frame
public import proofs.«01_k».proof.Proof.Gen.SMixRefIdeal
public import proofs.«01_k».proof.Proof.Gen.Gla
public import proofs.«01_k».proof.Proof.Gen.Gla.Skeleton
public import proofs.«01_k».proof.Proof.Gen.Gla.Launch
public import proofs.«01_k».proof.Proof.Gen.Gla.Points
public import proofs.«01_k».proof.Proof.Gen.Gla.Frame
public import proofs.«01_k».proof.Proof.Gen.GlaIdeal
public import proofs.«01_k».proof.Proof.Gen.GlaIdeal.Skeleton
public import proofs.«01_k».proof.Proof.Gen.GlaIdeal.Launch
public import proofs.«01_k».proof.Proof.Gen.GlaIdeal.Points
public import proofs.«01_k».proof.Proof.Gen.GlaIdeal.Frame
public import proofs.«01_k».proof.Proof.Gen.GlaRefIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.XOutIdeal.Value
public import proofs.«01_k».proof.Proof.Gen.XOutRefIdeal.Run
public import proofs.«01_k».proof.Proof.Gen.XOutRefIdeal.Read
public import proofs.«01_k».proof.Proof.Gen.XQueryIdeal.Value
public import proofs.«01_k».proof.Proof.Gen.XQueryRefIdeal.Run
public import proofs.«01_k».proof.Proof.Gen.XQueryRefIdeal.Read
public import proofs.«01_k».proof.Proof.Gen.PQueryIdeal.Value
public import proofs.«01_k».proof.Proof.Gen.PQueryRefIdeal.Run
public import proofs.«01_k».proof.Proof.Gen.PQueryRefIdeal.Read
public import proofs.«01_k».proof.Proof.Gen.MemKVIdeal.Value
public import proofs.«01_k».proof.Proof.Gen.MemKVRefIdeal.Run
public import proofs.«01_k».proof.Proof.Gen.MemKVRefIdeal.Read
public import proofs.«01_k».proof.Proof.Gen.AttnSampleIdeal.Value
public import proofs.«01_k».proof.Proof.Gen.AttnSampleRefIdeal.Run
public import proofs.«01_k».proof.Proof.Gen.AttnSampleRefIdeal.Read
public import proofs.«01_k».proof.Proof.Gen.FinalPromptIdeal.Value
public import proofs.«01_k».proof.Proof.Gen.FinalPromptRefIdeal.Run
public import proofs.«01_k».proof.Proof.Gen.FinalPromptRefIdeal.Read
public import proofs.«01_k».proof.Proof.Gen.FinalSampleIdeal.Value
public import proofs.«01_k».proof.Proof.Gen.FinalSampleRefIdeal.Run
public import proofs.«01_k».proof.Proof.Gen.FinalSampleRefIdeal.Read
public import proofs.«01_k».proof.Proof.Gen.SguIdeal.Value
public import proofs.«01_k».proof.Proof.Gen.SguRefIdeal.Run
public import proofs.«01_k».proof.Proof.Gen.SguRefIdeal.Read
public import proofs.«01_k».proof.Proof.Gen.SMixIdeal.Value
public import proofs.«01_k».proof.Proof.Gen.SMixRefIdeal.Run
public import proofs.«01_k».proof.Proof.Gen.SMixRefIdeal.Read
public import proofs.«01_k».proof.Proof.Gen.GlaIdeal.Value
public import proofs.«01_k».proof.Proof.Gen.GlaRefIdeal.Run
public import proofs.«01_k».proof.Proof.AttnValue
public import proofs.«01_k».proof.Proof.InProjValue
public import proofs.«01_k».proof.Proof.OutProjValue
public import proofs.«01_k».proof.Proof.XOutValue
public import proofs.«01_k».proof.Proof.XQueryValue
public import proofs.«01_k».proof.Proof.PQueryValue
public import proofs.«01_k».proof.Proof.MemKVValue
public import proofs.«01_k».proof.Proof.AttnSampleValue
public import proofs.«01_k».proof.Proof.FinalPromptValue
public import proofs.«01_k».proof.Proof.FinalSampleValue
public import proofs.«01_k».proof.Proof.SguValue
public import proofs.«01_k».proof.Proof.SMixValue
public import proofs.«01_k».proof.Proof.GlaValue
public import Idealize.ShloMosaic.Adequacy
public import Idealize.ShloMosaic.Init

@[expose] public section

noncomputable section

namespace Cert.Proof

open Idealize.ShloMosaic Idealize.SL.Sem Cert.Kernel

theorem frame_ReferenceIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

theorem frame_InProjRefIdeal : Cert.quiescent_InProjRefIdeal (hInProjRefIdeal := Cert.InProjRefIdeal.Gen.facts) := fun m g _ =>
  (θ_run Cert.InProjRefIdeal.defs _ _).mono (fun r h => ⟨fun c => (h c).2.2, sem_eq_zero_of_no_sems (by decide) r.2⟩)
    (Cert.InProjRefIdeal.Value.run (F := Ideal) m g)

theorem frame_OutProjRefIdeal : Cert.quiescent_OutProjRefIdeal (hOutProjRefIdeal := Cert.OutProjRefIdeal.Gen.facts) := fun m g _ =>
  (θ_run Cert.OutProjRefIdeal.defs _ _).mono (fun r h => ⟨fun c => (h c).2, sem_eq_zero_of_no_sems (by decide) r.2⟩)
    (Cert.OutProjRefIdeal.Value.run (F := Ideal) m g)

theorem frame_XOutRefIdeal : Cert.quiescent_XOutRefIdeal (hXOutRefIdeal := Cert.XOutRefIdeal.Gen.facts) := fun m g _ =>
  (θ_run Cert.XOutRefIdeal.defs _ _).mono (fun r h => ⟨fun c => (h c).2, sem_eq_zero_of_no_sems (by decide) r.2⟩)
    (Cert.XOutRefIdeal.Value.run (F := Ideal) m g)

theorem frame_XQueryRefIdeal : Cert.quiescent_XQueryRefIdeal (hXQueryRefIdeal := Cert.XQueryRefIdeal.Gen.facts) := fun m g _ =>
  (θ_run Cert.XQueryRefIdeal.defs _ _).mono (fun r h => ⟨fun c => (h c).2, sem_eq_zero_of_no_sems (by decide) r.2⟩)
    (Cert.XQueryRefIdeal.Value.run (F := Ideal) m g)

theorem frame_PQueryRefIdeal : Cert.quiescent_PQueryRefIdeal (hPQueryRefIdeal := Cert.PQueryRefIdeal.Gen.facts) := fun m g _ =>
  (θ_run Cert.PQueryRefIdeal.defs _ _).mono (fun r h => ⟨fun c => (h c).2.2, sem_eq_zero_of_no_sems (by decide) r.2⟩)
    (Cert.PQueryRefIdeal.Value.run (F := Ideal) m g)

theorem frame_MemKVRefIdeal : Cert.quiescent_MemKVRefIdeal (hMemKVRefIdeal := Cert.MemKVRefIdeal.Gen.facts) := fun m g _ =>
  (θ_run Cert.MemKVRefIdeal.defs _ _).mono (fun r h => ⟨fun c => (h c).2.2, sem_eq_zero_of_no_sems (by decide) r.2⟩)
    (Cert.MemKVRefIdeal.Value.run (F := Ideal) m g)

theorem frame_AttnSampleRefIdeal : Cert.quiescent_AttnSampleRefIdeal (hAttnSampleRefIdeal := Cert.AttnSampleRefIdeal.Gen.facts) := fun m g _ =>
  (θ_run Cert.AttnSampleRefIdeal.defs _ _).mono (fun r h => ⟨fun c => (h c).2, sem_eq_zero_of_no_sems (by decide) r.2⟩)
    (Cert.AttnSampleRefIdeal.Value.run (F := Ideal) m g)

theorem frame_FinalPromptRefIdeal : Cert.quiescent_FinalPromptRefIdeal (hFinalPromptRefIdeal := Cert.FinalPromptRefIdeal.Gen.facts) := fun m g _ =>
  (θ_run Cert.FinalPromptRefIdeal.defs _ _).mono (fun r h => ⟨fun c => (h c).2, sem_eq_zero_of_no_sems (by decide) r.2⟩)
    (Cert.FinalPromptRefIdeal.Value.run (F := Ideal) m g)

theorem frame_FinalSampleRefIdeal : Cert.quiescent_FinalSampleRefIdeal (hFinalSampleRefIdeal := Cert.FinalSampleRefIdeal.Gen.facts) := fun m g _ =>
  (θ_run Cert.FinalSampleRefIdeal.defs _ _).mono (fun r h => ⟨fun c => (h c).2, sem_eq_zero_of_no_sems (by decide) r.2⟩)
    (Cert.FinalSampleRefIdeal.Value.run (F := Ideal) m g)

theorem frame_SguRefIdeal : Cert.quiescent_SguRefIdeal (hSguRefIdeal := Cert.SguRefIdeal.Gen.facts) := fun m g _ =>
  (θ_run Cert.SguRefIdeal.defs _ _).mono (fun r h => ⟨fun c => (h c).2.2, sem_eq_zero_of_no_sems (by decide) r.2⟩)
    (Cert.SguRefIdeal.Value.run (F := Ideal) m g)

theorem frame_SMixRefIdeal : Cert.quiescent_SMixRefIdeal (hSMixRefIdeal := Cert.SMixRefIdeal.Gen.facts) := fun m g _ =>
  (θ_run Cert.SMixRefIdeal.defs _ _).mono (fun r h => ⟨fun c => (h c).2.2.2, sem_eq_zero_of_no_sems (by decide) r.2⟩)
    (Cert.SMixRefIdeal.Value.run (F := Ideal) m g)

theorem frame_GlaRefIdeal : Cert.quiescent_GlaRefIdeal (hGlaRefIdeal := Cert.GlaRefIdeal.Gen.facts) := fun m g _ =>
  (θ_run Cert.GlaRefIdeal.defs _ _).mono (fun r h => ⟨fun c => (h c).2, sem_eq_zero_of_no_sems (by decide) r.2⟩)
    (Cert.GlaRefIdeal.Value.run (F := Ideal) m g)

/-- The cross-attention of the prompt: kernel and reference end with equal results. -/
theorem values_Kernel : Cert.algebraic_KernelIdeal_ReferenceIdeal (hKernelIdeal := Cert.KernelIdeal.Gen.facts) (hReferenceIdeal := Cert.ReferenceIdeal.Gen.facts) := by
  intro m g m' g' _ hagree
  refine ⟨fun c => (Cert.KernelIdeal.Gen.dats m 0 c).arrAt 3 _, Cert.KernelIdeal.Value.run_blocks m g, ?_⟩
  refine (θ_run Cert.ReferenceIdeal.defs _ _).mono (fun r h c => ?_) (Cert.ReferenceIdeal.Value.run (F := Ideal) m' g')
  obtain ⟨hv0, h0, h1, h2⟩ := h c
  refine ⟨hv0.trans ((Cert.ReferenceIdeal.Read.val_main_v24_eq _ _ _ ).trans ?_), h0, h1, h2⟩
  · rw [(hagree c).1, (hagree c).2.1, (hagree c).2.2]
    exact (Cert.KernelIdeal.Result.final m c).symm

/-- The combined input projection: kernel and reference end with equal results. -/
theorem values_InProj : Cert.algebraic_InProjIdeal_InProjRefIdeal (hInProjIdeal := Cert.InProjIdeal.Gen.facts) (hInProjRefIdeal := Cert.InProjRefIdeal.Gen.facts) := by
  intro m g m' g' _ hagree
  refine ⟨fun c => (Cert.InProjIdeal.Gen.dats m 0 c).arrAt 4 _, fun c => (Cert.InProjIdeal.Gen.dats m 0 c).arrAt 5 _, Cert.InProjIdeal.Value.run_blocks m g, ?_⟩
  refine (θ_run Cert.InProjRefIdeal.defs _ _).mono (fun r h c => ?_) (Cert.InProjRefIdeal.Value.run (F := Ideal) m' g')
  obtain ⟨hv0, hv1, h0, h1, h2, h3⟩ := h c
  refine ⟨hv0.trans ((Cert.InProjRefIdeal.Read.val_main_v36_eq _ _ _ _ ).trans ?_), hv1.trans ((Cert.InProjRefIdeal.Read.val_main_v38_eq _ _ _ _ ).trans ?_), h0, h1, h2, h3⟩
  · rw [(hagree c).1, (hagree c).2.1, (hagree c).2.2.1, (hagree c).2.2.2]
    exact (Cert.InProjIdeal.Result.final_main m c).symm
  · rw [(hagree c).1, (hagree c).2.1, (hagree c).2.2.1, (hagree c).2.2.2]
    exact (Cert.InProjIdeal.Result.final_gate m c).symm

/-- The output projection of the mixers: kernel and reference end with equal results. -/
theorem values_OutProj : Cert.algebraic_OutProjIdeal_OutProjRefIdeal (hOutProjIdeal := Cert.OutProjIdeal.Gen.facts) (hOutProjRefIdeal := Cert.OutProjRefIdeal.Gen.facts) := by
  intro m g m' g' _ hagree
  refine ⟨fun c => (Cert.OutProjIdeal.Gen.dats m 0 c).arrAt 3 _, Cert.OutProjIdeal.Value.run_blocks m g, ?_⟩
  refine (θ_run Cert.OutProjRefIdeal.defs _ _).mono (fun r h c => ?_) (Cert.OutProjRefIdeal.Value.run (F := Ideal) m' g')
  obtain ⟨hv0, h0, h1, h2⟩ := h c
  refine ⟨hv0.trans ((show _ = Cert.OutProjIdeal.Result.REF _ _ _ from rfl).trans ?_), h0, h1, h2⟩
  · rw [(hagree c).1, (hagree c).2.1, (hagree c).2.2]
    exact (Cert.OutProjIdeal.Result.final m c).symm

/-- The output projection of the cross-attention: kernel and reference end with equal results. -/
theorem values_XOut : Cert.algebraic_XOutIdeal_XOutRefIdeal (hXOutIdeal := Cert.XOutIdeal.Gen.facts) (hXOutRefIdeal := Cert.XOutRefIdeal.Gen.facts) := by
  intro m g m' g' _ hagree
  refine ⟨fun c => (Cert.XOutIdeal.Gen.dats m 0 c).arrAt 3 _, Cert.XOutIdeal.Value.run_blocks m g, ?_⟩
  refine (θ_run Cert.XOutRefIdeal.defs _ _).mono (fun r h c => ?_) (Cert.XOutRefIdeal.Value.run (F := Ideal) m' g')
  obtain ⟨hv0, h0, h1, h2⟩ := h c
  refine ⟨hv0.trans ((show _ = Cert.XOutIdeal.Result.REF _ _ _ from rfl).trans ?_), h0, h1, h2⟩
  · rw [(hagree c).1, (hagree c).2.1, (hagree c).2.2]
    exact (Cert.XOutIdeal.Result.final m c).symm

/-- The query projection of the cross-attention: kernel and reference end with equal results. -/
theorem values_XQuery : Cert.algebraic_XQueryIdeal_XQueryRefIdeal (hXQueryIdeal := Cert.XQueryIdeal.Gen.facts) (hXQueryRefIdeal := Cert.XQueryRefIdeal.Gen.facts) := by
  intro m g m' g' _ hagree
  refine ⟨fun c => (Cert.XQueryIdeal.Gen.dats m 0 c).arrAt 3 _, Cert.XQueryIdeal.Value.run_blocks m g, ?_⟩
  refine (θ_run Cert.XQueryRefIdeal.defs _ _).mono (fun r h c => ?_) (Cert.XQueryRefIdeal.Value.run (F := Ideal) m' g')
  obtain ⟨hv0, h0, h1, h2⟩ := h c
  refine ⟨hv0.trans ((Cert.XQueryRefIdeal.Read.val_main_v16_eq _ _ _ ).trans ?_), h0, h1, h2⟩
  · rw [(hagree c).1, (hagree c).2.1, (hagree c).2.2]
    exact (Cert.XQueryIdeal.Result.final m c).symm

/-- The expert layer's normalised tokens and queries: kernel and reference end with equal results. -/
theorem values_PQuery : Cert.algebraic_PQueryIdeal_PQueryRefIdeal (hPQueryIdeal := Cert.PQueryIdeal.Gen.facts) (hPQueryRefIdeal := Cert.PQueryRefIdeal.Gen.facts) := by
  intro m g m' g' _ hagree
  refine ⟨fun c => (Cert.PQueryIdeal.Gen.dats m 0 c).arrAt 3 _, fun c => (Cert.PQueryIdeal.Gen.dats m 0 c).arrAt 4 _, Cert.PQueryIdeal.Value.run_blocks m g, ?_⟩
  refine (θ_run Cert.PQueryRefIdeal.defs _ _).mono (fun r h c => ?_) (Cert.PQueryRefIdeal.Value.run (F := Ideal) m' g')
  obtain ⟨hv0, hv1, h0, h1, h2⟩ := h c
  refine ⟨hv0.trans ((Cert.PQueryRefIdeal.Read.val_main_v16_eq _ _ _ ).trans ?_), hv1.trans ((Cert.PQueryRefIdeal.Read.val_main_v17_eq _ _ ).trans ?_), h0, h1, h2⟩
  · rw [(hagree c).1, (hagree c).2.1, (hagree c).2.2]
    exact (Cert.PQueryIdeal.Result.final_query m c).symm
  · rw [(hagree c).1, (hagree c).2.1]
    exact (Cert.PQueryIdeal.Result.final_norm m c).symm

/-- The prompt's memory rows: kernel and reference end with equal results. -/
theorem values_MemKV : Cert.algebraic_MemKVIdeal_MemKVRefIdeal (hMemKVIdeal := Cert.MemKVIdeal.Gen.facts) (hMemKVRefIdeal := Cert.MemKVRefIdeal.Gen.facts) := by
  intro m g m' g' _ hagree
  refine ⟨fun c => (Cert.MemKVIdeal.Gen.dats m 0 c).arrAt 3 _, fun c => (Cert.MemKVIdeal.Gen.dats m 0 c).arrAt 4 _, Cert.MemKVIdeal.Value.run_blocks m g, ?_⟩
  refine (θ_run Cert.MemKVRefIdeal.defs _ _).mono (fun r h c => ?_) (Cert.MemKVRefIdeal.Value.run (F := Ideal) m' g')
  obtain ⟨hv0, hv1, h0, h1, h2⟩ := h c
  refine ⟨hv0.trans ((Cert.MemKVRefIdeal.Read.val_main_v17_eq _ _ _ ).trans ?_), hv1.trans ((Cert.MemKVRefIdeal.Read.val_main_v18_eq _ _ _ ).trans ?_), h0, h1, h2⟩
  · rw [(hagree c).1, (hagree c).2.1, (hagree c).2.2]
    exact (Cert.MemKVIdeal.Result.final_rows m c).symm
  · rw [(hagree c).1, (hagree c).2.1, (hagree c).2.2]
    exact (Cert.MemKVIdeal.Result.final_heads m c).symm

/-- The cross-attention of the sample tokens: kernel and reference end with equal results. -/
theorem values_AttnSample : Cert.algebraic_AttnSampleIdeal_AttnSampleRefIdeal (hAttnSampleIdeal := Cert.AttnSampleIdeal.Gen.facts) (hAttnSampleRefIdeal := Cert.AttnSampleRefIdeal.Gen.facts) := by
  intro m g m' g' _ hagree
  refine ⟨fun c => (Cert.AttnSampleIdeal.Gen.dats m 0 c).arrAt 3 _, Cert.AttnSampleIdeal.Value.run_blocks m g, ?_⟩
  refine (θ_run Cert.AttnSampleRefIdeal.defs _ _).mono (fun r h c => ?_) (Cert.AttnSampleRefIdeal.Value.run (F := Ideal) m' g')
  obtain ⟨hv0, h0, h1, h2⟩ := h c
  refine ⟨hv0.trans ((Cert.AttnSampleRefIdeal.Read.val_main_v22_eq _ _ _ ).trans ?_), h0, h1, h2⟩
  · rw [(hagree c).1, (hagree c).2.1, (hagree c).2.2]
    exact (Cert.AttnSampleIdeal.Result.final m c).symm

/-- The final norm of the prompt tokens: kernel and reference end with equal results. -/
theorem values_FinalPrompt : Cert.algebraic_FinalPromptIdeal_FinalPromptRefIdeal (hFinalPromptIdeal := Cert.FinalPromptIdeal.Gen.facts) (hFinalPromptRefIdeal := Cert.FinalPromptRefIdeal.Gen.facts) := by
  intro m g m' g' _ hagree
  refine ⟨fun c => (Cert.FinalPromptIdeal.Gen.dats m 0 c).arrAt 3 _, Cert.FinalPromptIdeal.Value.run_blocks m g, ?_⟩
  refine (θ_run Cert.FinalPromptRefIdeal.defs _ _).mono (fun r h c => ?_) (Cert.FinalPromptRefIdeal.Value.run (F := Ideal) m' g')
  obtain ⟨hv0, h0, h1, h2⟩ := h c
  refine ⟨hv0.trans ((Cert.FinalPromptRefIdeal.Read.val_main_v19_eq _ _ _ ).trans ?_), h0, h1, h2⟩
  · rw [(hagree c).1, (hagree c).2.1, (hagree c).2.2]
    exact (Cert.FinalPromptIdeal.Result.final m c).symm

/-- The final norm of the sample tokens: kernel and reference end with equal results. -/
theorem values_FinalSample : Cert.algebraic_FinalSampleIdeal_FinalSampleRefIdeal (hFinalSampleIdeal := Cert.FinalSampleIdeal.Gen.facts) (hFinalSampleRefIdeal := Cert.FinalSampleRefIdeal.Gen.facts) := by
  intro m g m' g' _ hagree
  refine ⟨fun c => (Cert.FinalSampleIdeal.Gen.dats m 0 c).arrAt 3 _, Cert.FinalSampleIdeal.Value.run_blocks m g, ?_⟩
  refine (θ_run Cert.FinalSampleRefIdeal.defs _ _).mono (fun r h c => ?_) (Cert.FinalSampleRefIdeal.Value.run (F := Ideal) m' g')
  obtain ⟨hv0, h0, h1, h2⟩ := h c
  refine ⟨hv0.trans ((Cert.FinalSampleRefIdeal.Read.val_main_v19_eq _ _ _ ).trans ?_), h0, h1, h2⟩
  · rw [(hagree c).1, (hagree c).2.1, (hagree c).2.2]
    exact (Cert.FinalSampleIdeal.Result.final m c).symm

/-- The spatial gating mixer of the prompt: kernel and reference end with equal results. -/
theorem values_Sgu : Cert.algebraic_SguIdeal_SguRefIdeal (hSguIdeal := Cert.SguIdeal.Gen.facts) (hSguRefIdeal := Cert.SguRefIdeal.Gen.facts) := by
  intro m g m' g' _ hagree
  refine ⟨fun c => (Cert.SguIdeal.Gen.dats m 0 c).arrAt 5 _, fun c => (Cert.SguIdeal.Gen.dats m 0 c).arrAt 6 _, Cert.SguIdeal.Value.run_blocks m g, ?_⟩
  refine (θ_run Cert.SguRefIdeal.defs _ _).mono (fun r h c => ?_) (Cert.SguRefIdeal.Value.run (F := Ideal) m' g')
  obtain ⟨hv0, hv1, h0, h1, h2, h3⟩ := h c
  refine ⟨hv0.trans ?_, hv1.trans ?_, h0, h1, h2, h3⟩
  · refine (Cert.SguRefIdeal.Read.val_main_v49_eq _ _ ).trans ?_
    rw [(hagree c).1, (hagree c).2.1, (hagree c).2.2.1, (hagree c).2.2.2]
    exact (Cert.SguIdeal.Result.final_mix m c).symm
  · refine (Cert.SguRefIdeal.Read.val_main_v50_eq _ _ ).trans ?_
    rw [(hagree c).1, (hagree c).2.2.2]
    exact (Cert.SguIdeal.Result.final_cache m c).symm

/-- The mixers of the sample tokens: kernel and reference end with equal results. -/
theorem values_SMix : Cert.algebraic_SMixIdeal_SMixRefIdeal (hSMixIdeal := Cert.SMixIdeal.Gen.facts) (hSMixRefIdeal := Cert.SMixRefIdeal.Gen.facts) := by
  intro m g m' g' _ hagree
  refine ⟨fun c => (Cert.SMixIdeal.Gen.dats m 0 c).arrAt 9 _, fun c => (Cert.SMixIdeal.Gen.dats m 0 c).arrAt 10 _, fun c => (Cert.SMixIdeal.Gen.dats m 0 c).arrAt 11 _, Cert.SMixIdeal.Value.run_blocks m g, ?_⟩
  refine (θ_run Cert.SMixRefIdeal.defs _ _).mono (fun r h c => ?_) (Cert.SMixRefIdeal.Value.run (F := Ideal) m' g')
  obtain ⟨hv0, hv1, hv2, h0, h1, h2, h3, h4, h5, h6, h7, h8⟩ := h c
  refine ⟨hv0.trans ?_, hv1.trans ?_, hv2.trans ?_, h0, h1, h2, h3, h4, h5, h6, h7, h8⟩
  · refine (Cert.SMixRefIdeal.Read.val_main_v95_eq _ _ ).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact (Cert.SMixIdeal.Result.final_mix m c).symm
  · refine (Cert.SMixRefIdeal.Read.val_main_v96_eq _ _ ).trans ?_
    rw [(hagree c).1, (hagree c).2.2.2.2.2.2.2.1]
    exact (Cert.SMixIdeal.Result.final_value m c).symm
  · refine (Cert.SMixRefIdeal.Read.val_main_v74_eq _ _ ).trans ?_
    rw [(hagree c).1, (hagree c).2.1, (hagree c).2.2.1, (hagree c).2.2.2.1, (hagree c).2.2.2.2.1]
    exact (Cert.SMixIdeal.Result.final_state m c).symm

/-- The states the prompts end with: kernel and reference end with equal results. -/
theorem values_Gla : Cert.algebraic_GlaIdeal_GlaRefIdeal (hGlaIdeal := Cert.GlaIdeal.Gen.facts) (hGlaRefIdeal := Cert.GlaRefIdeal.Gen.facts) := by
  intro m g m' g' _ hagree
  refine ⟨fun c => (Cert.GlaIdeal.Gen.dats m 0 c).arrAt 9 _, (θ_run Cert.GlaIdeal.defs _ _).mono (fun r h c => (h c).2) (Cert.GlaIdeal.Value.run_blocks m g), ?_⟩
  refine (θ_run Cert.GlaRefIdeal.defs _ _).mono (fun r h c => ?_) (Cert.GlaRefIdeal.Value.run (F := Ideal) m' g')
  obtain ⟨hv, h0, h1, h2, h3, h4⟩ := h c
  refine ⟨hv.trans ((Cert.GlaRefIdeal.Result.result_eq m' c).trans ?_), h0, h1, h2, h3, h4⟩
  rw [(hagree c).1, (hagree c).2.1, (hagree c).2.2.1, (hagree c).2.2.2.1]
  exact (Cert.GlaIdeal.Result.final_state m c).symm

theorem claim : Cert.Claim :=
  ⟨Cert.Kernel.Gen.facts, Cert.KernelIdeal.Gen.facts, Cert.ReferenceIdeal.Gen.facts, Cert.InProj.Gen.facts,
  Cert.InProjIdeal.Gen.facts, Cert.InProjRefIdeal.Gen.facts, Cert.OutProj.Gen.facts, Cert.OutProjIdeal.Gen.facts,
  Cert.OutProjRefIdeal.Gen.facts, Cert.XOut.Gen.facts, Cert.XOutIdeal.Gen.facts, Cert.XOutRefIdeal.Gen.facts,
  Cert.XQuery.Gen.facts, Cert.XQueryIdeal.Gen.facts, Cert.XQueryRefIdeal.Gen.facts, Cert.PQuery.Gen.facts,
  Cert.PQueryIdeal.Gen.facts, Cert.PQueryRefIdeal.Gen.facts, Cert.MemKV.Gen.facts, Cert.MemKVIdeal.Gen.facts,
  Cert.MemKVRefIdeal.Gen.facts, Cert.AttnSample.Gen.facts, Cert.AttnSampleIdeal.Gen.facts,
  Cert.AttnSampleRefIdeal.Gen.facts, Cert.FinalPrompt.Gen.facts, Cert.FinalPromptIdeal.Gen.facts,
  Cert.FinalPromptRefIdeal.Gen.facts, Cert.FinalSample.Gen.facts, Cert.FinalSampleIdeal.Gen.facts,
  Cert.FinalSampleRefIdeal.Gen.facts, Cert.Sgu.Gen.facts, Cert.SguIdeal.Gen.facts, Cert.SguRefIdeal.Gen.facts,
  Cert.SMix.Gen.facts, Cert.SMixIdeal.Gen.facts, Cert.SMixRefIdeal.Gen.facts, Cert.Gla.Gen.facts,
  Cert.GlaIdeal.Gen.facts, Cert.GlaRefIdeal.Gen.facts, fun m g _ => Cert.Kernel.Gen.frame m g,
  fun m g _ => Cert.KernelIdeal.Gen.frame m g, frame_ReferenceIdeal, fun m g _ => Cert.InProj.Gen.frame m g,
  fun m g _ => Cert.InProjIdeal.Gen.frame m g, frame_InProjRefIdeal, fun m g _ => Cert.OutProj.Gen.frame m g,
  fun m g _ => Cert.OutProjIdeal.Gen.frame m g, frame_OutProjRefIdeal, fun m g _ => Cert.XOut.Gen.frame m g,
  fun m g _ => Cert.XOutIdeal.Gen.frame m g, frame_XOutRefIdeal, fun m g _ => Cert.XQuery.Gen.frame m g,
  fun m g _ => Cert.XQueryIdeal.Gen.frame m g, frame_XQueryRefIdeal, fun m g _ => Cert.PQuery.Gen.frame m g,
  fun m g _ => Cert.PQueryIdeal.Gen.frame m g, frame_PQueryRefIdeal, fun m g _ => Cert.MemKV.Gen.frame m g,
  fun m g _ => Cert.MemKVIdeal.Gen.frame m g, frame_MemKVRefIdeal, fun m g _ => Cert.AttnSample.Gen.frame m g,
  fun m g _ => Cert.AttnSampleIdeal.Gen.frame m g, frame_AttnSampleRefIdeal,
  fun m g _ => Cert.FinalPrompt.Gen.frame m g, fun m g _ => Cert.FinalPromptIdeal.Gen.frame m g,
  frame_FinalPromptRefIdeal, fun m g _ => Cert.FinalSample.Gen.frame m g,
  fun m g _ => Cert.FinalSampleIdeal.Gen.frame m g, frame_FinalSampleRefIdeal, fun m g _ => Cert.Sgu.Gen.frame m g,
  fun m g _ => Cert.SguIdeal.Gen.frame m g, frame_SguRefIdeal, fun m g _ => Cert.SMix.Gen.frame m g,
  fun m g _ => Cert.SMixIdeal.Gen.frame m g, frame_SMixRefIdeal, fun m g _ => Cert.Gla.Gen.frame m g,
  fun m g _ => Cert.GlaIdeal.Gen.frame m g, frame_GlaRefIdeal, trivial, values_Kernel, trivial, values_InProj,
  trivial, values_OutProj, trivial, values_XOut, trivial, values_XQuery, trivial, values_PQuery, trivial,
  values_MemKV, trivial, values_AttnSample, trivial, values_FinalPrompt, trivial, values_FinalSample,
  ⟨IdealRules.named_const.statement Cert.SguIdeal.κ "gelu_cub" .f32 0xBDD2D3E8#32 ((-(((Real.log 2)⁻¹ * (6693141 / 4194304)) * (12003091 / 268435456)) : ℝ) : EReal) rfl, IdealRules.named_const.statement Cert.SguIdeal.κ "gelu_lin" .f32 0xC0135761#32 ((-((Real.log 2)⁻¹ * (6693141 / 4194304)) : ℝ) : EReal) rfl⟩,
  values_Sgu,
  ⟨IdealRules.named_const.statement Cert.SMixIdeal.κ "gelu_cub" .f32 0xBDD2D3E8#32 ((-(((Real.log 2)⁻¹ * (6693141 / 4194304)) * (12003091 / 268435456)) : ℝ) : EReal) rfl, IdealRules.named_const.statement Cert.SMixIdeal.κ "gelu_lin" .f32 0xC0135761#32 ((-((Real.log 2)⁻¹ * (6693141 / 4194304)) : ℝ) : EReal) rfl⟩,
  values_SMix, trivial, values_Gla⟩

end Cert.Proof

end
